-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S2x128x512 1 × IVec S512x256 1 × IVec S2x128x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x4x64 .f32 := Host.absf main_arg2
  let main_cst_1 : FVec F S_ .f32 := constant S_ .f32 0x7F800000#32
  let main_v7 : FVec F S2x128x4x64 .f32 := broadcastInDim S2x128x4x64 ![] bcast_S_S2x128x4x64 main_cst_1
  let main_v8 : IVec S2x128x4x64 1 := cmpf .olt main_v6 main_v7
  (main_v2, main_v5, main_v8)
-- ==== Pre_finite_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  bcast_S_S512x256 : S_.BroadcastsInDim S512x256 (![] : Fin 0 → Fin S512x256.rank)
  bcast_S_S2x1024x4x64 : S_.BroadcastsInDim S2x1024x4x64 (![] : Fin 0 → Fin S2x1024x4x64.rank)

variable [Facts]

def fn {F : FTy → Type} [FloatOps F] (main_arg0 : FVec F S2x1024x512 .f32) (main_arg1 : FVec F S512x256 .f32) (main_arg2 : FVec F S2x1024x4x64 .f32) (main_arg3 : FVec F S2x1024x4x64 .f32) (main_arg4 : FVec F S256x512 .f32) : IVec S2x1024x512 1 × IVec S512x256 1 × IVec S2x1024x4x64 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x1024x4x64 .f32 := Host.absf main_arg2
  let main_cst_1 : FVec F S_ .f32 := constant S_ .f32 0x7F800000#32
  let main_v7 : FVec F S2x1024x4x64 .f32 := broadcastInDim S2x1024x4x64 ![] bcast_S_S2x1024x4x64 main_cst_1
  let main_v8 : IVec S2x1024x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S4x2x4x128x64 : Shape := ⟨5, ![4, 2, 4, 128, 64]⟩
abbrev S2x4x128x64 : Shape := ⟨4, ![2, 4, 128, 64]⟩
abbrev S4x2 : Shape := ⟨2, ![4, 2]⟩
abbrev S_ : Shape := ⟨0, ![]⟩
abbrev S1x1 : Shape := ⟨2, ![1, 1]⟩
abbrev S1x2x4x128x64 : Shape := ⟨5, ![1, 2, 4, 128, 64]⟩
abbrev S1x128x512 : Shape := ⟨3, ![1, 128, 512]⟩
abbrev S128x512 : Shape := ⟨2, ![128, 512]⟩
abbrev S128x256 : Shape := ⟨2, ![128, 256]⟩
abbrev S64x64 : Shape := ⟨2, ![64, 64]⟩
abbrev S1x1x64x64 : Shape := ⟨4, ![1, 1, 64, 64]⟩
abbrev S64 : Shape := ⟨1, ![64]⟩
abbrev S64x1 : Shape := ⟨2, ![64, 1]⟩
abbrev S128x64 : Shape := ⟨2, ![128, 64]⟩
abbrev S64x128 : Shape := ⟨2, ![64, 128]⟩
abbrev S64x256 : Shape := ⟨2, ![64, 256]⟩
abbrev S256x256 : Shape := ⟨2, ![256, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S4x2x4x128x64, .bf16⟩
  | .local _ .vmem, ⟨7, _⟩ => ⟨S4x2x4x128x64, .bf16⟩
  | .local _ .vmem, ⟨8, _⟩ => ⟨S2x4x128x64, .bf16⟩
  | .local _ .vmem, ⟨9, _⟩ => ⟨S2x4x128x64, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c0_i32_6 : BitVec 32 := 0#32
  let v22 : BitVec 1 := Scalar.cmpi .ne v20 c0_i32_6
  let v23 : BitVec 32 := Scalar.extui v22
  let c0_i32_7 : BitVec 32 := 0#32
  let v24 : BitVec 1 := Scalar.cmpi .ne v23 c0_i32_7
  v24

def k0_dev1 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c0_i32_143 : BitVec 32 := 0#32
  let v382 : BitVec 32 := Scalar.addi v3 c0_i32_143
  let c1_i32_145 : BitVec 32 := 1#32
  let v383 : BitVec 32 := Scalar.muli v382 c1_i32_145
  let v384 : BitVec 32 := Scalar.addi c0_i32_146 v383
  v384.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c1_i32_8 : BitVec 32 := 1#32
  let v25 : BitVec 1 := Scalar.cmpi .ne v20 c1_i32_8
  let v26 : BitVec 32 := Scalar.extui v25
  let c0_i32_9 : BitVec 32 := 0#32
  let v27 : BitVec 1 := Scalar.cmpi .ne v26 c0_i32_9
  v27

def k0_dev2 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_143 : BitVec 32 := 2#32
  let v382 : BitVec 32 := Scalar.addi v3 c2_i32_143
  let c1_i32_145 : BitVec 32 := 1#32
  let v383 : BitVec 32 := Scalar.muli v382 c1_i32_145
  let v384 : BitVec 32 := Scalar.addi c0_i32_146 v383
  v384.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c2_i32_10 : BitVec 32 := 2#32
  let v28 : BitVec 1 := Scalar.cmpi .ne v20 c2_i32_10
  let v29 : BitVec 32 := Scalar.extui v28
  let c0_i32_11 : BitVec 32 := 0#32
  let v30 : BitVec 1 := Scalar.cmpi .ne v29 c0_i32_11
  v30

def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c4_i32 : BitVec 32 := 4#32
  let v382 : BitVec 32 := Scalar.addi v3 c4_i32
  let c1_i32_144 : BitVec 32 := 1#32
  let v383 : BitVec 32 := Scalar.muli v382 c1_i32_144
  let v384 : BitVec 32 := Scalar.addi c0_i32_145 v383
  v384.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c3_i32 : BitVec 32 := 3#32
  let v31 : BitVec 1 := Scalar.cmpi .ne v20 c3_i32
  let v32 : BitVec 32 := Scalar.extui v31
  let c0_i32_12 : BitVec 32 := 0#32
  let v33 : BitVec 1 := Scalar.cmpi .ne v32 c0_i32_12
  v33

def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c6_i32 : BitVec 32 := 6#32
  let v382 : BitVec 32 := Scalar.addi v3 c6_i32
  let c1_i32_144 : BitVec 32 := 1#32
  let v383 : BitVec 32 := Scalar.muli v382 c1_i32_144
  let v384 : BitVec 32 := Scalar.addi c0_i32_145 v383
  v384.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c0_i32_21 : BitVec 32 := 0#32
  let v41 : BitVec 1 := Scalar.cmpi .eq v20 c0_i32_21
  let v42 : BitVec 32 := Scalar.extui v41
  let c0_i32_22 : BitVec 32 := 0#32
  let v43 : BitVec 1 := Scalar.cmpi .ne v42 c0_i32_22
  v43

def k0_dev5 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c4_i32 : BitVec 32 := 4#32
  let v382 : BitVec 32 := Scalar.addi v3 c4_i32
  let c1_i32_148 : BitVec 32 := 1#32
  let v383 : BitVec 32 := Scalar.muli v382 c1_i32_148
  let v384 : BitVec 32 := Scalar.addi c0_i32_149 v383
  v384.toNat
def k0_dev6 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_154 : BitVec 32 := 2#32
  let v391 : BitVec 32 := Scalar.addi v3 c2_i32_154
  let c1_i32_160 : BitVec 32 := 1#32
  let v392 : BitVec 32 := Scalar.muli v391 c1_i32_160
  let v393 : BitVec 32 := Scalar.addi c0_i32_161 v392
  v393.toNat
def k0_dev7 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c6_i32 : BitVec 32 := 6#32
  let v400 : BitVec 32 := Scalar.addi v3 c6_i32
  let c1_i32_171 : BitVec 32 := 1#32
  let v401 : BitVec 32 := Scalar.muli v400 c1_i32_171
  let v402 : BitVec 32 := Scalar.addi c0_i32_172 v401
  v402.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c1_i32_23 : BitVec 32 := 1#32
  let v44 : BitVec 1 := Scalar.cmpi .eq v20 c1_i32_23
  let v45 : BitVec 32 := Scalar.extui v44
  let c0_i32_24 : BitVec 32 := 0#32
  let v46 : BitVec 1 := Scalar.cmpi .ne v45 c0_i32_24
  v46

def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c6_i32 : BitVec 32 := 6#32
  let v382 : BitVec 32 := Scalar.addi v3 c6_i32
  let c1_i32_148 : BitVec 32 := 1#32
  let v383 : BitVec 32 := Scalar.muli v382 c1_i32_148
  let v384 : BitVec 32 := Scalar.addi c0_i32_149 v383
  v384.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c0_i32_154 : BitVec 32 := 0#32
  let v391 : BitVec 32 := Scalar.addi v3 c0_i32_154
  let c1_i32_160 : BitVec 32 := 1#32
  let v392 : BitVec 32 := Scalar.muli v391 c1_i32_160
  let v393 : BitVec 32 := Scalar.addi c0_i32_161 v392
  v393.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c4_i32 : BitVec 32 := 4#32
  let v400 : BitVec 32 := Scalar.addi v3 c4_i32
  let c1_i32_171 : BitVec 32 := 1#32
  let v401 : BitVec 32 := Scalar.muli v400 c1_i32_171
  let v402 : BitVec 32 := Scalar.addi c0_i32_172 v401
  v402.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c2_i32_25 : BitVec 32 := 2#32
  let v47 : BitVec 1 := Scalar.cmpi .eq v20 c2_i32_25
  let v48 : BitVec 32 := Scalar.extui v47
  let c0_i32_26 : BitVec 32 := 0#32
  let v49 : BitVec 1 := Scalar.cmpi .ne v48 c0_i32_26
  v49

def k0_dev11 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c0_i32_143 : BitVec 32 := 0#32
  let v382 : BitVec 32 := Scalar.addi v3 c0_i32_143
  let c1_i32_149 : BitVec 32 := 1#32
  let v383 : BitVec 32 := Scalar.muli v382 c1_i32_149
  let v384 : BitVec 32 := Scalar.addi c0_i32_150 v383
  v384.toNat
def k0_dev12 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c6_i32 : BitVec 32 := 6#32
  let v391 : BitVec 32 := Scalar.addi v3 c6_i32
  let c1_i32_160 : BitVec 32 := 1#32
  let v392 : BitVec 32 := Scalar.muli v391 c1_i32_160
  let v393 : BitVec 32 := Scalar.addi c0_i32_161 v392
  v393.toNat
def k0_dev13 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_166 : BitVec 32 := 2#32
  let v400 : BitVec 32 := Scalar.addi v3 c2_i32_166
  let c1_i32_172 : BitVec 32 := 1#32
  let v401 : BitVec 32 := Scalar.muli v400 c1_i32_172
  let v402 : BitVec 32 := Scalar.addi c0_i32_173 v401
  v402.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c3_i32_27 : BitVec 32 := 3#32
  let v50 : BitVec 1 := Scalar.cmpi .eq v20 c3_i32_27
  let v51 : BitVec 32 := Scalar.extui v50
  let c0_i32_28 : BitVec 32 := 0#32
  let v52 : BitVec 1 := Scalar.cmpi .ne v51 c0_i32_28
  v52

def k0_dev14 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_143 : BitVec 32 := 2#32
  let v382 : BitVec 32 := Scalar.addi v3 c2_i32_143
  let c1_i32_149 : BitVec 32 := 1#32
  let v383 : BitVec 32 := Scalar.muli v382 c1_i32_149
  let v384 : BitVec 32 := Scalar.addi c0_i32_150 v383
  v384.toNat
def k0_dev15 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c4_i32 : BitVec 32 := 4#32
  let v391 : BitVec 32 := Scalar.addi v3 c4_i32
  let c1_i32_160 : BitVec 32 := 1#32
  let v392 : BitVec 32 := Scalar.muli v391 c1_i32_160
  let v393 : BitVec 32 := Scalar.addi c0_i32_161 v392
  v393.toNat
def k0_dev16 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c0_i32_166 : BitVec 32 := 0#32
  let v400 : BitVec 32 := Scalar.addi v3 c0_i32_166
  let c1_i32_172 : BitVec 32 := 1#32
  let v401 : BitVec 32 := Scalar.muli v400 c1_i32_172
  let v402 : BitVec 32 := Scalar.addi c0_i32_173 v401
  v402.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c0_i32_37 : BitVec 32 := 0#32
  let v60 : BitVec 1 := Scalar.cmpi .eq v20 c0_i32_37
  let v61 : BitVec 32 := Scalar.extui v60
  let c0_i32_38 : BitVec 32 := 0#32
  let v62 : BitVec 1 := Scalar.cmpi .ne v61 c0_i32_38
  v62

def k0_dev17 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c4_i32 : BitVec 32 := 4#32
  let v382 : BitVec 32 := Scalar.addi v3 c4_i32
  let c1_i32_148 : BitVec 32 := 1#32
  let v383 : BitVec 32 := Scalar.muli v382 c1_i32_148
  let v384 : BitVec 32 := Scalar.addi c0_i32_149 v383
  v384.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_154 : BitVec 32 := 2#32
  let v391 : BitVec 32 := Scalar.addi v3 c2_i32_154
  let c1_i32_160 : BitVec 32 := 1#32
  let v392 : BitVec 32 := Scalar.muli v391 c1_i32_160
  let v393 : BitVec 32 := Scalar.addi c0_i32_161 v392
  v393.toNat
def k0_dev19 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c6_i32 : BitVec 32 := 6#32
  let v400 : BitVec 32 := Scalar.addi v3 c6_i32
  let c1_i32_171 : BitVec 32 := 1#32
  let v401 : BitVec 32 := Scalar.muli v400 c1_i32_171
  let v402 : BitVec 32 := Scalar.addi c0_i32_172 v401
  v402.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c1_i32_39 : BitVec 32 := 1#32
  let v63 : BitVec 1 := Scalar.cmpi .eq v20 c1_i32_39
  let v64 : BitVec 32 := Scalar.extui v63
  let c0_i32_40 : BitVec 32 := 0#32
  let v65 : BitVec 1 := Scalar.cmpi .ne v64 c0_i32_40
  v65

def k0_dev20 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c6_i32 : BitVec 32 := 6#32
  let v382 : BitVec 32 := Scalar.addi v3 c6_i32
  let c1_i32_148 : BitVec 32 := 1#32
  let v383 : BitVec 32 := Scalar.muli v382 c1_i32_148
  let v384 : BitVec 32 := Scalar.addi c0_i32_149 v383
  v384.toNat
def k0_dev21 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c0_i32_154 : BitVec 32 := 0#32
  let v391 : BitVec 32 := Scalar.addi v3 c0_i32_154
  let c1_i32_160 : BitVec 32 := 1#32
  let v392 : BitVec 32 := Scalar.muli v391 c1_i32_160
  let v393 : BitVec 32 := Scalar.addi c0_i32_161 v392
  v393.toNat
def k0_dev22 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c4_i32 : BitVec 32 := 4#32
  let v400 : BitVec 32 := Scalar.addi v3 c4_i32
  let c1_i32_171 : BitVec 32 := 1#32
  let v401 : BitVec 32 := Scalar.muli v400 c1_i32_171
  let v402 : BitVec 32 := Scalar.addi c0_i32_172 v401
  v402.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c2_i32_41 : BitVec 32 := 2#32
  let v66 : BitVec 1 := Scalar.cmpi .eq v20 c2_i32_41
  let v67 : BitVec 32 := Scalar.extui v66
  let c0_i32_42 : BitVec 32 := 0#32
  let v68 : BitVec 1 := Scalar.cmpi .ne v67 c0_i32_42
  v68

def k0_dev23 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c0_i32_143 : BitVec 32 := 0#32
  let v382 : BitVec 32 := Scalar.addi v3 c0_i32_143
  let c1_i32_149 : BitVec 32 := 1#32
  let v383 : BitVec 32 := Scalar.muli v382 c1_i32_149
  let v384 : BitVec 32 := Scalar.addi c0_i32_150 v383
  v384.toNat
def k0_dev24 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c6_i32 : BitVec 32 := 6#32
  let v391 : BitVec 32 := Scalar.addi v3 c6_i32
  let c1_i32_160 : BitVec 32 := 1#32
  let v392 : BitVec 32 := Scalar.muli v391 c1_i32_160
  let v393 : BitVec 32 := Scalar.addi c0_i32_161 v392
  v393.toNat
def k0_dev25 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_166 : BitVec 32 := 2#32
  let v400 : BitVec 32 := Scalar.addi v3 c2_i32_166
  let c1_i32_172 : BitVec 32 := 1#32
  let v401 : BitVec 32 := Scalar.muli v400 c1_i32_172
  let v402 : BitVec 32 := Scalar.addi c0_i32_173 v401
  v402.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let c3_i32_43 : BitVec 32 := 3#32
  let v69 : BitVec 1 := Scalar.cmpi .eq v20 c3_i32_43
  let v70 : BitVec 32 := Scalar.extui v69
  let c0_i32_44 : BitVec 32 := 0#32
  let v71 : BitVec 1 := Scalar.cmpi .ne v70 c0_i32_44
  v71

def k0_dev26 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_143 : BitVec 32 := 2#32
  let v382 : BitVec 32 := Scalar.addi v3 c2_i32_143
  let c1_i32_149 : BitVec 32 := 1#32
  let v383 : BitVec 32 := Scalar.muli v382 c1_i32_149
  let v384 : BitVec 32 := Scalar.addi c0_i32_150 v383
  v384.toNat
def k0_dev27 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c4_i32 : BitVec 32 := 4#32
  let v391 : BitVec 32 := Scalar.addi v3 c4_i32
  let c1_i32_160 : BitVec 32 := 1#32
  let v392 : BitVec 32 := Scalar.muli v391 c1_i32_160
  let v393 : BitVec 32 := Scalar.addi c0_i32_161 v392
  v393.toNat
def k0_dev28 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c0_i32_166 : BitVec 32 := 0#32
  let v400 : BitVec 32 := Scalar.addi v3 c0_i32_166
  let c1_i32_172 : BitVec 32 := 1#32
  let v401 : BitVec 32 := Scalar.muli v400 c1_i32_172
  let v402 : BitVec 32 := Scalar.addi c0_i32_173 v401
  v402.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 137
  | .vmem => 0
  | .smem => 0
  | _ => 0

abbrev hbmTy0_0 (i : Nat) : BufTy := match i % 128 with
  | 0 => ⟨S2x1024x512, .f32⟩
  | 1 => ⟨S512x256, .f32⟩
  | 2 => ⟨S2x1024x4x64, .f32⟩
  | 3 => ⟨S2x1024x4x64, .f32⟩
  | 4 => ⟨S256x512, .f32⟩
  | 5 => ⟨S2x1024x256, .f32⟩
  | 6 => ⟨S2x1024x4x64, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S2x4x1024x1024, .f32⟩
  | 99 => ⟨S_, .f32⟩
  | 100 => ⟨S2x4x1024x1024, .f32⟩
  | 101 => ⟨S2x4x1024x1024, .f32⟩
  | 102 => ⟨S1x1x1024x1024, .i1⟩
  | 103 => ⟨S_, .f32⟩
  | 104 => ⟨S_, .f32⟩
  | 105 => ⟨S2x4x1024x1024, .i1⟩
  | 106 => ⟨S2x4x1024x1024, .f32⟩
  | 107 => ⟨S2x4x1024x1024, .f32⟩
  | 108 => ⟨S_, .f32⟩
  | 109 => ⟨S2x4x1024, .f32⟩
  | 110 => ⟨S2x4x1024x1, .f32⟩
  | 111 => ⟨S2x4x1024x1024, .f32⟩
  | 112 => ⟨S2x4x1024x1024, .f32⟩
  | 113 => ⟨S2x4x1024x1024, .f32⟩
  | 114 => ⟨S_, .i1⟩
  | 115 => ⟨S1024, .i1⟩
  | 116 => ⟨S1x1x1024x1, .i1⟩
  | 117 => ⟨S_, .f32⟩
  | 118 => ⟨S2x4x1024, .f32⟩
  | 119 => ⟨S2x4x1024x1, .f32⟩
  | 120 => ⟨S_, .f32⟩
  | 121 => ⟨S_, .f32⟩
  | 122 => ⟨S2x4x1024x1, .i1⟩
  | 123 => ⟨S2x4x1024x1, .f32⟩
  | 124 => ⟨S2x4x1024x1, .f32⟩
  | 125 => ⟨S2x4x1024x1024, .f32⟩
  | 126 => ⟨S2x4x1024x1024, .f32⟩
  | 127 => ⟨S1x1x1024x1, .i1⟩
  | _ => ⟨S2x1024x512, .f32⟩

abbrev hbmTy0_1 (i : Nat) : BufTy := match i % 128 with
  | 0 => ⟨S_, .f32⟩
  | 1 => ⟨S_, .f32⟩
  | 2 => ⟨S2x4x1024x1024, .i1⟩
  | 3 => ⟨S2x4x1024x1024, .f32⟩
  | 4 => ⟨S2x4x1024x1024, .f32⟩
  | 5 => ⟨S2x4x64x1024, .f32⟩
  | 6 => ⟨S2x1024x4x64, .f32⟩
  | 7 => ⟨S2x1024x256, .f32⟩
  | 8 => ⟨S2x1024x512, .f32⟩
  | _ => ⟨S2x1024x512, .f32⟩

abbrev hbmTy (i : Nat) : BufTy := match i / 128 with
  | 0 => hbmTy0_0 i
  | 1 => hbmTy0_1 i
  | _ => ⟨S2x1024x512, .f32⟩

abbrev bufTy : (tb : Table) → Fin (tcTables nBuf tb) → BufTy
  | .hbm, ⟨i, _⟩ => hbmTy i
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Common.lean ====
/-
# The protocol: who signals, who copies, who waits, and what each landing hands over

Eight devices. Device `c` has the parity `c % 2` and the PLACE `c / 2`, one of four; the four devices of one parity
exchange their key and value blocks, the two parities never meet. `mate c s` is the device of `c`'s parity at place `s`.

Semaphores of device `c` (its place is `t`), all used for one round:

* the barrier semaphore (the runtime's, not scoped): each of the three mates of `c` adds one unit; `c` waits for three.
  The unit from the mate at place `u` carries that mate's two landing slots `t` (keys and values), which `c` fills;
* the receive semaphore `(s, ch)`, `s ≠ t`: the mate at place `s` copies its block onto slot `s` of `c`'s landing
  buffer `ch`; `c` waits for the block's credit and finds the slot holding exactly that mate's block;
* the send semaphore `(s, ch)`, `s ≠ t`: the copy from `c` to its mate at place `s` gives `c` back the share of its own
  block which the copy read;
* the semaphores `(t, ch)` are never used.

Order on each device: three signals, the barrier wait, six copies (keys to the three mates, then values), six receive
waits, six send waits. Barrier units are owed at level 1, landings at level 2: a device waiting at its barrier owes
landings only, and a device waiting for a landing owes nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's ghost state and the rounds', a duty named by a place -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory a run starts from: any contents, every counter zero, any generator registers. -/
def s₀ : MemSt nD τ sig (Elt F) := ⟨m, fun _ => 0, ρ⟩

abbrev 𝒱₀ : Variants := Variants.none

/-! ## Places and mates -/

set_option backward.proofsInPublic true in
/-- The place of a device among those of its parity. -/
def place (c : Dev nD) : Fin 4 := ⟨c.val / 2, by have := c.isLt; simp only [nD] at this; omega⟩
set_option backward.proofsInPublic true in
/-- The device of `c`'s parity at place `s`. -/
def mate (c : Dev nD) (s : Fin 4) : Dev nD := ⟨c.val % 2 + 2 * s.val, by have := s.isLt; simp only [nD]; omega⟩

theorem place_mate (c : Dev nD) (s : Fin 4) : place (mate c s) = s := by revert c s; decide
theorem mate_place (c : Dev nD) : mate c (place c) = c := by revert c; decide
theorem mate_mate (c : Dev nD) (s u : Fin 4) : mate (mate c s) u = mate c u := by revert c s u; decide
theorem mate_eq_iff (c d : Dev nD) (s : Fin 4) : mate c s = d ↔ (s = place d ∧ c = mate d (place c)) := by revert c d s; decide

/-! ## Semaphores and cells -/

abbrev barS : Sem sig := (SemArray.scalar (sig.barrier 0 rfl) : Sems sig S_).sem

/-- The send semaphore of the copy to place `s`, keys (`false`) or values (`true`). -/
def sendS (s : Fin 4) (ch : Bool) : DmaSem sig := (⟨6 + 2 * s.val + ch.toNat, by have := s.isLt; cases ch <;> simp only [Bool.toNat_true, Bool.toNat_false] <;> omega⟩ : Fin 22)
/-- The receive semaphore of the copy from place `s`. -/
def recvS (s : Fin 4) (ch : Bool) : DmaSem sig := (⟨14 + 2 * s.val + ch.toNat, by have := s.isLt; cases ch <;> simp only [Bool.toNat_true, Bool.toNat_false] <;> omega⟩ : Fin 22)

/-- The place and the channel a copy's semaphore serves, read back from its number. -/
def slotOf (q : DmaSem sig) : Fin 4 := ⟨((q : Fin 22).val - 6) / 2 % 4, Nat.mod_lt _ (by decide)⟩
def chOf (q : DmaSem sig) : Bool := (q : Fin 22).val % 2 == 1
def isCopy (q : DmaSem sig) : Bool := decide (6 ≤ (q : Fin 22).val)
def isRecv (q : DmaSem sig) : Bool := decide (14 ≤ (q : Fin 22).val)

theorem slotOf_send (s : Fin 4) (ch : Bool) : slotOf (sendS s ch) = s := by revert s ch; decide
theorem slotOf_recv (s : Fin 4) (ch : Bool) : slotOf (recvS s ch) = s := by revert s ch; decide
theorem chOf_send (s : Fin 4) (ch : Bool) : chOf (sendS s ch) = ch := by revert s ch; decide
theorem chOf_recv (s : Fin 4) (ch : Bool) : chOf (recvS s ch) = ch := by revert s ch; decide
theorem isCopy_send (s : Fin 4) (ch : Bool) : isCopy (sendS s ch) = true := by revert s ch; decide
theorem isCopy_recv (s : Fin 4) (ch : Bool) : isCopy (recvS s ch) = true := by revert s ch; decide
theorem isRecv_send (s : Fin 4) (ch : Bool) : isRecv (sendS s ch) = false := by revert s ch; decide
theorem isRecv_recv (s : Fin 4) (ch : Bool) : isRecv (recvS s ch) = true := by revert s ch; decide

abbrev barCell (c : Dev nD) : GSem nD τ sig := ((c : Thread nD τ), .reg barS)
abbrev sendCell (c : Dev nD) (s : Fin 4) (ch : Bool) : GSem nD τ sig := ((c : Thread nD τ), .dma (sendS s ch))
abbrev recvCell (c : Dev nD) (s : Fin 4) (ch : Bool) : GSem nD τ sig := ((c : Thread nD τ), .dma (recvS s ch))

/-! ## Buffers -/

/-- The landing buffers, four slots each: keys, values. -/
def bufM (ch : Bool) : Memref sig .tc .vmem S4x2x4x128x64 .bf16 :=
  match ch with
  | false => Memref.whole cc0_scratch0
  | true => Memref.whole cc0_scratch1
/-- The buffers a device sends from: its own keys, its own values. -/
def srcM (ch : Bool) : Memref sig .tc .vmem S2x4x128x64 .bf16 :=
  match ch with
  | false => Memref.whole cc0_scratch2
  | true => Memref.whole cc0_scratch3

theorem inb_slot (s : Fin 4) : ∀ a, (![s.val, 0, 0, 0, 0] : Fin 5 → Nat) a + S1x2x4x128x64.size a ≤ S4x2x4x128x64.size a := by
  revert s; decide
/-- Slot `s` of a landing buffer, as a rectangle of it. -/
abbrev slotR (s : Fin 4) : Rect S4x2x4x128x64 := Rect.unit (s := S4x2x4x128x64) ![s.val, 0, 0, 0, 0] S1x2x4x128x64.size (inb_slot s)
abbrev slotM (ch : Bool) (s : Fin 4) : Memref sig .tc .vmem S2x4x128x64 .bf16 :=
  ((bufM ch).slice (slotR s) (fun _ => rfl)).squeeze S2x4x128x64 squeezes_S1x2x4x128x64_S2x4x128x64

/-- The credit of one copied block. -/
abbrev N : ℕ := (slotM false 0).view.dmaCredit
theorem N_pos : 0 < N := View.dmaCredit_pos _ (by decide)
theorem credit_slot (ch : Bool) (s : Fin 4) : (slotM ch s).view.dmaCredit = N := by cases ch <;> rfl
theorem credit_src (ch : Bool) : (srcM ch).view.dmaCredit = N := by cases ch <;> rfl

/-! ## Contents -/

/-- Device `c`'s blocks of the five arrays, as staged: activations, query weights, keys, values, output weights. -/
def xIn (c : Dev nD) : (cc0_stg0_0 : Ref sig .tc).ty.Contents (Elt F) :=
  (win0_0.blk (0 : Fin 1)).view.read (Elt F) ((s₀ m ρ).mem ((c : Thread nD τ).loc main_arg0))
def wqIn (c : Dev nD) : (cc0_stg1_0 : Ref sig .tc).ty.Contents (Elt F) :=
  (win0_1.blk (0 : Fin 1)).view.read (Elt F) ((s₀ m ρ).mem ((c : Thread nD τ).loc main_arg1))
def kIn (c : Dev nD) : (cc0_stg2_0 : Ref sig .tc).ty.Contents (Elt F) :=
  (win0_2.blk (0 : Fin 1)).view.read (Elt F) ((s₀ m ρ).mem ((c : Thread nD τ).loc main_arg2))
def vIn (c : Dev nD) : (cc0_stg3_0 : Ref sig .tc).ty.Contents (Elt F) :=
  (win0_3.blk (0 : Fin 1)).view.read (Elt F) ((s₀ m ρ).mem ((c : Thread nD τ).loc main_arg3))
def woIn (c : Dev nD) : (cc0_stg4_0 : Ref sig .tc).ty.Contents (Elt F) :=
  (win0_4.blk (0 : Fin 1)).view.read (Elt F) ((s₀ m ρ).mem ((c : Thread nD τ).loc main_arg4))

/-- The block device `c` sends: its keys or its values, head-major, in the copies' format. -/
def sent (ch : Bool) (c : Dev nD) : Vec F S2x4x128x64 .bf16 :=
  match ch with
  | false => k0_pay714 (kIn m ρ c)
  | true => k0_pay716 (vIn m ρ c)

/-- The four quarters of a buffer's share: quarter `s` goes with the copy to place `s`. -/
def quarter (s : Fin 4) : PosShare TreeShare :=
  match s with
  | 0 => fullShare.left.left
  | 1 => fullShare.left.right
  | 2 => fullShare.right.left
  | 3 => fullShare.right.right

/-! ## The schedule -/

/-- Slot `s` of landing buffer `ch` of device `p`, its contents of no matter. -/
def freeSlot (p : Dev nD) (ch : Bool) (s : Fin 4) : sProp 𝕄 := iprop(∃ X, owns (p : Thread nD τ) (slotM ch s) fullShare X)
/-- What the mate at place `u` hands `c` at the barrier: its two slots for `c`'s blocks. -/
def barPay (c : Dev nD) (u : Fin 4) : sProp 𝕄 := iprop(freeSlot (mate c u) false (place c) ∗ freeSlot (mate c u) true (place c))
/-- What the copy from place `s` hands `c`: its slot `s` holding the block of the mate there. -/
def recvPay (c : Dev nD) (s : Fin 4) (ch : Bool) : sProp 𝕄 := owns (c : Thread nD τ) (slotM ch s) fullShare (sent m ρ ch (mate c s))
/-- What the copy to place `s` hands back to `c`: the share of its own block that it read. -/
def sendPay (c : Dev nD) (s : Fin 4) (ch : Bool) : sProp 𝕄 := owns (c : Thread nD τ) (srcM ch) (quarter s) (sent m ρ ch c)

/-- The duties of round 0 on a device at place `t`. -/
def dutiesAt (t : Fin 4) : SemLoc sig → Finset (Fin 4)
  | .reg q => if q = barS then Finset.univ.erase t else ∅
  | .dma q => if isCopy q = true ∧ slotOf q ≠ t then {0} else ∅

def amountAt : SemLoc sig → ℕ
  | .reg _ => 1
  | .dma _ => N

def payAt (c : Dev nD) : SemLoc sig → Fin 4 → sProp 𝕄
  | .reg _, u => barPay c u
  | .dma q, _ => if isRecv q = true then recvPay m ρ c (slotOf q) (chOf q) else sendPay m ρ c (slotOf q) (chOf q)

def sched : Rounds.Schedule (GSem nD τ sig) (Fin 4) 𝕄 where
  duties g r := if r = 0 ∧ g.1.2 = .tc then dutiesAt (place g.1.1) g.2 else ∅
  unitless _ := False
  amount g _ _ := amountAt g.2
  payload g _ d := payAt m ρ g.1.1 g.2 d
  amount_pos g _ _ _ := by
    rcases g with ⟨_, q | q⟩
    · exact Nat.one_pos
    · exact N_pos

instance sched_storable (g : GSem nD τ sig) (r : ℕ) (d : Fin 4) :
    BI.Storable (upEmb : UEmb _ 𝕄) ((sched (F := F) m ρ).payload g r d) := by
  show BI.Storable upEmb (payAt m ρ g.1.1 g.2 d)
  rcases g with ⟨⟨c, _⟩, q | q⟩
  · show BI.Storable upEmb (barPay c d)
    unfold barPay freeSlot
    infer_instance
  · show BI.Storable upEmb (if isRecv q = true then recvPay m ρ c (slotOf q) (chOf q) else sendPay m ρ c (slotOf q) (chOf q))
    unfold recvPay sendPay
    split <;> infer_instance

section Tables
variable (c : Dev nD)

theorem duties_tc (sm : SemLoc sig) : (sched (F := F) m ρ).duties ((c : Thread nD τ), sm) 0 = dutiesAt (place c) sm := by
  dsimp only [sched]; exact if_pos ⟨rfl, rfl⟩
theorem duties_bar : (sched (F := F) m ρ).duties (barCell c) 0 = Finset.univ.erase (place c) :=
  (duties_tc m ρ c _).trans (by dsimp only [dutiesAt]; exact if_pos rfl)
theorem duties_send {s : Fin 4} (ch : Bool) (h : s ≠ place c) : (sched (F := F) m ρ).duties (sendCell c s ch) 0 = {0} :=
  (duties_tc m ρ c _).trans (by dsimp only [dutiesAt]; exact if_pos ⟨isCopy_send s ch, by rw [slotOf_send]; exact h⟩)
theorem duties_recv {s : Fin 4} (ch : Bool) (h : s ≠ place c) : (sched (F := F) m ρ).duties (recvCell c s ch) 0 = {0} :=
  (duties_tc m ρ c _).trans (by dsimp only [dutiesAt]; exact if_pos ⟨isCopy_recv s ch, by rw [slotOf_recv]; exact h⟩)
theorem duties_later (g : GSem nD τ sig) : ∀ r, 1 ≤ r → (sched (F := F) m ρ).duties g r = ∅ :=
  fun r hr => by dsimp only [sched]; exact if_neg fun h => by omega
/-- A device's own place names no copy: nothing is ever due on those two pairs of semaphores. -/
theorem duties_home_send (ch : Bool) (r : ℕ) : (sched (F := F) m ρ).duties (sendCell c (place c) ch) r = ∅ := by
  rcases r with - | r
  · exact (duties_tc m ρ c _).trans (by dsimp only [dutiesAt]; exact if_neg fun h => h.2 (slotOf_send _ _))
  · exact duties_later m ρ _ _ (Nat.succ_le_succ (Nat.zero_le r))
theorem duties_home_recv (ch : Bool) (r : ℕ) : (sched (F := F) m ρ).duties (recvCell c (place c) ch) r = ∅ := by
  rcases r with - | r
  · exact (duties_tc m ρ c _).trans (by dsimp only [dutiesAt]; exact if_neg fun h => h.2 (slotOf_recv _ _))
  · exact duties_later m ρ _ _ (Nat.succ_le_succ (Nat.zero_le r))

theorem expect_bar : (sched (F := F) m ρ).expect (barCell c) 0 = 3 := by
  unfold Schedule.expect Schedule.amountOf
  rw [duties_bar]
  show ∑ _u ∈ Finset.univ.erase (place c), 1 = 3
  rw [Finset.sum_const, Finset.card_erase_of_mem (Finset.mem_univ _), Finset.card_univ, Fintype.card_fin]
  rfl
theorem expect_send {s : Fin 4} (ch : Bool) (h : s ≠ place c) : (sched (F := F) m ρ).expect (sendCell c s ch) 0 = N := by
  unfold Schedule.expect Schedule.amountOf; rw [duties_send m ρ c ch h, Finset.sum_singleton]; rfl
theorem expect_recv {s : Fin 4} (ch : Bool) (h : s ≠ place c) : (sched (F := F) m ρ).expect (recvCell c s ch) 0 = N := by
  unfold Schedule.expect Schedule.amountOf; rw [duties_recv m ρ c ch h, Finset.sum_singleton]; rfl

theorem payload_bar (u : Fin 4) : (sched (F := F) m ρ).payload (barCell c) 0 u = barPay c u := rfl
theorem payload_send (s : Fin 4) (ch : Bool) : (sched (F := F) m ρ).payload (sendCell c s ch) 0 0 = sendPay m ρ c s ch := by
  show (if isRecv (sendS s ch) = true then recvPay m ρ c (slotOf (sendS s ch)) (chOf (sendS s ch)) else sendPay m ρ c (slotOf (sendS s ch)) (chOf (sendS s ch))) = _
  rw [isRecv_send, slotOf_send, chOf_send]; rfl
theorem payload_recv (s : Fin 4) (ch : Bool) : (sched (F := F) m ρ).payload (recvCell c s ch) 0 0 = recvPay m ρ c s ch := by
  show (if isRecv (recvS s ch) = true then recvPay m ρ c (slotOf (recvS s ch)) (chOf (recvS s ch)) else sendPay m ρ c (slotOf (recvS s ch)) (chOf (recvS s ch))) = _
  rw [isRecv_recv, slotOf_recv, chOf_recv]; rfl

/-- What the whole of a round hands over, no duty taken before. -/
theorem rest_bar : bigSep ((sched (F := F) m ρ).duties (barCell c) 0 \ ∅) (fun d => (sched (F := F) m ρ).payload (barCell c) 0 d)
    = bigSep (Finset.univ.erase (place c)) (fun u => barPay (F := F) c u) := by
  rw [Finset.sdiff_empty, duties_bar]; rfl
theorem rest_send {s : Fin 4} (ch : Bool) (h : s ≠ place c) :
    bigSep ((sched (F := F) m ρ).duties (sendCell c s ch) 0 \ ∅) (fun d => (sched (F := F) m ρ).payload (sendCell c s ch) 0 d) = sendPay m ρ c s ch := by
  rw [Finset.sdiff_empty, duties_send m ρ c ch h, bigSep_singleton, payload_send]
theorem rest_recv {s : Fin 4} (ch : Bool) (h : s ≠ place c) :
    bigSep ((sched (F := F) m ρ).duties (recvCell c s ch) 0 \ ∅) (fun d => (sched (F := F) m ρ).payload (recvCell c s ch) 0 d) = recvPay m ρ c s ch := by
  rw [Finset.sdiff_empty, duties_recv m ρ c ch h, bigSep_singleton, payload_recv]

end Tables

/-! ## What a device owes, and the levels -/

/-- What `c` owes its mate at place `u`: one barrier unit; the landing of a block. -/
def owedBar (c : Dev nD) (u : Fin 4) : CellTallies nD τ sig Unit := tallyAt (barCell (mate c u)) () 1
def owedRecv (c : Dev nD) (u : Fin 4) (ch : Bool) : CellTallies nD τ sig Unit := tallyAt (recvCell (mate c u) (place c) ch) () N

/-- At launch: to each of its three mates the barrier unit and the two landings. -/
def O₀ (c : Dev nD) : CellTallies nD τ sig Unit :=
  ∑ u ∈ Finset.univ.erase (place c), (owedBar c u + (owedRecv c u false + owedRecv c u true))

/-- The device's core answers for every cell of its own. -/
def L (g : GSem nD τ sig) : Finset Unit := if g.1.2 = .tc then {()} else ∅
/-- Barrier cells at level 1, receive cells at 2, everything else (staging, send) at 0. -/
def lv (g : GSem nD τ sig) (_ : Unit) : ℕ :=
  match g.2 with
  | .reg _ => 1
  | .dma q => if isRecv q = true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 4) (ch : Bool) : lv (recvCell c s ch) () = 2 := if_pos (isRecv_recv s ch)

theorem tally_pos {g₀ g : GSem nD τ sig} {k : ℕ} {u : Unit} (h : 0 < (tallyAt g₀ () k : CellTallies nD τ sig Unit) g u) : g = g₀ := by
  rw [tallyAt_apply] at h
  by_contra hn
  rw [if_neg (fun h' => hn h'.1)] at h
  exact Nat.lt_irrefl 0 h

theorem sum_pos_of {ι : Type} (s : Finset ι) (f : ι → CellTallies nD τ sig Unit) {g : GSem nD τ sig} {u : Unit}
    (h : 0 < (∑ i ∈ s, f i) g u) : ∃ i ∈ s, 0 < f i g u := by
  rw [Finset.sum_apply, Finsupp.finset_sum_apply] at h
  by_contra hn
  exact absurd h (by
    rw [Finset.sum_eq_zero fun i hi => Nat.eq_zero_of_not_pos fun hp => hn ⟨i, hi, hp⟩]
    exact Nat.lt_irrefl 0)

theorem add_pos_of {a b : CellTallies nD τ sig Unit} {g : GSem nD τ sig} {u : Unit} (h : 0 < (a + b) g u) : 0 < a g u ∨ 0 < b g u := by
  rw [Pi.add_apply, Finsupp.add_apply] at h
  omega

theorem O₀_pos {c : Dev nD} {g : GSem nD τ sig} {u : Unit} (h : 0 < O₀ c g u) : ∃ p, g = barCell p ∨ ∃ s ch, g = recvCell p s ch := by
  obtain ⟨i, -, hi⟩ := sum_pos_of _ _ h
  rcases add_pos_of hi with hi | hi
  · exact ⟨_, .inl (tally_pos hi)⟩
  · rcases add_pos_of hi with hi | hi
    · exact ⟨_, .inr ⟨_, _, tally_pos hi⟩⟩
    · exact ⟨_, .inr ⟨_, _, tally_pos hi⟩⟩

/-- A staging semaphore is below everything owed. -/
theorem mayWait_stage (c : Dev nD) (q : DmaSem sig) (hq : isRecv q = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨p, rfl | ⟨s, ch, rfl⟩⟩ := O₀_pos hg <;> exact Finset.mem_singleton_self _)
      (fun p hp => by
        rw [Finset.mem_singleton.mp hp]
        show (if isRecv q = true then 2 else 0) ≤ 0
        rw [hq]; exact Nat.le_refl 0)
      (fun g u hg => by
        obtain ⟨p, rfl | ⟨s, ch, rfl⟩⟩ := O₀_pos hg
        · exact Nat.one_pos
        · rw [lv_recv]; decide)
  · rw [MayWait_zero]; iintro -; iempintro

/-- The barrier is below the landings. -/
theorem mayWait_bar (c : Dev nD) (O : CellTallies nD τ sig Unit) (hO : ∀ g u, 0 < O g u → ∃ p s ch, g = recvCell p s ch) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by obtain ⟨p, s, ch, rfl⟩ := hO g u hg; exact Finset.mem_singleton_self _)
    (fun p hp => by rw [Finset.mem_singleton.mp hp]; exact Nat.le_refl 1)
    (fun g u hg => by obtain ⟨p, s, ch, rfl⟩ := hO g u hg; rw [lv_recv]; decide)

end Cert.KernelIdeal.Run

end
-- ==== Proof.Steps.lean ====
/-
# One effect at a time

The registered cells, what every device knows of them, and one lemma for each kind of effect of the kernel: the signal,
the barrier wait, the copy to a mate, the landing, the copy's end.
-/
module

public import proofs.«01_k».proof.Proof.Common

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The registered cells and what a device holds of them -/

/-- A copy's semaphore: the place, `true` for receive, the channel. -/
abbrev Copy : Type := Fin 4 × Bool × Bool
abbrev osem (x : Copy) : SemLoc sig := match x with
  | (s, false, ch) => .dma (sendS s ch)
  | (s, true, ch) => .dma (recvS s ch)
/-- All semaphores of the protocol: the barrier's and the copies'. -/
abbrev csem : Unit ⊕ Copy → SemLoc sig
  | .inl _ => .reg barS
  | .inr x => osem x
abbrev kcell (ck : Dev nD × (Unit ⊕ Copy)) : GSem nD τ sig := ((ck.1 : Thread nD τ), csem ck.2)

/-- Every cell's invariant under its name, and that every cell has reached round 0. -/
def records (K : Dev nD × (Unit ⊕ Copy) → ℕ) : sProp 𝕄 :=
  iprop((bigSep Finset.univ fun ck : Dev nD × (Unit ⊕ Copy) => cellInv ER (sched m ρ) (K ck) (kcell ck))
    ∗ bigSep Finset.univ fun ck : Dev nD × (Unit ⊕ Copy) => reached ER (kcell ck) 0)

instance records_persistent (K : Dev nD × (Unit ⊕ Copy) → ℕ) : BI.Persistent (records m ρ K) := by unfold records; infer_instance

theorem inv_of (K : Dev nD × (Unit ⊕ Copy) → ℕ) (ck : Dev nD × (Unit ⊕ Copy)) :
    records m ρ K ⊢ cellInv ER (sched m ρ) (K ck) (kcell ck) := by
  unfold records
  have h : (bigSep Finset.univ fun ck : Dev nD × (Unit ⊕ Copy) => (cellInv ER (sched m ρ) (K ck) (kcell ck) : sProp 𝕄))
      ⊢ cellInv ER (sched m ρ) (K ck) (kcell ck) := bigSep_elim (Finset.mem_univ ck)
  iintro ⟨HI, -⟩
  iapply h
  iexact HI
theorem reached_of (K : Dev nD × (Unit ⊕ Copy) → ℕ) (ck : Dev nD × (Unit ⊕ Copy)) :
    records m ρ K ⊢ reached ER (kcell ck) 0 := by
  unfold records
  have h : (bigSep Finset.univ fun ck : Dev nD × (Unit ⊕ Copy) => (reached ER (kcell ck) 0 : sProp 𝕄)) ⊢ reached ER (kcell ck) 0 :=
    bigSep_elim (Finset.mem_univ ck)
  iintro ⟨-, HR⟩
  iapply h
  iexact HR

/-- What a device still owes, whatever it has waited for. -/
def owing (c : Dev nD) (O : CellTallies nD τ sig Unit) : sProp 𝕄 := iprop(∃ W, owes (c : Thread nD τ) O W)

/-- A program of device `c` at its weakest precondition. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

section Steps
variable (K : Dev nD × (Unit ⊕ Copy) → ℕ) (c : Dev nD)

/-- A device's landing slots for the mate at place `u`, as that mate receives them. -/
theorem barPay_mate (u : Fin 4) : barPay (F := F) (mate c u) (place c) = iprop(freeSlot c false u ∗ freeSlot c true u) := by
  unfold barPay; rw [mate_mate, mate_place, place_mate]

/-- The signal to the mate at place `u`, with the slots kept for it. -/
theorem step_signal {Q : PUnit → sProp 𝕄} {k : PUnit → Prog (TpuEff nD τ sig (Elt F) Λ₀ .tc) PUnit} {n : Dev nD} (u : Fin 4) (hn : n = mate c u) (hu : u ≠ place c) (O₁ O : CellTallies nD τ sig Unit) (hO : O₁ = O + owedBar c u) :
    iprop(records m ρ K ∗ owing c O₁ ∗ dutyTok ER (barCell (mate c u)) 0 (place c) ∗ freeSlot c false u ∗ freeSlot c true u)
      ⊢ iprop((owing c O -∗ runs c (k ⟨⟩) Q) -∗ runs c (.op (.semSignal (n : Thread nD τ) barS 1) k) Q) := by
  subst hn
  unfold owing
  iintro ⟨#HK, ⟨%W, HO⟩, Htok, Hs0, Hs1⟩ Hk
  iapply (Rounds.wp_signal 𝒱₀ ER (sched m ρ) (c : Thread nD τ) none (dst := (mate c u : Thread nD τ)) (κ := K (mate c u, .inl ()))
      (d := place c) (r := 0) (k' := 1) (by rw [duties_bar, place_mate]; exact Finset.mem_erase.mpr ⟨hu.symm, Finset.mem_univ _⟩)
      rfl () O hO (W := W)) $$ [HO Htok Hs0 Hs1]
  · isplitr; · iapply (inv_of m ρ K (mate c u, .inl ())); iexact HK
    isplitl [HO]; · iexact HO
    isplitl [Htok]; · iexact Htok
    isplitl [Hs0 Hs1]
    · rw [payload_bar, barPay_mate]; isplitl [Hs0] <;> iassumption
    iapply (reached_of m ρ K (mate c u, .inl ())); iexact HK
  iintro HO
  iapply Hk
  iexists W; iexact HO

/-- The barrier wait: three units, and with them the slots on the mates; the cell closes. -/
theorem step_barrier {Q : PUnit → sProp 𝕄} {k : PUnit → Prog (TpuEff nD τ sig (Elt F) Λ₀ .tc) PUnit} (O : CellTallies nD τ sig Unit) (hO : ∀ g u, 0 < O g u → ∃ p s ch, g = recvCell p s ch) :
    iprop(records m ρ K ∗ levAts L lv ∗ owing c O ∗ cred (tallyAt (barCell c) () 3) ∗ atPos ER (barCell c) 0 ∅ 0)
      ⊢ iprop(((owing c O ∗ semVal (barCell c) 0 ∗ bigSep (Finset.univ.erase (place c)) fun u => barPay c u) -∗ runs c (k ⟨⟩) Q)
          -∗ runs c (.op (.semWait barS 3) k) Q) := by
  unfold owing
  iintro ⟨#HK, #Hlev, ⟨%W, HO⟩, Hc, Hat⟩ Hk
  iapply (Rounds.wp_wait_rest_token 𝒱₀ ER (sched m ρ) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hat]
  · isplitr; · iapply (inv_of m ρ K (c, .inl ())); iexact HK
    isplitl [Hc]; · iexact Hc
    isplitl [HO]; · iexact HO
    isplitr; · iapply (mayWait_bar c O hO); iexact Hlev
    iexact Hat
  iintro ⟨HO, Hat, -, Hpay⟩
  imod (Rounds.cell_close ER (sched m ρ) (Set.mem_univ (K (c, .inl ()))) (fun h => h) (R := 0 + 1) (duties_later m ρ (barCell c))) $$ [Hat] with Hz
  · isplitr; · iapply (inv_of m ρ K (c, .inl ())); iexact HK
    iexact Hat
  iapply Hk
  isplitl [HO]; · iexists _; iexact HO
  isplitl [Hz]; · iexact Hz
  iapply (Entails.of_eq (rest_bar m ρ c)); iexact Hpay

/-- A landing: the slot of the mate at place `s` holds its block; the cell closes. -/
theorem step_recv {Q : PUnit → sProp 𝕄} {k : PUnit → Prog (TpuEff nD τ sig (Elt F) Λ₀ .tc) PUnit} {src dst : Memref sig .tc .vmem S2x4x128x64 .bf16} {h₁ : src.view.WordExact} {h₂ : dst.view.WordExact}
    {q : DmaSem sig} (s : Fin 4) (ch : Bool) (hq : q = recvS s ch) (hd : dst.view.dmaCredit = N) (hs : s ≠ place c) :
    iprop(records m ρ K ∗ owing c 0 ∗ cred (tallyAt (recvCell c s ch) () N) ∗ atPos ER (recvCell c s ch) 0 ∅ 0)
      ⊢ iprop(((owing c 0 ∗ semVal (recvCell c s ch) 0 ∗ recvPay m ρ c s ch) -∗ runs c (k ⟨⟩) Q)
          -∗ runs c (.op (.waitDma2 q src dst h₁ h₂) k) Q) := by
  subst hq
  unfold owing
  iintro ⟨#HK, ⟨%W, HO⟩, Hc, Hat⟩ Hk
  iapply (Rounds.wp_wait_rest_token 𝒱₀ ER (sched m ρ) (c : Thread nD τ) none (κ := K (c, .inr (s, true, ch)))
      (wpE_waitDma2_eq 𝒱₀ (c : Thread nD τ) none Set.univ) (Set.mem_univ _) () (O := 0) (W := W) (R := 0) (m := 0) (T := ∅)
      (by rw [expect_recv m ρ c ch hs, hd, Nat.zero_add])) $$ [Hc HO Hat]
  · isplitr; · iapply (inv_of m ρ K (c, .inr (s, true, ch))); iexact HK
    isplitl [Hc]; · rw [hd]; iexact Hc
    isplitl [HO]; · iexact HO
    isplitr; · rw [MayWait_zero]; iempintro
    iexact Hat
  iintro ⟨HO, Hat, -, Hpay⟩
  imod (Rounds.cell_close ER (sched m ρ) (Set.mem_univ (K (c, .inr (s, true, ch)))) (fun h => h) (R := 0 + 1) (duties_later m ρ (recvCell c s ch))) $$ [Hat] with Hz
  · isplitr; · iapply (inv_of m ρ K (c, .inr (s, true, ch))); iexact HK
    iexact Hat
  iapply Hk
  isplitl [HO]; · iexists _; iexact HO
  isplitl [Hz]; · iexact Hz
  iapply (Entails.of_eq (rest_recv m ρ c ch hs)); iexact Hpay

/-- The end of a copy's reading: its share of the device's own block is back; the cell closes. -/
theorem step_sent {Q : PUnit → sProp 𝕄} {k : PUnit → Prog (TpuEff nD τ sig (Elt F) Λ₀ .tc) PUnit} {src dst : Memref sig .tc .vmem S2x4x128x64 .bf16} {h₁ : src.view.WordExact} {h₂ : dst.view.WordExact}
    {q : DmaSem sig} (s : Fin 4) (ch : Bool) (hq : q = sendS s ch) (hd : dst.view.dmaCredit = N) (hs : s ≠ place c) :
    iprop(records m ρ K ∗ owing c 0 ∗ cred (tallyAt (sendCell c s ch) () N) ∗ atPos ER (sendCell c s ch) 0 ∅ 0)
      ⊢ iprop(((owing c 0 ∗ semVal (sendCell c s ch) 0 ∗ sendPay m ρ c s ch) -∗ runs c (k ⟨⟩) Q)
          -∗ runs c (.op (.waitDma2 q src dst h₁ h₂) k) Q) := by
  subst hq
  unfold owing
  iintro ⟨#HK, ⟨%W, HO⟩, Hc, Hat⟩ Hk
  iapply (Rounds.wp_wait_rest_token 𝒱₀ ER (sched m ρ) (c : Thread nD τ) none (κ := K (c, .inr (s, false, ch)))
      (wpE_waitDma2_eq 𝒱₀ (c : Thread nD τ) none Set.univ) (Set.mem_univ _) () (O := 0) (W := W) (R := 0) (m := 0) (T := ∅)
      (by rw [expect_send m ρ c ch hs, hd, Nat.zero_add])) $$ [Hc HO Hat]
  · isplitr; · iapply (inv_of m ρ K (c, .inr (s, false, ch))); iexact HK
    isplitl [Hc]; · rw [hd]; iexact Hc
    isplitl [HO]; · iexact HO
    isplitr; · rw [MayWait_zero]; iempintro
    iexact Hat
  iintro ⟨HO, Hat, -, Hpay⟩
  imod (Rounds.cell_close ER (sched m ρ) (Set.mem_univ (K (c, .inr (s, false, ch)))) (fun h => h) (R := 0 + 1) (duties_later m ρ (sendCell c s ch))) $$ [Hat] with Hz
  · isplitr; · iapply (inv_of m ρ K (c, .inr (s, false, ch))); iexact HK
    iexact Hat
  iapply Hk
  isplitl [HO]; · iexists _; iexact HO
  isplitl [Hz]; · iexact Hz
  iapply (Entails.of_eq (rest_send m ρ c ch hs)); iexact Hpay

/-- The copy of the device's own block, channel `ch`, to slot `place c` of the mate at place `u`. -/
theorem step_copy {Q : PUnit → sProp 𝕄} {k : PUnit → Prog (TpuEff nD τ sig (Elt F) Λ₀ .tc) PUnit} {n : Dev nD} (u : Fin 4) (ch : Bool) (hn : n = mate c u) (hu : u ≠ place c) (t : Fin 4) (ht : t = place c)
    {q₁ q₂ : DmaSem sig} (hq₁ : q₁ = sendS u ch) (hq₂ : q₂ = recvS t ch)
    {hsc : (slotM ch t : Memref sig (Dev.tc n : Thread nD τ).2.kind .vmem S2x4x128x64 .bf16).view.ref.isScScratch = false}
    {hsrc : (srcM ch).view.WordExact} {hdst : (slotM ch t : Memref sig .tc .vmem S2x4x128x64 .bf16).view.WordExact}
    {hsem : DmaTarget.Typed .vmem (.dma q₂) (.remote (Dev.tc n : Thread nD τ) (slotM ch t : Memref sig .tc .vmem S2x4x128x64 .bf16) (.dma q₁) hsc)}
    (O₁ O : CellTallies nD τ sig Unit) (hO : O₁ = O + owedRecv c u ch) :
    iprop(records m ρ K ∗ owing c O₁ ∗ owns (c : Thread nD τ) (srcM ch) (quarter u) (sent m ρ ch c) ∗ freeSlot (mate c u) ch (place c)
        ∗ dutyTok ER (sendCell c u ch) 0 0 ∗ dutyTok ER (recvCell (mate c u) (place c) ch) 0 0)
      ⊢ iprop(((owing c O ∗ cred (tallyAt (sendCell c u ch) () N)) -∗ runs c (k ⟨⟩) Q)
          -∗ runs c (.op (.enqueueDma (srcM ch) (.remote (Dev.tc n : Thread nD τ) (slotM ch t) (.dma q₁) hsc) (.dma q₂) hsrc hdst hsem) k) Q) := by
  subst hn hq₁ hq₂ ht
  unfold owing freeSlot owns
  iintro ⟨#HK, ⟨%W, HO⟩, ⟨%fs, %hfs, Hsrc⟩, ⟨%X, %fd, %hfd, Hdst⟩, Ht1, Ht2⟩ Hk
  iapply (Rounds.wp_send_pointsTo 𝒱₀ ER (sched m ρ) (c : Thread nD τ) none (κ₁ := K (c, .inr (u, false, ch))) (κ₂ := K (mate c u, .inr (place c, true, ch)))
      (r₁ := 0) (r₂ := 0) (d₁ := 0) (d₂ := 0) (fs := fs) (fd := fd) (q := quarter u)
      (by rw [duties_send m ρ c ch hu]; exact Finset.mem_singleton_self _)
      (by rw [duties_recv m ρ (mate c u) ch (by rw [place_mate]; exact hu.symm)]; exact Finset.mem_singleton_self _)
      () () N (by exact credit_slot ch (place c)) rfl rfl O hO (W := W)
      (by
        rw [payload_send]; unfold sendPay owns
        iintro H; iexists fs; isplitr; · ipureintro; exact hfs
        iexact H)
      (by
        rw [payload_recv]; unfold recvPay owns
        iintro H; iexists _; isplitr
        rotate_left
        · iexact H
        ipureintro
        rw [View.read_write_univ, mate_mate, mate_place]; exact hfs)) $$ [HO Hsrc Hdst Ht1 Ht2]
  · isplitr; · iapply (inv_of m ρ K (c, .inr (u, false, ch))); iexact HK
    isplitr; · iapply (inv_of m ρ K (mate c u, .inr (place c, true, ch))); iexact HK
    isplitl [Hsrc]; · iexact Hsrc
    isplitl [Hdst]; · iexact Hdst
    isplitl [HO]; · iexact HO
    isplitl [Ht1]; · iexact Ht1
    isplitr; · iapply (reached_of m ρ K (c, .inr (u, false, ch))); iexact HK
    isplitl [Ht2]; · iexact Ht2
    iapply (reached_of m ρ K (mate c u, .inr (place c, true, ch))); iexact HK
  iintro ⟨Hc, HO⟩
  iapply Hk
  isplitl [HO]; · iexists W; iexact HO
  iexact Hc

end Steps

end Cert.KernelIdeal.Run

end
-- ==== Proof.Pieces.lean ====
/-
# Buffers in pieces

A landing buffer is its four slots; the share of a buffer a device sends from is its four quarters; what is stated for
all places is stated for the four of a list.
-/
module

public import proofs.«01_k».proof.Proof.Steps
public import Idealize.ShloMosaic.Lib.Ring
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists of places -/

section Lists
variable {M : Type} [URA M]

theorem places_all {t n d f : Fin 4} (h : [t, n, d, f].Nodup) : (Finset.univ : Finset (Fin 4)) = [t, n, d, f].toFinset := by
  revert t n d f; decide
theorem places_mates {t n d f : Fin 4} (h : [t, n, d, f].Nodup) : (Finset.univ : Finset (Fin 4)).erase t = [n, d, f].toFinset := by
  revert t n d f; decide

/-- All four places, one by one. -/
theorem bigSep_places {t n d f : Fin 4} (h : [t, n, d, f].Nodup) (Φ : Fin 4 → sProp M) :
    bigSep Finset.univ Φ = iprop(Φ t ∗ Φ n ∗ Φ d ∗ Φ f) := bigSep_univ_eq_bigSepL _ (places_all h) h Φ
/-- The three other places, one by one. -/
theorem bigSep_mates {t n d f : Fin 4} (h : [t, n, d, f].Nodup) (Φ : Fin 4 → sProp M) :
    bigSep (Finset.univ.erase t) Φ = iprop(Φ n ∗ Φ d ∗ Φ f) := bigSep_eq_bigSepL_of_eq _ (places_mates h) (List.nodup_cons.mp h).2 Φ
theorem sum_mates {N : Type} [AddCommMonoid N] {t n d f : Fin 4} (h : [t, n, d, f].Nodup) (φ : Fin 4 → N) :
    ∑ u ∈ Finset.univ.erase t, φ u = φ n + (φ d + φ f) := by
  rw [places_mates h, List.sum_toFinset _ (List.nodup_cons.mp h).2]
  simp only [List.map_cons, List.map_nil, List.sum_cons, List.sum_nil, add_zero]

end Lists

/-! ## Slots of a landing buffer -/

/-- The location of landing buffer `ch` on device `c`. -/
abbrev bufL (c : Dev nD) (ch : Bool) : Loc nD τ sig := (bufM ch).view.loc (c : Thread nD τ)
/-- The elements of slot `s`. -/
abbrev slotSet (ch : Bool) (s : Fin 4) : Finset (bufM ch).view.ty.Idx := (slotM ch s).view.set

theorem mem_slotR (s : Fin 4) (i : S4x2x4x128x64.Idx) : i ∈ (slotR s).set ↔ (i 0 : Nat) = s.val := by
  rw [Rect.mem_set_unit]
  constructor
  · intro h
    have h0 := h 0
    simp only [Matrix.cons_val_zero] at h0
    have : S1x2x4x128x64.size 0 = 1 := rfl
    omega
  · intro h a
    have hlt := (i a).isLt
    fin_cases a
    · show s.val ≤ (i 0 : Nat) ∧ (i 0 : Nat) < s.val + 1
      omega
    all_goals exact ⟨Nat.zero_le _, lt_of_lt_of_eq hlt (Nat.zero_add _).symm⟩

theorem slotSet_eq (ch : Bool) (s : Fin 4) : slotSet ch s = (slotR s).set.map (bufM ch).view.emb := by
  show (((bufM ch).view.slice (slotR s)).reshape _ _).set = _
  rw [View.set_reshape, View.set_slice]

theorem slots_disjoint (ch : Bool) (s u : Fin 4) (h : s ≠ u) : Disjoint (slotSet ch s) (slotSet ch u) := by
  rw [slotSet_eq, slotSet_eq, Finset.disjoint_map]
  rw [Finset.disjoint_left]
  intro i hs hu
  exact h (Fin.ext (((mem_slotR s i).mp hs).symm.trans ((mem_slotR u i).mp hu)))

theorem bufM_set (ch : Bool) : (bufM ch).view.set = Finset.univ := by cases ch <;> exact View.set_whole _

theorem slots_cover (ch : Bool) : Finset.univ.biUnion (slotSet ch) = Finset.univ := by
  rw [← bufM_set ch]
  ext j
  simp only [Finset.mem_biUnion, Finset.mem_univ, true_and]
  constructor
  · rintro ⟨s, hs⟩
    rw [slotSet_eq] at hs
    obtain ⟨i, -, rfl⟩ := Finset.mem_map.mp hs
    exact View.emb_mem_set _ i
  · intro hj
    obtain ⟨i, -, rfl⟩ := Finset.mem_map.mp hj
    exact ⟨⟨(i 0 : Nat), (i 0).isLt⟩, by rw [slotSet_eq]; exact Finset.mem_map_of_mem _ ((mem_slotR _ i).mpr rfl)⟩

/-- A free slot is its elements at some contents. -/
theorem freeSlot_eq (p : Dev nD) (ch : Bool) (s : Fin 4) :
    (freeSlot p ch s : sProp 𝕄) ⊣⊢ iprop(∃ f : Buf (Elt F) (bufL p ch), bufL p ch ↦[slotSet ch s]{fullShare} f) := by
  unfold freeSlot owns
  constructor
  · iintro ⟨%X, %f, -, H⟩; iexists f; iexact H
  · iintro ⟨%f, H⟩
    iexists _, f
    isplitr; · ipureintro; rfl
    iexact H

/-- A landing buffer held whole is its four slots free; -/
theorem slots_split (c : Dev nD) (ch : Bool) :
    iprop(∃ f : Buf (Elt F) (bufL c ch), bufL c ch ↦{fullShare} f) ⊢ (bigSep Finset.univ fun s => freeSlot c ch s : sProp 𝕄) := by
  iintro ⟨%f, H⟩
  have h : (bufL c ch ↦{fullShare} f : sProp 𝕄) ⊢ bigSep Finset.univ fun s => freeSlot c ch s := by
    rw [Ring.pointsTo_blocks (slotSet ch) (slots_disjoint ch) (slots_cover ch) f]
    exact bigSep_mono fun s _ => (by iintro H; iexists f; iexact H : _ ⊢ _).trans (freeSlot_eq c ch s).2
  iapply h; iexact H
/-- and back. -/
theorem slots_join (c : Dev nD) (ch : Bool) (f₀ : Buf (Elt F) (bufL c ch)) :
    (bigSep Finset.univ fun s => freeSlot c ch s : sProp 𝕄) ⊢ iprop(∃ f : Buf (Elt F) (bufL c ch), bufL c ch ↦{fullShare} f) :=
  by
  have h1 : (bigSep Finset.univ fun s => freeSlot c ch s : sProp 𝕄)
      ⊢ bigSep Finset.univ fun s => iprop(∃ f : Buf (Elt F) (bufL c ch), bufL c ch ↦[slotSet ch s]{fullShare} f) :=
    bigSep_mono fun s _ => (freeSlot_eq c ch s).1
  exact h1.trans (Ring.pointsTo_blocks_join_exists (ℓ := bufL c ch) (slotSet ch) (slots_disjoint ch) (slots_cover ch) f₀)

/-- A landed slot is a slot. -/
theorem recvPay_free (c : Dev nD) (s : Fin 4) (ch : Bool) : (recvPay m ρ c s ch : sProp 𝕄) ⊢ freeSlot c ch s := by
  unfold recvPay freeSlot; iintro H; iexists _; iexact H

/-! ## Quarters of the buffer a device sends from -/

abbrev srcL (c : Dev nD) (ch : Bool) : Loc nD τ sig := (srcM ch).view.loc (c : Thread nD τ)

theorem src_read (ch : Bool) (f : (srcM ch).view.ty.Contents (Elt F)) : ∀ g, (srcM ch).view.read (Elt F) f = (srcM ch).view.read (Elt F) g → f = g := by
  cases ch <;> exact fun g h => h

theorem srcM_set (ch : Bool) : (srcM ch).view.set = Finset.univ := by cases ch <;> exact View.set_whole _

/-- The sent block, held whole, is its four quarters; -/
theorem sent_split (c : Dev nD) (ch : Bool) :
    (owns (c : Thread nD τ) (srcM ch) fullShare (sent m ρ ch c) : sProp 𝕄) ⊢ bigSep Finset.univ fun s => sendPay m ρ c s ch := by
  rw [bigSep_places (t := 0) (n := 1) (d := 2) (f := 3) (by decide)]
  unfold sendPay owns quarter
  iintro ⟨%f, %hf, H⟩
  ihave H := (pointsTo_share (PosShare.mem_left_op_right fullShare)).1 $$ H
  icases H with ⟨Hl, Hr⟩
  ihave Hl := (pointsTo_share (PosShare.mem_left_op_right fullShare.left)).1 $$ Hl
  ihave Hr := (pointsTo_share (PosShare.mem_left_op_right fullShare.right)).1 $$ Hr
  icases Hl with ⟨H0, H1⟩
  icases Hr with ⟨H2, H3⟩
  isplitl [H0]; · iexists f; isplitr; · ipureintro; exact hf
                  iexact H0
  isplitl [H1]; · iexists f; isplitr; · ipureintro; exact hf
                  iexact H1
  isplitl [H2]; · iexists f; isplitr; · ipureintro; exact hf
                  iexact H2
  iexists f; isplitr; · ipureintro; exact hf
  iexact H3
/-- and back, as a buffer. -/
theorem sent_join (c : Dev nD) (ch : Bool) :
    (bigSep Finset.univ fun s => sendPay m ρ c s ch : sProp 𝕄) ⊢ iprop(∃ f : Buf (Elt F) (srcL c ch), srcL c ch ↦{fullShare} f) := by
  rw [bigSep_places (t := 0) (n := 1) (d := 2) (f := 3) (by decide)]
  unfold sendPay owns quarter
  iintro ⟨⟨%f0, %h0, H0⟩, ⟨%f1, %h1, H1⟩, ⟨%f2, %h2, H2⟩, %f3, %h3, H3⟩
  obtain rfl := src_read ch f1 f0 (h1.trans h0.symm)
  obtain rfl := src_read ch f2 f1 (h2.trans h1.symm)
  obtain rfl := src_read ch f3 f2 (h3.trans h2.symm)
  ihave Hl := (pointsTo_share (PosShare.mem_left_op_right fullShare.left)).2 $$ [H0 H1]
  · isplitl [H0] <;> iassumption
  ihave Hr := (pointsTo_share (PosShare.mem_left_op_right fullShare.right)).2 $$ [H2 H3]
  · isplitl [H2] <;> iassumption
  ihave H := (pointsTo_share (PosShare.mem_left_op_right fullShare)).2 $$ [Hl Hr]
  · isplitl [Hl] <;> iassumption
  iexists f3
  iapply (Entails.of_eq (by rw [srcM_set] : (srcL c ch ↦[(srcM ch).view.set]{fullShare} f3 : sProp 𝕄) = (srcL c ch ↦{fullShare} f3)))
  iexact H

end Cert.KernelIdeal.Run

end
-- ==== Proof.Values.lean ====
/-
# What the kernel computes between its memory operations

The kernel loads its own keys `v34` and values `v53`, the two batch rows `v72`, `v77` of its activations and (twice) the
query weights `v74`, `v79`; the keys and values of its first two mates `v406`, `v408`, `v410`, `v412`; those of the third
`v778`, `v780`; and the output weights `v1411`. Every vector it forms from them is named here, `w` and the number the
printed program gives it, as a function of the loads it depends on; the two blocks stored at the end are `outLo` and
`outHi`. After the definitions: each stretch of the program without memory operations returns these vectors — the four
branches, one for each place of the device, compute the same ones.
-/
module

public import proofs.«01_k».proof.Proof.Common

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The vectors -/

def w37 (v34 : Vec F S2x128x4x64 .f32) : FVec F S2x4x128x64 .bf16 := k0_pay713 v34
def w56 (v53 : Vec F S2x128x4x64 .f32) : FVec F S2x4x128x64 .bf16 := k0_pay715 v53
def w81 (v77 : Vec F S1x128x512 .f32) (v79 : Vec F S512x256 .f32) : FVec F S128x256 .f32 := k0_pay718 v77 v79
def w83 (v72 : Vec F S1x128x512 .f32) (v74 : Vec F S512x256 .f32) : FVec F S64x64 .bf16 := k0_pay719 v72 v74
def w85 (v72 : Vec F S1x128x512 .f32) (v74 : Vec F S512x256 .f32) : FVec F S64x64 .bf16 := k0_pay720 v72 v74
def w87 (v72 : Vec F S1x128x512 .f32) (v74 : Vec F S512x256 .f32) : FVec F S64x64 .bf16 := k0_pay721 v72 v74
def w89 (v72 : Vec F S1x128x512 .f32) (v74 : Vec F S512x256 .f32) : FVec F S64x64 .bf16 := k0_pay722 v72 v74
def w91 (v72 : Vec F S1x128x512 .f32) (v74 : Vec F S512x256 .f32) : FVec F S64x64 .bf16 := k0_pay723 v72 v74
def w93 (v72 : Vec F S1x128x512 .f32) (v74 : Vec F S512x256 .f32) : FVec F S64x64 .bf16 := k0_pay724 v72 v74
def w95 (v72 : Vec F S1x128x512 .f32) (v74 : Vec F S512x256 .f32) : FVec F S64x64 .bf16 := k0_pay725 v72 v74
def w97 (v72 : Vec F S1x128x512 .f32) (v74 : Vec F S512x256 .f32) : FVec F S64x64 .bf16 := k0_pay726 v72 v74
def w99 (v77 : Vec F S1x128x512 .f32) (v79 : Vec F S512x256 .f32) : FVec F S64x64 .bf16 := k0_pay727 v77 v79
def w101 (v77 : Vec F S1x128x512 .f32) (v79 : Vec F S512x256 .f32) : FVec F S64x64 .bf16 := k0_pay728 (w81 v77 v79)
def w103 (v77 : Vec F S1x128x512 .f32) (v79 : Vec F S512x256 .f32) : FVec F S64x64 .bf16 := k0_pay729 (w81 v77 v79)
def w105 (v77 : Vec F S1x128x512 .f32) (v79 : Vec F S512x256 .f32) : FVec F S64x64 .bf16 := k0_pay730 (w81 v77 v79)
def w107 (v77 : Vec F S1x128x512 .f32) (v79 : Vec F S512x256 .f32) : FVec F S64x64 .bf16 := k0_pay731 (w81 v77 v79)
def w109 (v77 : Vec F S1x128x512 .f32) (v79 : Vec F S512x256 .f32) : FVec F S64x64 .bf16 := k0_pay732 (w81 v77 v79)
def w111 (v77 : Vec F S1x128x512 .f32) (v79 : Vec F S512x256 .f32) : FVec F S64x64 .bf16 := k0_pay733 (w81 v77 v79)
def w113 (v77 : Vec F S1x128x512 .f32) (v79 : Vec F S512x256 .f32) : FVec F S64x64 .bf16 := k0_pay734 (w81 v77 v79)
def w122 (v34 : Vec F S2x128x4x64 .f32) (v72 : Vec F S1x128x512 .f32) (v74 : Vec F S512x256 .f32) : FVec F S64x1 .f32 := k0_pay736 (w37 v34) (w83 v72 v74)
def w127 (v34 : Vec F S2x128x4x64 .f32) (v72 : Vec F S1x128x512 .f32) (v74 : Vec F S512x256 .f32) : FVec F S64x1 .f32 := k0_pay738 (w37 v34) (w83 v72 v74)
def w129 (v34 : Vec F S2x128x4x64 .f32) (v53 : Vec F S2x128x4x64 .f32) (v72 : Vec F S1x128x512 .f32) (v74 : Vec F S512x256 .f32) : FVec F S64x64 .f32 := k0_pay739 (w37 v34) (w56 v53) (w83 v72 v74)
def w138 (v34 : Vec F S2x128x4x64 .f32) (v72 : Vec F S1x128x512 .f32) (v74 : Vec F S512x256 .f32) : FVec F S64x1 .f32 := k0_pay741 (w37 v34) (w85 v72 v74)
def w143 (v34 : Vec F S2x128x4x64 .f32) (v72 : Vec F S1x128x512 .f32) (v74 : Vec F S512x256 .f32) : FVec F S64x1 .f32 := k0_pay743 (w37 v34) (w85 v72 v74)
def w145 (v34 : Vec F S2x128x4x64 .f32) (v53 : Vec F S2x128x4x64 .f32) (v72 : Vec F S1x128x512 .f32) (v74 : Vec F S512x256 .f32) : FVec F S64x64 .f32 := k0_pay744 (w37 v34) (w56 v53) (w85 v72 v74)
def w147 (v34 : Vec F S2x128x4x64 .f32) : FVec F S64x64 .bf16 := k0_pay745 (w37 v34)
def w149 (v53 : Vec F S2x128x4x64 .f32) : FVec F S64x64 .bf16 := k0_pay746 (w56 v53)
def w154 (v34 : Vec F S2x128x4x64 .f32) (v72 : Vec F S1x128x512 .f32) (v74 : Vec F S512x256 .f32) : FVec F S64x1 .f32 := k0_pay748 (w87 v72 v74) (w147 v34)
def w159 (v34 : Vec F S2x128x4x64 .f32) (v72 : Vec F S1x128x512 .f32) (v74 : Vec F S512x256 .f32) : FVec F S64x1 .f32 := k0_pay750 (w87 v72 v74) (w147 v34)
def w161 (v34 : Vec F S2x128x4x64 .f32) (v53 : Vec F S2x128x4x64 .f32) (v72 : Vec F S1x128x512 .f32) (v74 : Vec F S512x256 .f32) : FVec F S64x64 .f32 := k0_pay751 (w87 v72 v74) (w147 v34) (w149 v53)
def w170 (v34 : Vec F S2x128x4x64 .f32) (v72 : Vec F S1x128x512 .f32) (v74 : Vec F S512x256 .f32) : FVec F S64x1 .f32 := k0_pay753 (w37 v34) (w89 v72 v74)
def w175 (v34 : Vec F S2x128x4x64 .f32) (v72 : Vec F S1x128x512 .f32) (v74 : Vec F S512x256 .f32) : FVec F S64x1 .f32 := k0_pay755 (w37 v34) (w89 v72 v74)
def w177 (v34 : Vec F S2x128x4x64 .f32) (v53 : Vec F S2x128x4x64 .f32) (v72 : Vec F S1x128x512 .f32) (v74 : Vec F S512x256 .f32) : FVec F S64x64 .f32 := k0_pay756 (w37 v34) (w56 v53) (w89 v72 v74)
def w186 (v34 : Vec F S2x128x4x64 .f32) (v72 : Vec F S1x128x512 .f32) (v74 : Vec F S512x256 .f32) : FVec F S64x1 .f32 := k0_pay758 (w37 v34) (w91 v72 v74)
def w191 (v34 : Vec F S2x128x4x64 .f32) (v72 : Vec F S1x128x512 .f32) (v74 : Vec F S512x256 .f32) : FVec F S64x1 .f32 := k0_pay760 (w37 v34) (w91 v72 v74)
def w193 (v34 : Vec F S2x128x4x64 .f32) (v53 : Vec F S2x128x4x64 .f32) (v72 : Vec F S1x128x512 .f32) (v74 : Vec F S512x256 .f32) : FVec F S64x64 .f32 := k0_pay761 (w37 v34) (w56 v53) (w91 v72 v74)
def w194 (v34 : Vec F S2x128x4x64 .f32) : FVec F S1x1x64x64 .bf16 := k0_pay762 (w37 v34)
def w202 (v34 : Vec F S2x128x4x64 .f32) (v72 : Vec F S1x128x512 .f32) (v74 : Vec F S512x256 .f32) : FVec F S64x1 .f32 := k0_pay764 (w93 v72 v74) (w194 v34)
def w207 (v34 : Vec F S2x128x4x64 .f32) (v72 : Vec F S1x128x512 .f32) (v74 : Vec F S512x256 .f32) : FVec F S64x1 .f32 := k0_pay766 (w93 v72 v74) (w194 v34)
def w209 (v34 : Vec F S2x128x4x64 .f32) (v53 : Vec F S2x128x4x64 .f32) (v72 : Vec F S1x128x512 .f32) (v74 : Vec F S512x256 .f32) : FVec F S64x64 .f32 := k0_pay767 (w56 v53) (w93 v72 v74) (w194 v34)
def w218 (v34 : Vec F S2x128x4x64 .f32) (v72 : Vec F S1x128x512 .f32) (v74 : Vec F S512x256 .f32) : FVec F S64x1 .f32 := k0_pay769 (w37 v34) (w95 v72 v74)
def w223 (v34 : Vec F S2x128x4x64 .f32) (v72 : Vec F S1x128x512 .f32) (v74 : Vec F S512x256 .f32) : FVec F S64x1 .f32 := k0_pay771 (w37 v34) (w95 v72 v74)
def w225 (v34 : Vec F S2x128x4x64 .f32) (v53 : Vec F S2x128x4x64 .f32) (v72 : Vec F S1x128x512 .f32) (v74 : Vec F S512x256 .f32) : FVec F S64x64 .f32 := k0_pay772 (w37 v34) (w56 v53) (w95 v72 v74)
def w229 (v53 : Vec F S2x128x4x64 .f32) : FVec F S64x64 .bf16 := k0_pay773 (w56 v53)
def w234 (v34 : Vec F S2x128x4x64 .f32) (v72 : Vec F S1x128x512 .f32) (v74 : Vec F S512x256 .f32) : FVec F S64x1 .f32 := k0_pay775 (w37 v34) (w97 v72 v74)
def w239 (v34 : Vec F S2x128x4x64 .f32) (v72 : Vec F S1x128x512 .f32) (v74 : Vec F S512x256 .f32) : FVec F S64x1 .f32 := k0_pay777 (w37 v34) (w97 v72 v74)
def w240 (v34 : Vec F S2x128x4x64 .f32) (v72 : Vec F S1x128x512 .f32) (v74 : Vec F S512x256 .f32) : FVec F S64x64 .bf16 := k0_pay778 (w37 v34) (w97 v72 v74)
def w241 (v34 : Vec F S2x128x4x64 .f32) (v53 : Vec F S2x128x4x64 .f32) (v72 : Vec F S1x128x512 .f32) (v74 : Vec F S512x256 .f32) : FVec F S64x64 .f32 := k0_pay779 (w229 v53) (w240 v34 v72 v74)
def w250 (v34 : Vec F S2x128x4x64 .f32) (v77 : Vec F S1x128x512 .f32) (v79 : Vec F S512x256 .f32) : FVec F S64x1 .f32 := k0_pay781 (w37 v34) (w99 v77 v79)
def w255 (v34 : Vec F S2x128x4x64 .f32) (v77 : Vec F S1x128x512 .f32) (v79 : Vec F S512x256 .f32) : FVec F S64x1 .f32 := k0_pay783 (w37 v34) (w99 v77 v79)
def w257 (v34 : Vec F S2x128x4x64 .f32) (v53 : Vec F S2x128x4x64 .f32) (v77 : Vec F S1x128x512 .f32) (v79 : Vec F S512x256 .f32) : FVec F S64x64 .f32 := k0_pay784 (w37 v34) (w56 v53) (w99 v77 v79)
def w266 (v34 : Vec F S2x128x4x64 .f32) (v77 : Vec F S1x128x512 .f32) (v79 : Vec F S512x256 .f32) : FVec F S64x1 .f32 := k0_pay786 (w37 v34) (w101 v77 v79)
def w271 (v34 : Vec F S2x128x4x64 .f32) (v77 : Vec F S1x128x512 .f32) (v79 : Vec F S512x256 .f32) : FVec F S64x1 .f32 := k0_pay788 (w37 v34) (w101 v77 v79)
def w273 (v34 : Vec F S2x128x4x64 .f32) (v53 : Vec F S2x128x4x64 .f32) (v77 : Vec F S1x128x512 .f32) (v79 : Vec F S512x256 .f32) : FVec F S64x64 .f32 := k0_pay789 (w37 v34) (w56 v53) (w101 v77 v79)
def w277 (v53 : Vec F S2x128x4x64 .f32) : FVec F S64x64 .bf16 := k0_pay790 (w56 v53)
def w282 (v34 : Vec F S2x128x4x64 .f32) (v77 : Vec F S1x128x512 .f32) (v79 : Vec F S512x256 .f32) : FVec F S64x1 .f32 := k0_pay792 (w37 v34) (w103 v77 v79)
def w285 (v34 : Vec F S2x128x4x64 .f32) (v77 : Vec F S1x128x512 .f32) (v79 : Vec F S512x256 .f32) : FVec F S64x64 .f32 := k0_pay793 (w37 v34) (w103 v77 v79)
def w287 (v34 : Vec F S2x128x4x64 .f32) (v77 : Vec F S1x128x512 .f32) (v79 : Vec F S512x256 .f32) : FVec F S64x1 .f32 := k0_pay794 (w285 v34 v77 v79)
def w289 (v34 : Vec F S2x128x4x64 .f32) (v53 : Vec F S2x128x4x64 .f32) (v77 : Vec F S1x128x512 .f32) (v79 : Vec F S512x256 .f32) : FVec F S64x64 .f32 := k0_pay795 (w277 v53) (w285 v34 v77 v79)
def w298 (v34 : Vec F S2x128x4x64 .f32) (v77 : Vec F S1x128x512 .f32) (v79 : Vec F S512x256 .f32) : FVec F S64x1 .f32 := k0_pay797 (w37 v34) (w105 v77 v79)
def w303 (v34 : Vec F S2x128x4x64 .f32) (v77 : Vec F S1x128x512 .f32) (v79 : Vec F S512x256 .f32) : FVec F S64x1 .f32 := k0_pay799 (w37 v34) (w105 v77 v79)
def w305 (v34 : Vec F S2x128x4x64 .f32) (v53 : Vec F S2x128x4x64 .f32) (v77 : Vec F S1x128x512 .f32) (v79 : Vec F S512x256 .f32) : FVec F S64x64 .f32 := k0_pay800 (w37 v34) (w56 v53) (w105 v77 v79)
def w314 (v34 : Vec F S2x128x4x64 .f32) (v77 : Vec F S1x128x512 .f32) (v79 : Vec F S512x256 .f32) : FVec F S64x1 .f32 := k0_pay802 (w37 v34) (w107 v77 v79)
def w319 (v34 : Vec F S2x128x4x64 .f32) (v77 : Vec F S1x128x512 .f32) (v79 : Vec F S512x256 .f32) : FVec F S64x1 .f32 := k0_pay804 (w37 v34) (w107 v77 v79)
def w321 (v34 : Vec F S2x128x4x64 .f32) (v53 : Vec F S2x128x4x64 .f32) (v77 : Vec F S1x128x512 .f32) (v79 : Vec F S512x256 .f32) : FVec F S64x64 .f32 := k0_pay805 (w37 v34) (w56 v53) (w107 v77 v79)
def w325 (v53 : Vec F S2x128x4x64 .f32) : FVec F S64x64 .bf16 := k0_pay806 (w56 v53)
def w328 (v34 : Vec F S2x128x4x64 .f32) (v77 : Vec F S1x128x512 .f32) (v79 : Vec F S512x256 .f32) : FVec F S64x64 .f32 := k0_pay807 (w37 v34) (w109 v77 v79)
def w330 (v34 : Vec F S2x128x4x64 .f32) (v77 : Vec F S1x128x512 .f32) (v79 : Vec F S512x256 .f32) : FVec F S64x1 .f32 := k0_pay808 (w37 v34) (w109 v77 v79)
def w331 (v34 : Vec F S2x128x4x64 .f32) (v77 : Vec F S1x128x512 .f32) (v79 : Vec F S512x256 .f32) : FVec F S64x64 .f32 := k0_pay809 (w37 v34) (w109 v77 v79)
def w335 (v34 : Vec F S2x128x4x64 .f32) (v77 : Vec F S1x128x512 .f32) (v79 : Vec F S512x256 .f32) : FVec F S64x1 .f32 := k0_pay811 (w328 v34 v77 v79) (w331 v34 v77 v79)
def w337 (v34 : Vec F S2x128x4x64 .f32) (v53 : Vec F S2x128x4x64 .f32) (v77 : Vec F S1x128x512 .f32) (v79 : Vec F S512x256 .f32) : FVec F S64x64 .f32 := k0_pay812 (w325 v53) (w328 v34 v77 v79) (w331 v34 v77 v79)
def w346 (v34 : Vec F S2x128x4x64 .f32) (v77 : Vec F S1x128x512 .f32) (v79 : Vec F S512x256 .f32) : FVec F S64x1 .f32 := k0_pay814 (w37 v34) (w111 v77 v79)
def w351 (v34 : Vec F S2x128x4x64 .f32) (v77 : Vec F S1x128x512 .f32) (v79 : Vec F S512x256 .f32) : FVec F S64x1 .f32 := k0_pay816 (w37 v34) (w111 v77 v79)
def w353 (v34 : Vec F S2x128x4x64 .f32) (v53 : Vec F S2x128x4x64 .f32) (v77 : Vec F S1x128x512 .f32) (v79 : Vec F S512x256 .f32) : FVec F S64x64 .f32 := k0_pay817 (w37 v34) (w56 v53) (w111 v77 v79)
def w362 (v34 : Vec F S2x128x4x64 .f32) (v77 : Vec F S1x128x512 .f32) (v79 : Vec F S512x256 .f32) : FVec F S64x1 .f32 := k0_pay819 (w37 v34) (w113 v77 v79)
def w367 (v34 : Vec F S2x128x4x64 .f32) (v77 : Vec F S1x128x512 .f32) (v79 : Vec F S512x256 .f32) : FVec F S64x1 .f32 := k0_pay821 (w37 v34) (w113 v77 v79)
def w369 (v34 : Vec F S2x128x4x64 .f32) (v53 : Vec F S2x128x4x64 .f32) (v77 : Vec F S1x128x512 .f32) (v79 : Vec F S512x256 .f32) : FVec F S64x64 .f32 := k0_pay822 (w37 v34) (w56 v53) (w113 v77 v79)
def w407 (v406 : Vec F S1x2x4x128x64 .bf16) : FVec F S2x4x128x64 .bf16 := k0_pay1 v406
def w409 (v408 : Vec F S1x2x4x128x64 .bf16) : FVec F S2x4x128x64 .bf16 := k0_pay2 v408
def w411 (v410 : Vec F S1x2x4x128x64 .bf16) : FVec F S2x4x128x64 .bf16 := k0_pay3 v410
def w413 (v412 : Vec F S1x2x4x128x64 .bf16) : FVec F S2x4x128x64 .bf16 := k0_pay4 v412
def w423 (v410 : Vec F S1x2x4x128x64 .bf16) (v412 : Vec F S1x2x4x128x64 .bf16) : FVec F S128x64 .bf16 := k0_pay5 v410 v412
def w426 (v72 : Vec F S1x128x512 .f32) (v74 : Vec F S512x256 .f32) (v406 : Vec F S1x2x4x128x64 .bf16) (v408 : Vec F S1x2x4x128x64 .bf16) : FVec F S64x128 .f32 := k0_pay6 (w83 v72 v74) v406 v408
def w428 (v72 : Vec F S1x128x512 .f32) (v74 : Vec F S512x256 .f32) (v406 : Vec F S1x2x4x128x64 .bf16) (v408 : Vec F S1x2x4x128x64 .bf16) : FVec F S64x1 .f32 := k0_pay7 (w426 v72 v74 v406 v408)
def w433 (v72 : Vec F S1x128x512 .f32) (v74 : Vec F S512x256 .f32) (v406 : Vec F S1x2x4x128x64 .bf16) (v408 : Vec F S1x2x4x128x64 .bf16) : FVec F S64x1 .f32 := k0_pay9 (w426 v72 v74 v406 v408)
def w435 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay10 (w423 v410 v412) (w426 v72 v74 v406 v408)
def w450 (v72 : Vec F S1x128x512 .f32) (v74 : Vec F S512x256 .f32) (v406 : Vec F S1x2x4x128x64 .bf16) (v408 : Vec F S1x2x4x128x64 .bf16) : FVec F S64x1 .f32 := k0_pay12 (w85 v72 v74) (w407 v406) (w409 v408)
def w455 (v72 : Vec F S1x128x512 .f32) (v74 : Vec F S512x256 .f32) (v406 : Vec F S1x2x4x128x64 .bf16) (v408 : Vec F S1x2x4x128x64 .bf16) : FVec F S64x1 .f32 := k0_pay14 (w85 v72 v74) (w407 v406) (w409 v408)
def w457 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay15 (w85 v72 v74) (w407 v406) (w409 v408) (w411 v410) (w413 v412)
def w467 (v410 : Vec F S1x2x4x128x64 .bf16) (v412 : Vec F S1x2x4x128x64 .bf16) : FVec F S128x64 .bf16 := k0_pay16 (w411 v410) (w413 v412)
def w472 (v72 : Vec F S1x128x512 .f32) (v74 : Vec F S512x256 .f32) (v406 : Vec F S1x2x4x128x64 .bf16) (v408 : Vec F S1x2x4x128x64 .bf16) : FVec F S64x1 .f32 := k0_pay18 (w87 v72 v74) (w407 v406) (w409 v408)
def w475 (v72 : Vec F S1x128x512 .f32) (v74 : Vec F S512x256 .f32) (v406 : Vec F S1x2x4x128x64 .bf16) (v408 : Vec F S1x2x4x128x64 .bf16) : FVec F S64x128 .f32 := k0_pay19 (w87 v72 v74) (w407 v406) (w409 v408)
def w477 (v72 : Vec F S1x128x512 .f32) (v74 : Vec F S512x256 .f32) (v406 : Vec F S1x2x4x128x64 .bf16) (v408 : Vec F S1x2x4x128x64 .bf16) : FVec F S64x1 .f32 := k0_pay20 (w475 v72 v74 v406 v408)
def w479 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay21 (w467 v410 v412) (w475 v72 v74 v406 v408)
def w494 (v72 : Vec F S1x128x512 .f32) (v74 : Vec F S512x256 .f32) (v406 : Vec F S1x2x4x128x64 .bf16) (v408 : Vec F S1x2x4x128x64 .bf16) : FVec F S64x1 .f32 := k0_pay23 (w89 v72 v74) (w407 v406) (w409 v408)
def w499 (v72 : Vec F S1x128x512 .f32) (v74 : Vec F S512x256 .f32) (v406 : Vec F S1x2x4x128x64 .bf16) (v408 : Vec F S1x2x4x128x64 .bf16) : FVec F S64x1 .f32 := k0_pay25 (w89 v72 v74) (w407 v406) (w409 v408)
def w501 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay26 (w89 v72 v74) (w407 v406) (w409 v408) (w411 v410) (w413 v412)
def w516 (v72 : Vec F S1x128x512 .f32) (v74 : Vec F S512x256 .f32) (v406 : Vec F S1x2x4x128x64 .bf16) (v408 : Vec F S1x2x4x128x64 .bf16) : FVec F S64x1 .f32 := k0_pay28 (w91 v72 v74) (w407 v406) (w409 v408)
def w521 (v72 : Vec F S1x128x512 .f32) (v74 : Vec F S512x256 .f32) (v406 : Vec F S1x2x4x128x64 .bf16) (v408 : Vec F S1x2x4x128x64 .bf16) : FVec F S64x1 .f32 := k0_pay30 (w91 v72 v74) (w407 v406) (w409 v408)
def w523 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay31 (w91 v72 v74) (w407 v406) (w409 v408) (w411 v410) (w413 v412)
def w524 (v406 : Vec F S1x2x4x128x64 .bf16) : FVec F S1x1x64x64 .bf16 := k0_pay32 (w407 v406)
def w538 (v72 : Vec F S1x128x512 .f32) (v74 : Vec F S512x256 .f32) (v406 : Vec F S1x2x4x128x64 .bf16) (v408 : Vec F S1x2x4x128x64 .bf16) : FVec F S64x1 .f32 := k0_pay34 (w93 v72 v74) (w409 v408) (w524 v406)
def w543 (v72 : Vec F S1x128x512 .f32) (v74 : Vec F S512x256 .f32) (v406 : Vec F S1x2x4x128x64 .bf16) (v408 : Vec F S1x2x4x128x64 .bf16) : FVec F S64x1 .f32 := k0_pay36 (w93 v72 v74) (w409 v408) (w524 v406)
def w545 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay37 (w93 v72 v74) (w409 v408) (w411 v410) (w413 v412) (w524 v406)
def w560 (v72 : Vec F S1x128x512 .f32) (v74 : Vec F S512x256 .f32) (v406 : Vec F S1x2x4x128x64 .bf16) (v408 : Vec F S1x2x4x128x64 .bf16) : FVec F S64x1 .f32 := k0_pay39 (w95 v72 v74) (w407 v406) (w409 v408)
def w565 (v72 : Vec F S1x128x512 .f32) (v74 : Vec F S512x256 .f32) (v406 : Vec F S1x2x4x128x64 .bf16) (v408 : Vec F S1x2x4x128x64 .bf16) : FVec F S64x1 .f32 := k0_pay41 (w95 v72 v74) (w407 v406) (w409 v408)
def w567 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay42 (w95 v72 v74) (w407 v406) (w409 v408) (w411 v410) (w413 v412)
def w572 (v406 : Vec F S1x2x4x128x64 .bf16) (v408 : Vec F S1x2x4x128x64 .bf16) : FVec F S128x64 .bf16 := k0_pay43 (w407 v406) (w409 v408)
def w574 (v410 : Vec F S1x2x4x128x64 .bf16) : FVec F S64x64 .bf16 := k0_pay44 (w411 v410)
def w582 (v72 : Vec F S1x128x512 .f32) (v74 : Vec F S512x256 .f32) (v406 : Vec F S1x2x4x128x64 .bf16) (v408 : Vec F S1x2x4x128x64 .bf16) : FVec F S64x1 .f32 := k0_pay46 (w97 v72 v74) (w572 v406 v408)
def w587 (v72 : Vec F S1x128x512 .f32) (v74 : Vec F S512x256 .f32) (v406 : Vec F S1x2x4x128x64 .bf16) (v408 : Vec F S1x2x4x128x64 .bf16) : FVec F S64x1 .f32 := k0_pay48 (w97 v72 v74) (w572 v406 v408)
def w589 (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay49 (w97 v72 v74) (w413 v412) (w572 v406 v408) (w574 v410)
def w604 (v77 : Vec F S1x128x512 .f32) (v79 : Vec F S512x256 .f32) (v406 : Vec F S1x2x4x128x64 .bf16) (v408 : Vec F S1x2x4x128x64 .bf16) : FVec F S64x1 .f32 := k0_pay51 (w99 v77 v79) (w407 v406) (w409 v408)
def w609 (v77 : Vec F S1x128x512 .f32) (v79 : Vec F S512x256 .f32) (v406 : Vec F S1x2x4x128x64 .bf16) (v408 : Vec F S1x2x4x128x64 .bf16) : FVec F S64x1 .f32 := k0_pay53 (w99 v77 v79) (w407 v406) (w409 v408)
def w611 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay54 (w99 v77 v79) (w407 v406) (w409 v408) (w411 v410) (w413 v412)
def w621 (v410 : Vec F S1x2x4x128x64 .bf16) (v412 : Vec F S1x2x4x128x64 .bf16) : FVec F S128x64 .bf16 := k0_pay55 (w411 v410) (w413 v412)
def w622 (v77 : Vec F S1x128x512 .f32) (v79 : Vec F S512x256 .f32) (v406 : Vec F S1x2x4x128x64 .bf16) (v408 : Vec F S1x2x4x128x64 .bf16) : FVec F S64x128 .f32 := k0_pay56 (w101 v77 v79) (w407 v406) (w409 v408)
def wScale : F .f32 := Scalar.ofBits .f32 0x3E000000#32
def w626 (v77 : Vec F S1x128x512 .f32) (v79 : Vec F S512x256 .f32) (v406 : Vec F S1x2x4x128x64 .bf16) (v408 : Vec F S1x2x4x128x64 .bf16) : FVec F S64x1 .f32 := k0_pay58 (w622 v77 v79 v406 v408) (wScale : F .f32)
def w631 (v77 : Vec F S1x128x512 .f32) (v79 : Vec F S512x256 .f32) (v406 : Vec F S1x2x4x128x64 .bf16) (v408 : Vec F S1x2x4x128x64 .bf16) : FVec F S64x1 .f32 := k0_pay60 (w622 v77 v79 v406 v408) (wScale : F .f32)
def w633 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay61 (w621 v410 v412) (w622 v77 v79 v406 v408) (wScale : F .f32)
def w648 (v77 : Vec F S1x128x512 .f32) (v79 : Vec F S512x256 .f32) (v406 : Vec F S1x2x4x128x64 .bf16) (v408 : Vec F S1x2x4x128x64 .bf16) : FVec F S64x1 .f32 := k0_pay63 (w103 v77 v79) (w407 v406) (w409 v408)
def w653 (v77 : Vec F S1x128x512 .f32) (v79 : Vec F S512x256 .f32) (v406 : Vec F S1x2x4x128x64 .bf16) (v408 : Vec F S1x2x4x128x64 .bf16) : FVec F S64x1 .f32 := k0_pay65 (w103 v77 v79) (w407 v406) (w409 v408)
def w655 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay66 (w103 v77 v79) (w407 v406) (w409 v408) (w411 v410) (w413 v412)
def w665 (v410 : Vec F S1x2x4x128x64 .bf16) (v412 : Vec F S1x2x4x128x64 .bf16) : FVec F S128x64 .bf16 := k0_pay67 (w411 v410) (w413 v412)
def w668 (v77 : Vec F S1x128x512 .f32) (v79 : Vec F S512x256 .f32) (v406 : Vec F S1x2x4x128x64 .bf16) (v408 : Vec F S1x2x4x128x64 .bf16) : FVec F S64x128 .f32 := k0_pay68 (w105 v77 v79) (w407 v406) (w409 v408)
def w670 (v77 : Vec F S1x128x512 .f32) (v79 : Vec F S512x256 .f32) (v406 : Vec F S1x2x4x128x64 .bf16) (v408 : Vec F S1x2x4x128x64 .bf16) : FVec F S64x1 .f32 := k0_pay69 (w105 v77 v79) (w407 v406) (w409 v408)
def w671 (v77 : Vec F S1x128x512 .f32) (v79 : Vec F S512x256 .f32) (v406 : Vec F S1x2x4x128x64 .bf16) (v408 : Vec F S1x2x4x128x64 .bf16) : FVec F S64x128 .f32 := k0_pay70 (w105 v77 v79) (w407 v406) (w409 v408)
def w675 (v77 : Vec F S1x128x512 .f32) (v79 : Vec F S512x256 .f32) (v406 : Vec F S1x2x4x128x64 .bf16) (v408 : Vec F S1x2x4x128x64 .bf16) : FVec F S64x1 .f32 := k0_pay72 (w668 v77 v79 v406 v408) (w671 v77 v79 v406 v408)
def w677 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay73 (w665 v410 v412) (w668 v77 v79 v406 v408) (w671 v77 v79 v406 v408)
def w692 (v77 : Vec F S1x128x512 .f32) (v79 : Vec F S512x256 .f32) (v406 : Vec F S1x2x4x128x64 .bf16) (v408 : Vec F S1x2x4x128x64 .bf16) : FVec F S64x1 .f32 := k0_pay75 (w107 v77 v79) (w407 v406) (w409 v408)
def w697 (v77 : Vec F S1x128x512 .f32) (v79 : Vec F S512x256 .f32) (v406 : Vec F S1x2x4x128x64 .bf16) (v408 : Vec F S1x2x4x128x64 .bf16) : FVec F S64x1 .f32 := k0_pay77 (w107 v77 v79) (w407 v406) (w409 v408)
def w699 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay78 (w107 v77 v79) (w407 v406) (w409 v408) (w411 v410) (w413 v412)
def w709 (v410 : Vec F S1x2x4x128x64 .bf16) (v412 : Vec F S1x2x4x128x64 .bf16) : FVec F S128x64 .bf16 := k0_pay79 (w411 v410) (w413 v412)
def w714 (v77 : Vec F S1x128x512 .f32) (v79 : Vec F S512x256 .f32) (v406 : Vec F S1x2x4x128x64 .bf16) (v408 : Vec F S1x2x4x128x64 .bf16) : FVec F S64x1 .f32 := k0_pay81 (w109 v77 v79) (w407 v406) (w409 v408)
def w719 (v77 : Vec F S1x128x512 .f32) (v79 : Vec F S512x256 .f32) (v406 : Vec F S1x2x4x128x64 .bf16) (v408 : Vec F S1x2x4x128x64 .bf16) : FVec F S64x1 .f32 := k0_pay83 (w109 v77 v79) (w407 v406) (w409 v408)
def w720 (v77 : Vec F S1x128x512 .f32) (v79 : Vec F S512x256 .f32) (v406 : Vec F S1x2x4x128x64 .bf16) (v408 : Vec F S1x2x4x128x64 .bf16) : FVec F S64x128 .bf16 := k0_pay84 (w109 v77 v79) (w407 v406) (w409 v408)
def w721 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay85 (w709 v410 v412) (w720 v77 v79 v406 v408)
def w736 (v77 : Vec F S1x128x512 .f32) (v79 : Vec F S512x256 .f32) (v406 : Vec F S1x2x4x128x64 .bf16) (v408 : Vec F S1x2x4x128x64 .bf16) : FVec F S64x1 .f32 := k0_pay87 (w111 v77 v79) (w407 v406) (w409 v408)
def w741 (v77 : Vec F S1x128x512 .f32) (v79 : Vec F S512x256 .f32) (v406 : Vec F S1x2x4x128x64 .bf16) (v408 : Vec F S1x2x4x128x64 .bf16) : FVec F S64x1 .f32 := k0_pay89 (w111 v77 v79) (w407 v406) (w409 v408)
def w743 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay90 (w111 v77 v79) (w407 v406) (w409 v408) (w411 v410) (w413 v412)
def w758 (v77 : Vec F S1x128x512 .f32) (v79 : Vec F S512x256 .f32) (v406 : Vec F S1x2x4x128x64 .bf16) (v408 : Vec F S1x2x4x128x64 .bf16) : FVec F S64x1 .f32 := k0_pay92 (w113 v77 v79) (w407 v406) (w409 v408)
def w763 (v77 : Vec F S1x128x512 .f32) (v79 : Vec F S512x256 .f32) (v406 : Vec F S1x2x4x128x64 .bf16) (v408 : Vec F S1x2x4x128x64 .bf16) : FVec F S64x1 .f32 := k0_pay94 (w113 v77 v79) (w407 v406) (w409 v408)
def w765 (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) : FVec F S64x64 .f32 := k0_pay95 (w113 v77 v79) (w407 v406) (w409 v408) (w411 v410) (w413 v412)
def w779 (v778 : Vec F S1x2x4x128x64 .bf16) : FVec F S2x4x128x64 .bf16 := k0_pay96 v778
def w781 (v780 : Vec F S1x2x4x128x64 .bf16) : FVec F S2x4x128x64 .bf16 := k0_pay97 v780
def w785 (v780 : Vec F S1x2x4x128x64 .bf16) : FVec F S64x64 .bf16 := k0_pay98 v780
def w788 (v72 : Vec F S1x128x512 .f32) (v74 : Vec F S512x256 .f32) (v778 : Vec F S1x2x4x128x64 .bf16) : FVec F S64x64 .f32 := k0_pay99 (w83 v72 v74) v778
def w790 (v72 : Vec F S1x128x512 .f32) (v74 : Vec F S512x256 .f32) (v778 : Vec F S1x2x4x128x64 .bf16) : FVec F S64x1 .f32 := k0_pay100 (w83 v72 v74) v778
def w820 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay101 (w122 v34 v72 v74) (w127 v34 v72 v74) (w129 v34 v53 v72 v74) (w428 v72 v74 v406 v408) (w433 v72 v74 v406 v408) (w435 v72 v74 v406 v408 v410 v412) (w785 v780) (w788 v72 v74 v778) (w790 v72 v74 v778)
def w834 (v72 : Vec F S1x128x512 .f32) (v74 : Vec F S512x256 .f32) (v778 : Vec F S1x2x4x128x64 .bf16) : FVec F S64x1 .f32 := k0_pay105 (w85 v72 v74) (w779 v778)
def w836 (v72 : Vec F S1x128x512 .f32) (v74 : Vec F S512x256 .f32) (v778 : Vec F S1x2x4x128x64 .bf16) (v780 : Vec F S1x2x4x128x64 .bf16) : FVec F S64x64 .f32 := k0_pay106 (w85 v72 v74) (w779 v778) (w781 v780)
def w840 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay108 (w85 v72 v74) (w138 v34 v72 v74) (w450 v72 v74 v406 v408) (w779 v778)
def w842 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay109 (w85 v72 v74) (w138 v34 v72 v74) (w450 v72 v74 v406 v408) (w779 v778)
def w843 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay110 (w85 v72 v74) (w138 v34 v72 v74) (w450 v72 v74 v406 v408) (w779 v778)
def w859 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay111 (w143 v34 v72 v74) (w145 v34 v53 v72 v74) (w455 v72 v74 v406 v408) (w457 v72 v74 v406 v408 v410 v412) (w834 v72 v74 v778) (w836 v72 v74 v778 v780) (w840 v34 v72 v74 v406 v408 v778) (w842 v34 v72 v74 v406 v408 v778) (w843 v34 v72 v74 v406 v408 v778)
def w898 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay112 (w87 v72 v74) (w154 v34 v72 v74) (w159 v34 v72 v74) (w161 v34 v53 v72 v74) (w472 v72 v74 v406 v408) (w477 v72 v74 v406 v408) (w479 v72 v74 v406 v408 v410 v412) (w779 v778) (w781 v780)
def w938 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x256 .f32 := k0_pay113 (w89 v72 v74) (w170 v34 v72 v74) (w175 v34 v72 v74) (w177 v34 v53 v72 v74) (w494 v72 v74 v406 v408) (w499 v72 v74 v406 v408) (w501 v72 v74 v406 v408 v410 v412) (w779 v778) (w781 v780) (w820 v34 v53 v72 v74 v406 v408 v410 v412 v778 v780) (w859 v34 v53 v72 v74 v406 v408 v410 v412 v778 v780) (w898 v34 v53 v72 v74 v406 v408 v410 v412 v778 v780)
def w942 (v780 : Vec F S1x2x4x128x64 .bf16) : FVec F S64x64 .bf16 := k0_pay114 (w781 v780)
def w947 (v72 : Vec F S1x128x512 .f32) (v74 : Vec F S512x256 .f32) (v778 : Vec F S1x2x4x128x64 .bf16) : FVec F S64x1 .f32 := k0_pay116 (w91 v72 v74) (w779 v778)
def w950 (v72 : Vec F S1x128x512 .f32) (v74 : Vec F S512x256 .f32) (v778 : Vec F S1x2x4x128x64 .bf16) : FVec F S64x64 .f32 := k0_pay117 (w91 v72 v74) (w779 v778)
def w977 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay118 (w186 v34 v72 v74) (w191 v34 v72 v74) (w193 v34 v53 v72 v74) (w516 v72 v74 v406 v408) (w521 v72 v74 v406 v408) (w523 v72 v74 v406 v408 v410 v412) (w942 v780) (w947 v72 v74 v778) (w950 v72 v74 v778)
def w991 (v72 : Vec F S1x128x512 .f32) (v74 : Vec F S512x256 .f32) (v778 : Vec F S1x2x4x128x64 .bf16) : FVec F S64x1 .f32 := k0_pay122 (w93 v72 v74) (w779 v778)
def w993 (v72 : Vec F S1x128x512 .f32) (v74 : Vec F S512x256 .f32) (v778 : Vec F S1x2x4x128x64 .bf16) (v780 : Vec F S1x2x4x128x64 .bf16) : FVec F S64x64 .f32 := k0_pay123 (w93 v72 v74) (w779 v778) (w781 v780)
def w997 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay125 (w93 v72 v74) (w202 v34 v72 v74) (w538 v72 v74 v406 v408) (w779 v778)
def w999 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay126 (w93 v72 v74) (w202 v34 v72 v74) (w538 v72 v74 v406 v408) (w779 v778)
def w1001 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay127 (w93 v72 v74) (w202 v34 v72 v74) (w538 v72 v74 v406 v408) (w779 v778)
def w1002 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay128 (w93 v72 v74) (w202 v34 v72 v74) (w207 v34 v72 v74) (w538 v72 v74 v406 v408) (w779 v778)
def w1003 (v34 : Vec F S2x128x4x64 .f32) (v72 : Vec F S1x128x512 .f32) (v74 : Vec F S512x256 .f32) (v406 : Vec F S1x2x4x128x64 .bf16) (v408 : Vec F S1x2x4x128x64 .bf16) (v778 : Vec F S1x2x4x128x64 .bf16) : FVec F S64x1 .f32 := k0_pay129 (w93 v72 v74) (w202 v34 v72 v74) (w538 v72 v74 v406 v408) (w543 v72 v74 v406 v408) (w779 v778)
def w1016 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay130 (w209 v34 v53 v72 v74) (w545 v72 v74 v406 v408 v410 v412) (w991 v72 v74 v778) (w993 v72 v74 v778 v780) (w997 v34 v72 v74 v406 v408 v778) (w999 v34 v72 v74 v406 v408 v778) (w1001 v34 v72 v74 v406 v408 v778) (w1002 v34 v72 v74 v406 v408 v778) (w1003 v34 v72 v74 v406 v408 v778)
def w1055 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay131 (w95 v72 v74) (w218 v34 v72 v74) (w223 v34 v72 v74) (w225 v34 v53 v72 v74) (w560 v72 v74 v406 v408) (w565 v72 v74 v406 v408) (w567 v72 v74 v406 v408 v410 v412) (w779 v778) (w781 v780)
def w1057 (v778 : Vec F S1x2x4x128x64 .bf16) : FVec F S64x64 .bf16 := k0_pay132 (w779 v778)
def w1058 (v780 : Vec F S1x2x4x128x64 .bf16) : FVec F S1x1x64x64 .bf16 := k0_pay133 (w781 v780)
def w1095 (v34 : Vec F S2x128x4x64 .f32) (v53 : Vec F S2x128x4x64 .f32) (v72 : Vec F S1x128x512 .f32) (v74 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x256 .f32 := k0_pay134 (w97 v72 v74) (w234 v34 v72 v74) (w239 v34 v72 v74) (w241 v34 v53 v72 v74) (w582 v72 v74 v406 v408) (w587 v72 v74 v406 v408) (w589 v72 v74 v406 v408 v410 v412) (w977 v34 v53 v72 v74 v406 v408 v410 v412 v778 v780) (w1016 v34 v53 v72 v74 v406 v408 v410 v412 v778 v780) (w1055 v34 v53 v72 v74 v406 v408 v410 v412 v778 v780) (w1057 v778) (w1058 v780)
def w1099 (v780 : Vec F S1x2x4x128x64 .bf16) : FVec F S64x64 .bf16 := k0_pay135 (w781 v780)
def w1104 (v77 : Vec F S1x128x512 .f32) (v79 : Vec F S512x256 .f32) (v778 : Vec F S1x2x4x128x64 .bf16) : FVec F S64x1 .f32 := k0_pay137 (w99 v77 v79) (w779 v778)
def w1107 (v77 : Vec F S1x128x512 .f32) (v79 : Vec F S512x256 .f32) (v778 : Vec F S1x2x4x128x64 .bf16) : FVec F S64x64 .f32 := k0_pay138 (w99 v77 v79) (w779 v778)
def w1109 (v77 : Vec F S1x128x512 .f32) (v79 : Vec F S512x256 .f32) (v778 : Vec F S1x2x4x128x64 .bf16) : FVec F S64x1 .f32 := k0_pay139 (w99 v77 v79) (w779 v778)
def w1134 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay140 (w250 v34 v77 v79) (w255 v34 v77 v79) (w257 v34 v53 v77 v79) (w604 v77 v79 v406 v408) (w609 v77 v79 v406 v408) (w611 v77 v79 v406 v408 v410 v412) (w1099 v780) (w1104 v77 v79 v778) (w1107 v77 v79 v778) (w1109 v77 v79 v778)
def w1150 (v77 : Vec F S1x128x512 .f32) (v79 : Vec F S512x256 .f32) (v778 : Vec F S1x2x4x128x64 .bf16) (v780 : Vec F S1x2x4x128x64 .bf16) : FVec F S64x64 .f32 := k0_pay144 (w101 v77 v79) (w779 v778) (w781 v780)
def w1154 (v34 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x1 .f32 := k0_pay146 (w101 v77 v79) (w266 v34 v77 v79) (w626 v77 v79 v406 v408) (w779 v778)
def w1156 (v34 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x1 .f32 := k0_pay147 (w101 v77 v79) (w266 v34 v77 v79) (w626 v77 v79 v406 v408) (w779 v778)
def w1158 (v34 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x1 .f32 := k0_pay148 (w101 v77 v79) (w266 v34 v77 v79) (w626 v77 v79 v406 v408) (w779 v778)
def w1163 (v34 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x1 .f32 := k0_pay149 (w101 v77 v79) (w266 v34 v77 v79) (w271 v34 v77 v79) (w626 v77 v79 v406 v408) (w631 v77 v79 v406 v408) (w779 v778)
def w1173 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay150 (w273 v34 v53 v77 v79) (w633 v77 v79 v406 v408 v410 v412) (w1150 v77 v79 v778 v780) (w1154 v34 v77 v79 v406 v408 v778) (w1156 v34 v77 v79 v406 v408 v778) (w1158 v34 v77 v79 v406 v408 v778) (w1163 v34 v77 v79 v406 v408 v778)
def w1212 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay151 (w103 v77 v79) (w282 v34 v77 v79) (w287 v34 v77 v79) (w289 v34 v53 v77 v79) (w648 v77 v79 v406 v408) (w653 v77 v79 v406 v408) (w655 v77 v79 v406 v408 v410 v412) (w779 v778) (w781 v780)
def w1216 (v780 : Vec F S1x2x4x128x64 .bf16) : FVec F S64x64 .bf16 := k0_pay152 (w781 v780)
def w1217 (v77 : Vec F S1x128x512 .f32) (v79 : Vec F S512x256 .f32) (v778 : Vec F S1x2x4x128x64 .bf16) : FVec F S64x64 .f32 := k0_pay153 (w105 v77 v79) (w779 v778)
def w1252 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x256 .f32 := k0_pay154 (w298 v34 v77 v79) (w303 v34 v77 v79) (w305 v34 v53 v77 v79) (w670 v77 v79 v406 v408) (w675 v77 v79 v406 v408) (w677 v77 v79 v406 v408 v410 v412) (w1134 v34 v53 v77 v79 v406 v408 v410 v412 v778 v780) (w1173 v34 v53 v77 v79 v406 v408 v410 v412 v778 v780) (w1212 v34 v53 v77 v79 v406 v408 v410 v412 v778 v780) (w1216 v780) (w1217 v77 v79 v778)
def w1261 (v77 : Vec F S1x128x512 .f32) (v79 : Vec F S512x256 .f32) (v778 : Vec F S1x2x4x128x64 .bf16) : FVec F S64x1 .f32 := k0_pay156 (w107 v77 v79) (w779 v778)
def w1266 (v77 : Vec F S1x128x512 .f32) (v79 : Vec F S512x256 .f32) (v778 : Vec F S1x2x4x128x64 .bf16) : FVec F S64x1 .f32 := k0_pay158 (w107 v77 v79) (w779 v778)
def w1268 (v77 : Vec F S1x128x512 .f32) (v79 : Vec F S512x256 .f32) (v778 : Vec F S1x2x4x128x64 .bf16) (v780 : Vec F S1x2x4x128x64 .bf16) : FVec F S64x64 .f32 := k0_pay159 (w107 v77 v79) (w779 v778) (w781 v780)
def w1291 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay160 (w314 v34 v77 v79) (w319 v34 v77 v79) (w321 v34 v53 v77 v79) (w692 v77 v79 v406 v408) (w697 v77 v79 v406 v408) (w699 v77 v79 v406 v408 v410 v412) (w1261 v77 v79 v778) (w1266 v77 v79 v778) (w1268 v77 v79 v778 v780)
def w1307 (v77 : Vec F S1x128x512 .f32) (v79 : Vec F S512x256 .f32) (v778 : Vec F S1x2x4x128x64 .bf16) (v780 : Vec F S1x2x4x128x64 .bf16) : FVec F S64x64 .f32 := k0_pay164 (w109 v77 v79) (w779 v778) (w781 v780)
def w1315 (v34 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x1 .f32 := k0_pay168 (w109 v77 v79) (w330 v34 v77 v79) (w714 v77 v79 v406 v408) (w779 v778)
def w1320 (v34 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x1 .f32 := k0_pay169 (w109 v77 v79) (w330 v34 v77 v79) (w335 v34 v77 v79) (w714 v77 v79 v406 v408) (w719 v77 v79 v406 v408) (w779 v778)
def w1322 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x64 .f32 := k0_pay170 (w109 v77 v79) (w330 v34 v77 v79) (w337 v34 v53 v77 v79) (w714 v77 v79 v406 v408) (w779 v778)
def w1323 (v34 : Vec F S2x128x4x64 .f32) (v77 : Vec F S1x128x512 .f32) (v79 : Vec F S512x256 .f32) (v406 : Vec F S1x2x4x128x64 .bf16) (v408 : Vec F S1x2x4x128x64 .bf16) (v778 : Vec F S1x2x4x128x64 .bf16) : FVec F S64x64 .f32 := k0_pay171 (w109 v77 v79) (w330 v34 v77 v79) (w714 v77 v79 v406 v408) (w779 v778)
def w1330 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay172 (w721 v77 v79 v406 v408 v410 v412) (w1307 v77 v79 v778 v780) (w1315 v34 v77 v79 v406 v408 v778) (w1320 v34 v77 v79 v406 v408 v778) (w1322 v34 v53 v77 v79 v406 v408 v778) (w1323 v34 v77 v79 v406 v408 v778)
def w1369 (v34 : Vec F S2x128x4x64 .f32) (v53 : Vec F S2x128x4x64 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) : FVec F S64x64 .f32 := k0_pay173 (w111 v77 v79) (w346 v34 v77 v79) (w351 v34 v77 v79) (w353 v34 v53 v77 v79) (w736 v77 v79 v406 v408) (w741 v77 v79 v406 v408) (w743 v77 v79 v406 v408 v410 v412) (w779 v778) (w781 v780)
def w1373 (v780 : Vec F S1x2x4x128x64 .bf16) : FVec F S64x64 .bf16 := k0_pay174 (w781 v780)
def w1376 (v77 : Vec F S1x128x512 .f32) (v79 : Vec F S512x256 .f32) (v778 : Vec F S1x2x4x128x64 .bf16) : FVec F S64x64 .f32 := k0_pay175 (w113 v77 v79) (w779 v778)
def outLo (v34 : Vec F S2x128x4x64 .f32) (v53 : Vec F S2x128x4x64 .f32) (v72 : Vec F S1x128x512 .f32) (v74 : Vec F S512x256 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) (v1411 : Vec F S256x512 .f32) : Vec F S1x128x512 .f32 := k0_pay177 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411
def outHi (v34 : Vec F S2x128x4x64 .f32) (v53 : Vec F S2x128x4x64 .f32) (v72 : Vec F S1x128x512 .f32) (v74 : Vec F S512x256 .f32) (v77 : Vec F S1x128x512 .f32) (v79 : Vec F S512x256 .f32) (v406 : Vec F S1x2x4x128x64 .bf16) (v408 : Vec F S1x2x4x128x64 .bf16) (v410 : Vec F S1x2x4x128x64 .bf16) (v412 : Vec F S1x2x4x128x64 .bf16) (v778 : Vec F S1x2x4x128x64 .bf16) (v780 : Vec F S1x2x4x128x64 .bf16) (v1411 : Vec F S256x512 .f32) : Vec F S1x128x512 .f32 := k0_pay178 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411

/-! ## The stretches without memory operations -/

section Parts
variable (arg0 : Memref sig .tc .vmem S2x128x512 .f32) (harg0 : arg0.IsWhole)
variable (arg1 : Memref sig .tc .vmem S512x256 .f32) (harg1 : arg1.IsWhole)
variable (arg2 : Memref sig .tc .vmem S2x128x4x64 .f32) (harg2 : arg2.IsWhole)
variable (arg3 : Memref sig .tc .vmem S2x128x4x64 .f32) (harg3 : arg3.IsWhole)
variable (arg4 : Memref sig .tc .vmem S256x512 .f32) (harg4 : arg4.IsWhole)
variable (arg5 : Memref sig .tc .vmem S2x128x512 .f32) (harg5 : arg5.IsWhole)
variable (arg6 : Memref sig .tc .vmem S4x2x4x128x64 .bf16) (harg6 : arg6.IsWhole)
variable (arg7 : Memref sig .tc .vmem S4x2x4x128x64 .bf16) (harg7 : arg7.IsWhole)
variable (arg8 : Memref sig .tc .vmem S2x4x128x64 .bf16) (harg8 : arg8.IsWhole)
variable (arg9 : Memref sig .tc .vmem S2x4x128x64 .bf16) (harg9 : arg9.IsWhole)
variable (arg10 : DmaSems sig S4x2) (arg11 : DmaSems sig S4x2)
variable (v34 : Vec F S2x128x4x64 .f32)
variable (v53 : Vec F S2x128x4x64 .f32)
variable (v72 : Vec F S1x128x512 .f32)
variable (v74 : Vec F S512x256 .f32)
variable (v77 : Vec F S1x128x512 .f32)
variable (v79 : Vec F S512x256 .f32)
variable (v406 : Vec F S1x2x4x128x64 .bf16)
variable (v408 : Vec F S1x2x4x128x64 .bf16)
variable (v410 : Vec F S1x2x4x128x64 .bf16)
variable (v412 : Vec F S1x2x4x128x64 .bf16)
variable (v778 : Vec F S1x2x4x128x64 .bf16)
variable (v780 : Vec F S1x2x4x128x64 .bf16)
variable (v1411 : Vec F S256x512 .f32)

theorem part104_eq : k0_part104 arg0 harg0 arg1 harg1 arg2 harg2 arg3 harg3 arg4 harg4 arg5 harg5 arg6 harg6 arg7 harg7 arg8 harg8 arg9 harg9 arg10 arg11 (w37 v34) (w56 v53) (w81 v77 v79) (w83 v72 v74) (w85 v72 v74) = pure ⟨(w101 v77 v79), (w103 v77 v79), (w105 v77 v79), (w107 v77 v79), (w109 v77 v79), (w111 v77 v79), (w113 v77 v79), (w122 v34 v72 v74), (w127 v34 v72 v74), (w129 v34 v53 v72 v74), (w138 v34 v72 v74), (w143 v34 v72 v74), (w145 v34 v53 v72 v74), (w147 v34), (w149 v53)⟩ := rfl
theorem part105_eq : k0_part105 arg0 harg0 arg1 harg1 arg2 harg2 arg3 harg3 arg4 harg4 arg5 harg5 arg6 harg6 arg7 harg7 arg8 harg8 arg9 harg9 arg10 arg11 (w37 v34) (w56 v53) (w87 v72 v74) (w89 v72 v74) (w91 v72 v74) (w147 v34) (w149 v53) = pure ⟨(w154 v34 v72 v74), (w159 v34 v72 v74), (w161 v34 v53 v72 v74), (w170 v34 v72 v74), (w175 v34 v72 v74), (w177 v34 v53 v72 v74), (w186 v34 v72 v74), (w191 v34 v72 v74), (w193 v34 v53 v72 v74), (w194 v34)⟩ := rfl
theorem part106_eq : k0_part106 arg0 harg0 arg1 harg1 arg2 harg2 arg3 harg3 arg4 harg4 arg5 harg5 arg6 harg6 arg7 harg7 arg8 harg8 arg9 harg9 arg10 arg11 (w37 v34) (w56 v53) (w93 v72 v74) (w95 v72 v74) (w97 v72 v74) (w194 v34) = pure ⟨(w202 v34 v72 v74), (w207 v34 v72 v74), (w209 v34 v53 v72 v74), (w218 v34 v72 v74), (w223 v34 v72 v74), (w225 v34 v53 v72 v74), (w229 v53), (w234 v34 v72 v74), (w239 v34 v72 v74), (w240 v34 v72 v74)⟩ := rfl
theorem part107_eq : k0_part107 arg0 harg0 arg1 harg1 arg2 harg2 arg3 harg3 arg4 harg4 arg5 harg5 arg6 harg6 arg7 harg7 arg8 harg8 arg9 harg9 arg10 arg11 (w37 v34) (w56 v53) (w99 v77 v79) (w101 v77 v79) (w103 v77 v79) (w229 v53) (w240 v34 v72 v74) = pure ⟨(w241 v34 v53 v72 v74), (w250 v34 v77 v79), (w255 v34 v77 v79), (w257 v34 v53 v77 v79), (w266 v34 v77 v79), (w271 v34 v77 v79), (w273 v34 v53 v77 v79), (w277 v53), (w282 v34 v77 v79), (w285 v34 v77 v79)⟩ := rfl
theorem part108_eq : k0_part108 arg0 harg0 arg1 harg1 arg2 harg2 arg3 harg3 arg4 harg4 arg5 harg5 arg6 harg6 arg7 harg7 arg8 harg8 arg9 harg9 arg10 arg11 (w37 v34) (w56 v53) (w105 v77 v79) (w107 v77 v79) (w109 v77 v79) (w277 v53) (w285 v34 v77 v79) = pure ⟨(w287 v34 v77 v79), (w289 v34 v53 v77 v79), (w298 v34 v77 v79), (w303 v34 v77 v79), (w305 v34 v53 v77 v79), (w314 v34 v77 v79), (w319 v34 v77 v79), (w321 v34 v53 v77 v79), (w325 v53), (w328 v34 v77 v79), (w330 v34 v77 v79), (w331 v34 v77 v79)⟩ := rfl
theorem part11_eq : k0_part11 arg0 harg0 arg1 harg1 arg2 harg2 arg3 harg3 arg4 harg4 arg5 harg5 arg6 harg6 arg7 harg7 arg8 harg8 arg9 harg9 arg10 arg11 (w85 v72 v74) (w87 v72 v74) (w407 v406) (w409 v408) (w411 v410) (w413 v412) (w423 v410 v412) (w426 v72 v74 v406 v408) = pure ⟨(w428 v72 v74 v406 v408), (w433 v72 v74 v406 v408), (w435 v72 v74 v406 v408 v410 v412), (w450 v72 v74 v406 v408), (w455 v72 v74 v406 v408), (w457 v72 v74 v406 v408 v410 v412), (w467 v410 v412), (w472 v72 v74 v406 v408), (w475 v72 v74 v406 v408)⟩ := rfl
theorem part12_eq : k0_part12 arg0 harg0 arg1 harg1 arg2 harg2 arg3 harg3 arg4 harg4 arg5 harg5 arg6 harg6 arg7 harg7 arg8 harg8 arg9 harg9 arg10 arg11 (w89 v72 v74) (w91 v72 v74) (w407 v406) (w409 v408) (w411 v410) (w413 v412) (w467 v410 v412) (w475 v72 v74 v406 v408) = pure ⟨(w477 v72 v74 v406 v408), (w479 v72 v74 v406 v408 v410 v412), (w494 v72 v74 v406 v408), (w499 v72 v74 v406 v408), (w501 v72 v74 v406 v408 v410 v412), (w516 v72 v74 v406 v408), (w521 v72 v74 v406 v408), (w523 v72 v74 v406 v408 v410 v412), (w524 v406)⟩ := rfl
theorem part13_eq : k0_part13 arg0 harg0 arg1 harg1 arg2 harg2 arg3 harg3 arg4 harg4 arg5 harg5 arg6 harg6 arg7 harg7 arg8 harg8 arg9 harg9 arg10 arg11 (w93 v72 v74) (w95 v72 v74) (w407 v406) (w409 v408) (w411 v410) (w413 v412) (w524 v406) = pure ⟨(w538 v72 v74 v406 v408), (w543 v72 v74 v406 v408), (w545 v72 v74 v406 v408 v410 v412), (w560 v72 v74 v406 v408), (w565 v72 v74 v406 v408), (w567 v72 v74 v406 v408 v410 v412), (w572 v406 v408), (w574 v410)⟩ := rfl
theorem part14_eq : k0_part14 arg0 harg0 arg1 harg1 arg2 harg2 arg3 harg3 arg4 harg4 arg5 harg5 arg6 harg6 arg7 harg7 arg8 harg8 arg9 harg9 arg10 arg11 (w97 v72 v74) (w99 v77 v79) (w101 v77 v79) (w407 v406) (w409 v408) (w411 v410) (w413 v412) (w572 v406 v408) (w574 v410) = pure ⟨(w582 v72 v74 v406 v408), (w587 v72 v74 v406 v408), (w589 v72 v74 v406 v408 v410 v412), (w604 v77 v79 v406 v408), (w609 v77 v79 v406 v408), (w611 v77 v79 v406 v408 v410 v412), (w621 v410 v412), (w622 v77 v79 v406 v408), (wScale : F .f32)⟩ := rfl
theorem part15_eq : k0_part15 arg0 harg0 arg1 harg1 arg2 harg2 arg3 harg3 arg4 harg4 arg5 harg5 arg6 harg6 arg7 harg7 arg8 harg8 arg9 harg9 arg10 arg11 (w103 v77 v79) (w105 v77 v79) (w407 v406) (w409 v408) (w411 v410) (w413 v412) (w621 v410 v412) (w622 v77 v79 v406 v408) (wScale : F .f32) = pure ⟨(w626 v77 v79 v406 v408), (w631 v77 v79 v406 v408), (w633 v77 v79 v406 v408 v410 v412), (w648 v77 v79 v406 v408), (w653 v77 v79 v406 v408), (w655 v77 v79 v406 v408 v410 v412), (w665 v410 v412), (w668 v77 v79 v406 v408), (w670 v77 v79 v406 v408), (w671 v77 v79 v406 v408)⟩ := rfl
theorem part16_eq : k0_part16 arg0 harg0 arg1 harg1 arg2 harg2 arg3 harg3 arg4 harg4 arg5 harg5 arg6 harg6 arg7 harg7 arg8 harg8 arg9 harg9 arg10 arg11 (w107 v77 v79) (w109 v77 v79) (w407 v406) (w409 v408) (w411 v410) (w413 v412) (w665 v410 v412) (w668 v77 v79 v406 v408) (w671 v77 v79 v406 v408) = pure ⟨(w675 v77 v79 v406 v408), (w677 v77 v79 v406 v408 v410 v412), (w692 v77 v79 v406 v408), (w697 v77 v79 v406 v408), (w699 v77 v79 v406 v408 v410 v412), (w709 v410 v412), (w714 v77 v79 v406 v408), (w719 v77 v79 v406 v408), (w720 v77 v79 v406 v408)⟩ := rfl
theorem part17_eq : k0_part17 arg0 harg0 arg1 harg1 arg2 harg2 arg3 harg3 arg4 harg4 arg5 harg5 arg6 harg6 arg7 harg7 arg8 harg8 arg9 harg9 arg10 arg11 (w111 v77 v79) (w113 v77 v79) (w407 v406) (w409 v408) (w411 v410) (w413 v412) (w709 v410 v412) (w720 v77 v79 v406 v408) = pure ⟨(w721 v77 v79 v406 v408 v410 v412), (w736 v77 v79 v406 v408), (w741 v77 v79 v406 v408), (w743 v77 v79 v406 v408 v410 v412), (w758 v77 v79 v406 v408), (w763 v77 v79 v406 v408), (w765 v77 v79 v406 v408 v410 v412)⟩ := rfl
theorem part19_eq : k0_part19 arg0 harg0 arg1 harg1 arg2 harg2 arg3 harg3 arg4 harg4 arg5 harg5 arg6 harg6 arg7 harg7 arg8 harg8 arg9 harg9 arg10 arg11 (w85 v72 v74) (w122 v34 v72 v74) (w127 v34 v72 v74) (w129 v34 v53 v72 v74) (w138 v34 v72 v74) (w428 v72 v74 v406 v408) (w433 v72 v74 v406 v408) (w435 v72 v74 v406 v408 v410 v412) (w450 v72 v74 v406 v408) (w779 v778) (w781 v780) (w785 v780) (w788 v72 v74 v778) (w790 v72 v74 v778) = pure ⟨(w820 v34 v53 v72 v74 v406 v408 v410 v412 v778 v780), (w834 v72 v74 v778), (w836 v72 v74 v778 v780), (w840 v34 v72 v74 v406 v408 v778), (w842 v34 v72 v74 v406 v408 v778), (w843 v34 v72 v74 v406 v408 v778)⟩ := rfl
theorem part20_eq : k0_part20 arg0 harg0 arg1 harg1 arg2 harg2 arg3 harg3 arg4 harg4 arg5 harg5 arg6 harg6 arg7 harg7 arg8 harg8 arg9 harg9 arg10 arg11 (w87 v72 v74) (w143 v34 v72 v74) (w145 v34 v53 v72 v74) (w154 v34 v72 v74) (w159 v34 v72 v74) (w161 v34 v53 v72 v74) (w455 v72 v74 v406 v408) (w457 v72 v74 v406 v408 v410 v412) (w472 v72 v74 v406 v408) (w477 v72 v74 v406 v408) (w479 v72 v74 v406 v408 v410 v412) (w779 v778) (w781 v780) (w834 v72 v74 v778) (w836 v72 v74 v778 v780) (w840 v34 v72 v74 v406 v408 v778) (w842 v34 v72 v74 v406 v408 v778) (w843 v34 v72 v74 v406 v408 v778) = pure ⟨(w859 v34 v53 v72 v74 v406 v408 v410 v412 v778 v780), (w898 v34 v53 v72 v74 v406 v408 v410 v412 v778 v780)⟩ := rfl
theorem part21_eq : k0_part21 arg0 harg0 arg1 harg1 arg2 harg2 arg3 harg3 arg4 harg4 arg5 harg5 arg6 harg6 arg7 harg7 arg8 harg8 arg9 harg9 arg10 arg11 (w89 v72 v74) (w91 v72 v74) (w170 v34 v72 v74) (w175 v34 v72 v74) (w177 v34 v53 v72 v74) (w494 v72 v74 v406 v408) (w499 v72 v74 v406 v408) (w501 v72 v74 v406 v408 v410 v412) (w779 v778) (w781 v780) (w820 v34 v53 v72 v74 v406 v408 v410 v412 v778 v780) (w859 v34 v53 v72 v74 v406 v408 v410 v412 v778 v780) (w898 v34 v53 v72 v74 v406 v408 v410 v412 v778 v780) = pure ⟨(w938 v34 v53 v72 v74 v406 v408 v410 v412 v778 v780), (w942 v780), (w947 v72 v74 v778), (w950 v72 v74 v778)⟩ := rfl
theorem part22_eq : k0_part22 arg0 harg0 arg1 harg1 arg2 harg2 arg3 harg3 arg4 harg4 arg5 harg5 arg6 harg6 arg7 harg7 arg8 harg8 arg9 harg9 arg10 arg11 (w93 v72 v74) (w186 v34 v72 v74) (w191 v34 v72 v74) (w193 v34 v53 v72 v74) (w202 v34 v72 v74) (w207 v34 v72 v74) (w516 v72 v74 v406 v408) (w521 v72 v74 v406 v408) (w523 v72 v74 v406 v408 v410 v412) (w538 v72 v74 v406 v408) (w543 v72 v74 v406 v408) (w779 v778) (w781 v780) (w942 v780) (w947 v72 v74 v778) (w950 v72 v74 v778) = pure ⟨(w977 v34 v53 v72 v74 v406 v408 v410 v412 v778 v780), (w991 v72 v74 v778), (w993 v72 v74 v778 v780), (w997 v34 v72 v74 v406 v408 v778), (w999 v34 v72 v74 v406 v408 v778), (w1001 v34 v72 v74 v406 v408 v778), (w1002 v34 v72 v74 v406 v408 v778), (w1003 v34 v72 v74 v406 v408 v778)⟩ := rfl
theorem part23_eq : k0_part23 arg0 harg0 arg1 harg1 arg2 harg2 arg3 harg3 arg4 harg4 arg5 harg5 arg6 harg6 arg7 harg7 arg8 harg8 arg9 harg9 arg10 arg11 (w95 v72 v74) (w209 v34 v53 v72 v74) (w218 v34 v72 v74) (w223 v34 v72 v74) (w225 v34 v53 v72 v74) (w545 v72 v74 v406 v408 v410 v412) (w560 v72 v74 v406 v408) (w565 v72 v74 v406 v408) (w567 v72 v74 v406 v408 v410 v412) (w779 v778) (w781 v780) (w991 v72 v74 v778) (w993 v72 v74 v778 v780) (w997 v34 v72 v74 v406 v408 v778) (w999 v34 v72 v74 v406 v408 v778) (w1001 v34 v72 v74 v406 v408 v778) (w1002 v34 v72 v74 v406 v408 v778) (w1003 v34 v72 v74 v406 v408 v778) = pure ⟨(w1016 v34 v53 v72 v74 v406 v408 v410 v412 v778 v780), (w1055 v34 v53 v72 v74 v406 v408 v410 v412 v778 v780), (w1057 v778), (w1058 v780)⟩ := rfl
theorem part24_eq : k0_part24 arg0 harg0 arg1 harg1 arg2 harg2 arg3 harg3 arg4 harg4 arg5 harg5 arg6 harg6 arg7 harg7 arg8 harg8 arg9 harg9 arg10 arg11 (w97 v72 v74) (w99 v77 v79) (w234 v34 v72 v74) (w239 v34 v72 v74) (w241 v34 v53 v72 v74) (w582 v72 v74 v406 v408) (w587 v72 v74 v406 v408) (w589 v72 v74 v406 v408 v410 v412) (w779 v778) (w781 v780) (w977 v34 v53 v72 v74 v406 v408 v410 v412 v778 v780) (w1016 v34 v53 v72 v74 v406 v408 v410 v412 v778 v780) (w1055 v34 v53 v72 v74 v406 v408 v410 v412 v778 v780) (w1057 v778) (w1058 v780) = pure ⟨(w1095 v34 v53 v72 v74 v406 v408 v410 v412 v778 v780), (w1099 v780), (w1104 v77 v79 v778), (w1107 v77 v79 v778), (w1109 v77 v79 v778)⟩ := rfl
theorem part25_eq : k0_part25 arg0 harg0 arg1 harg1 arg2 harg2 arg3 harg3 arg4 harg4 arg5 harg5 arg6 harg6 arg7 harg7 arg8 harg8 arg9 harg9 arg10 arg11 (w101 v77 v79) (w250 v34 v77 v79) (w255 v34 v77 v79) (w257 v34 v53 v77 v79) (w266 v34 v77 v79) (w271 v34 v77 v79) (w604 v77 v79 v406 v408) (w609 v77 v79 v406 v408) (w611 v77 v79 v406 v408 v410 v412) (w626 v77 v79 v406 v408) (w631 v77 v79 v406 v408) (w779 v778) (w781 v780) (w1099 v780) (w1104 v77 v79 v778) (w1107 v77 v79 v778) (w1109 v77 v79 v778) = pure ⟨(w1134 v34 v53 v77 v79 v406 v408 v410 v412 v778 v780), (w1150 v77 v79 v778 v780), (w1154 v34 v77 v79 v406 v408 v778), (w1156 v34 v77 v79 v406 v408 v778), (w1158 v34 v77 v79 v406 v408 v778), (w1163 v34 v77 v79 v406 v408 v778)⟩ := rfl
theorem part26_eq : k0_part26 arg0 harg0 arg1 harg1 arg2 harg2 arg3 harg3 arg4 harg4 arg5 harg5 arg6 harg6 arg7 harg7 arg8 harg8 arg9 harg9 arg10 arg11 (w103 v77 v79) (w105 v77 v79) (w273 v34 v53 v77 v79) (w282 v34 v77 v79) (w287 v34 v77 v79) (w289 v34 v53 v77 v79) (w633 v77 v79 v406 v408 v410 v412) (w648 v77 v79 v406 v408) (w653 v77 v79 v406 v408) (w655 v77 v79 v406 v408 v410 v412) (w779 v778) (w781 v780) (w1150 v77 v79 v778 v780) (w1154 v34 v77 v79 v406 v408 v778) (w1156 v34 v77 v79 v406 v408 v778) (w1158 v34 v77 v79 v406 v408 v778) (w1163 v34 v77 v79 v406 v408 v778) = pure ⟨(w1173 v34 v53 v77 v79 v406 v408 v410 v412 v778 v780), (w1212 v34 v53 v77 v79 v406 v408 v410 v412 v778 v780), (w1216 v780), (w1217 v77 v79 v778)⟩ := rfl
theorem part27_eq : k0_part27 arg0 harg0 arg1 harg1 arg2 harg2 arg3 harg3 arg4 harg4 arg5 harg5 arg6 harg6 arg7 harg7 arg8 harg8 arg9 harg9 arg10 arg11 (w107 v77 v79) (w298 v34 v77 v79) (w303 v34 v77 v79) (w305 v34 v53 v77 v79) (w670 v77 v79 v406 v408) (w675 v77 v79 v406 v408) (w677 v77 v79 v406 v408 v410 v412) (w779 v778) (w781 v780) (w1134 v34 v53 v77 v79 v406 v408 v410 v412 v778 v780) (w1173 v34 v53 v77 v79 v406 v408 v410 v412 v778 v780) (w1212 v34 v53 v77 v79 v406 v408 v410 v412 v778 v780) (w1216 v780) (w1217 v77 v79 v778) = pure ⟨(w1252 v34 v53 v77 v79 v406 v408 v410 v412 v778 v780), (w1261 v77 v79 v778), (w1266 v77 v79 v778), (w1268 v77 v79 v778 v780)⟩ := rfl
theorem part28_eq : k0_part28 arg0 harg0 arg1 harg1 arg2 harg2 arg3 harg3 arg4 harg4 arg5 harg5 arg6 harg6 arg7 harg7 arg8 harg8 arg9 harg9 arg10 arg11 (w109 v77 v79) (w314 v34 v77 v79) (w319 v34 v77 v79) (w321 v34 v53 v77 v79) (w330 v34 v77 v79) (w335 v34 v77 v79) (w337 v34 v53 v77 v79) (w692 v77 v79 v406 v408) (w697 v77 v79 v406 v408) (w699 v77 v79 v406 v408 v410 v412) (w714 v77 v79 v406 v408) (w719 v77 v79 v406 v408) (w779 v778) (w781 v780) (w1261 v77 v79 v778) (w1266 v77 v79 v778) (w1268 v77 v79 v778 v780) = pure ⟨(w1291 v34 v53 v77 v79 v406 v408 v410 v412 v778 v780), (w1307 v77 v79 v778 v780), (w1315 v34 v77 v79 v406 v408 v778), (w1320 v34 v77 v79 v406 v408 v778), (w1322 v34 v53 v77 v79 v406 v408 v778), (w1323 v34 v77 v79 v406 v408 v778)⟩ := rfl
theorem part29_eq : k0_part29 arg0 harg0 arg1 harg1 arg2 harg2 arg3 harg3 arg4 harg4 arg5 harg5 arg6 harg6 arg7 harg7 arg8 harg8 arg9 harg9 arg10 arg11 (w111 v77 v79) (w113 v77 v79) (w346 v34 v77 v79) (w351 v34 v77 v79) (w353 v34 v53 v77 v79) (w721 v77 v79 v406 v408 v410 v412) (w736 v77 v79 v406 v408) (w741 v77 v79 v406 v408) (w743 v77 v79 v406 v408 v410 v412) (w779 v778) (w781 v780) (w1307 v77 v79 v778 v780) (w1315 v34 v77 v79 v406 v408 v778) (w1320 v34 v77 v79 v406 v408 v778) (w1322 v34 v53 v77 v79 v406 v408 v778) (w1323 v34 v77 v79 v406 v408 v778) = pure ⟨(w1330 v34 v53 v77 v79 v406 v408 v410 v412 v778 v780), (w1369 v34 v53 v77 v79 v406 v408 v410 v412 v778 v780), (w1373 v780), (w1376 v77 v79 v778)⟩ := rfl
theorem part34_eq : k0_part34 arg0 harg0 arg1 harg1 arg2 harg2 arg3 harg3 arg4 harg4 arg5 harg5 arg6 harg6 arg7 harg7 arg8 harg8 arg9 harg9 arg10 arg11 (w85 v72 v74) (w87 v72 v74) (w407 v406) (w409 v408) (w411 v410) (w413 v412) (w423 v410 v412) (w426 v72 v74 v406 v408) = pure ⟨(w428 v72 v74 v406 v408), (w433 v72 v74 v406 v408), (w435 v72 v74 v406 v408 v410 v412), (w450 v72 v74 v406 v408), (w455 v72 v74 v406 v408), (w457 v72 v74 v406 v408 v410 v412), (w467 v410 v412), (w472 v72 v74 v406 v408), (w475 v72 v74 v406 v408)⟩ := rfl
theorem part35_eq : k0_part35 arg0 harg0 arg1 harg1 arg2 harg2 arg3 harg3 arg4 harg4 arg5 harg5 arg6 harg6 arg7 harg7 arg8 harg8 arg9 harg9 arg10 arg11 (w89 v72 v74) (w91 v72 v74) (w407 v406) (w409 v408) (w411 v410) (w413 v412) (w467 v410 v412) (w475 v72 v74 v406 v408) = pure ⟨(w477 v72 v74 v406 v408), (w479 v72 v74 v406 v408 v410 v412), (w494 v72 v74 v406 v408), (w499 v72 v74 v406 v408), (w501 v72 v74 v406 v408 v410 v412), (w516 v72 v74 v406 v408), (w521 v72 v74 v406 v408), (w523 v72 v74 v406 v408 v410 v412), (w524 v406)⟩ := rfl
theorem part36_eq : k0_part36 arg0 harg0 arg1 harg1 arg2 harg2 arg3 harg3 arg4 harg4 arg5 harg5 arg6 harg6 arg7 harg7 arg8 harg8 arg9 harg9 arg10 arg11 (w93 v72 v74) (w95 v72 v74) (w407 v406) (w409 v408) (w411 v410) (w413 v412) (w524 v406) = pure ⟨(w538 v72 v74 v406 v408), (w543 v72 v74 v406 v408), (w545 v72 v74 v406 v408 v410 v412), (w560 v72 v74 v406 v408), (w565 v72 v74 v406 v408), (w567 v72 v74 v406 v408 v410 v412), (w572 v406 v408), (w574 v410)⟩ := rfl
theorem part37_eq : k0_part37 arg0 harg0 arg1 harg1 arg2 harg2 arg3 harg3 arg4 harg4 arg5 harg5 arg6 harg6 arg7 harg7 arg8 harg8 arg9 harg9 arg10 arg11 (w97 v72 v74) (w99 v77 v79) (w101 v77 v79) (w407 v406) (w409 v408) (w411 v410) (w413 v412) (w572 v406 v408) (w574 v410) = pure ⟨(w582 v72 v74 v406 v408), (w587 v72 v74 v406 v408), (w589 v72 v74 v406 v408 v410 v412), (w604 v77 v79 v406 v408), (w609 v77 v79 v406 v408), (w611 v77 v79 v406 v408 v410 v412), (w621 v410 v412), (w622 v77 v79 v406 v408), (wScale : F .f32)⟩ := rfl
theorem part38_eq : k0_part38 arg0 harg0 arg1 harg1 arg2 harg2 arg3 harg3 arg4 harg4 arg5 harg5 arg6 harg6 arg7 harg7 arg8 harg8 arg9 harg9 arg10 arg11 (w103 v77 v79) (w105 v77 v79) (w407 v406) (w409 v408) (w411 v410) (w413 v412) (w621 v410 v412) (w622 v77 v79 v406 v408) (wScale : F .f32) = pure ⟨(w626 v77 v79 v406 v408), (w631 v77 v79 v406 v408), (w633 v77 v79 v406 v408 v410 v412), (w648 v77 v79 v406 v408), (w653 v77 v79 v406 v408), (w655 v77 v79 v406 v408 v410 v412), (w665 v410 v412), (w668 v77 v79 v406 v408), (w670 v77 v79 v406 v408), (w671 v77 v79 v406 v408)⟩ := rfl
theorem part39_eq : k0_part39 arg0 harg0 arg1 harg1 arg2 harg2 arg3 harg3 arg4 harg4 arg5 harg5 arg6 harg6 arg7 harg7 arg8 harg8 arg9 harg9 arg10 arg11 (w107 v77 v79) (w109 v77 v79) (w407 v406) (w409 v408) (w411 v410) (w413 v412) (w665 v410 v412) (w668 v77 v79 v406 v408) (w671 v77 v79 v406 v408) = pure ⟨(w675 v77 v79 v406 v408), (w677 v77 v79 v406 v408 v410 v412), (w692 v77 v79 v406 v408), (w697 v77 v79 v406 v408), (w699 v77 v79 v406 v408 v410 v412), (w709 v410 v412), (w714 v77 v79 v406 v408), (w719 v77 v79 v406 v408), (w720 v77 v79 v406 v408)⟩ := rfl
theorem part40_eq : k0_part40 arg0 harg0 arg1 harg1 arg2 harg2 arg3 harg3 arg4 harg4 arg5 harg5 arg6 harg6 arg7 harg7 arg8 harg8 arg9 harg9 arg10 arg11 (w111 v77 v79) (w113 v77 v79) (w407 v406) (w409 v408) (w411 v410) (w413 v412) (w709 v410 v412) (w720 v77 v79 v406 v408) = pure ⟨(w721 v77 v79 v406 v408 v410 v412), (w736 v77 v79 v406 v408), (w741 v77 v79 v406 v408), (w743 v77 v79 v406 v408 v410 v412), (w758 v77 v79 v406 v408), (w763 v77 v79 v406 v408), (w765 v77 v79 v406 v408 v410 v412)⟩ := rfl
theorem part42_eq : k0_part42 arg0 harg0 arg1 harg1 arg2 harg2 arg3 harg3 arg4 harg4 arg5 harg5 arg6 harg6 arg7 harg7 arg8 harg8 arg9 harg9 arg10 arg11 (w85 v72 v74) (w122 v34 v72 v74) (w127 v34 v72 v74) (w129 v34 v53 v72 v74) (w138 v34 v72 v74) (w428 v72 v74 v406 v408) (w433 v72 v74 v406 v408) (w435 v72 v74 v406 v408 v410 v412) (w450 v72 v74 v406 v408) (w779 v778) (w781 v780) (w785 v780) (w788 v72 v74 v778) (w790 v72 v74 v778) = pure ⟨(w820 v34 v53 v72 v74 v406 v408 v410 v412 v778 v780), (w834 v72 v74 v778), (w836 v72 v74 v778 v780), (w840 v34 v72 v74 v406 v408 v778), (w842 v34 v72 v74 v406 v408 v778), (w843 v34 v72 v74 v406 v408 v778)⟩ := rfl
theorem part43_eq : k0_part43 arg0 harg0 arg1 harg1 arg2 harg2 arg3 harg3 arg4 harg4 arg5 harg5 arg6 harg6 arg7 harg7 arg8 harg8 arg9 harg9 arg10 arg11 (w87 v72 v74) (w143 v34 v72 v74) (w145 v34 v53 v72 v74) (w154 v34 v72 v74) (w159 v34 v72 v74) (w161 v34 v53 v72 v74) (w455 v72 v74 v406 v408) (w457 v72 v74 v406 v408 v410 v412) (w472 v72 v74 v406 v408) (w477 v72 v74 v406 v408) (w479 v72 v74 v406 v408 v410 v412) (w779 v778) (w781 v780) (w834 v72 v74 v778) (w836 v72 v74 v778 v780) (w840 v34 v72 v74 v406 v408 v778) (w842 v34 v72 v74 v406 v408 v778) (w843 v34 v72 v74 v406 v408 v778) = pure ⟨(w859 v34 v53 v72 v74 v406 v408 v410 v412 v778 v780), (w898 v34 v53 v72 v74 v406 v408 v410 v412 v778 v780)⟩ := rfl
theorem part44_eq : k0_part44 arg0 harg0 arg1 harg1 arg2 harg2 arg3 harg3 arg4 harg4 arg5 harg5 arg6 harg6 arg7 harg7 arg8 harg8 arg9 harg9 arg10 arg11 (w89 v72 v74) (w91 v72 v74) (w170 v34 v72 v74) (w175 v34 v72 v74) (w177 v34 v53 v72 v74) (w494 v72 v74 v406 v408) (w499 v72 v74 v406 v408) (w501 v72 v74 v406 v408 v410 v412) (w779 v778) (w781 v780) (w820 v34 v53 v72 v74 v406 v408 v410 v412 v778 v780) (w859 v34 v53 v72 v74 v406 v408 v410 v412 v778 v780) (w898 v34 v53 v72 v74 v406 v408 v410 v412 v778 v780) = pure ⟨(w938 v34 v53 v72 v74 v406 v408 v410 v412 v778 v780), (w942 v780), (w947 v72 v74 v778), (w950 v72 v74 v778)⟩ := rfl
theorem part45_eq : k0_part45 arg0 harg0 arg1 harg1 arg2 harg2 arg3 harg3 arg4 harg4 arg5 harg5 arg6 harg6 arg7 harg7 arg8 harg8 arg9 harg9 arg10 arg11 (w93 v72 v74) (w186 v34 v72 v74) (w191 v34 v72 v74) (w193 v34 v53 v72 v74) (w202 v34 v72 v74) (w207 v34 v72 v74) (w516 v72 v74 v406 v408) (w521 v72 v74 v406 v408) (w523 v72 v74 v406 v408 v410 v412) (w538 v72 v74 v406 v408) (w543 v72 v74 v406 v408) (w779 v778) (w781 v780) (w942 v780) (w947 v72 v74 v778) (w950 v72 v74 v778) = pure ⟨(w977 v34 v53 v72 v74 v406 v408 v410 v412 v778 v780), (w991 v72 v74 v778), (w993 v72 v74 v778 v780), (w997 v34 v72 v74 v406 v408 v778), (w999 v34 v72 v74 v406 v408 v778), (w1001 v34 v72 v74 v406 v408 v778), (w1002 v34 v72 v74 v406 v408 v778), (w1003 v34 v72 v74 v406 v408 v778)⟩ := rfl
theorem part46_eq : k0_part46 arg0 harg0 arg1 harg1 arg2 harg2 arg3 harg3 arg4 harg4 arg5 harg5 arg6 harg6 arg7 harg7 arg8 harg8 arg9 harg9 arg10 arg11 (w95 v72 v74) (w209 v34 v53 v72 v74) (w218 v34 v72 v74) (w223 v34 v72 v74) (w225 v34 v53 v72 v74) (w545 v72 v74 v406 v408 v410 v412) (w560 v72 v74 v406 v408) (w565 v72 v74 v406 v408) (w567 v72 v74 v406 v408 v410 v412) (w779 v778) (w781 v780) (w991 v72 v74 v778) (w993 v72 v74 v778 v780) (w997 v34 v72 v74 v406 v408 v778) (w999 v34 v72 v74 v406 v408 v778) (w1001 v34 v72 v74 v406 v408 v778) (w1002 v34 v72 v74 v406 v408 v778) (w1003 v34 v72 v74 v406 v408 v778) = pure ⟨(w1016 v34 v53 v72 v74 v406 v408 v410 v412 v778 v780), (w1055 v34 v53 v72 v74 v406 v408 v410 v412 v778 v780), (w1057 v778), (w1058 v780)⟩ := rfl
theorem part47_eq : k0_part47 arg0 harg0 arg1 harg1 arg2 harg2 arg3 harg3 arg4 harg4 arg5 harg5 arg6 harg6 arg7 harg7 arg8 harg8 arg9 harg9 arg10 arg11 (w97 v72 v74) (w99 v77 v79) (w234 v34 v72 v74) (w239 v34 v72 v74) (w241 v34 v53 v72 v74) (w582 v72 v74 v406 v408) (w587 v72 v74 v406 v408) (w589 v72 v74 v406 v408 v410 v412) (w779 v778) (w781 v780) (w977 v34 v53 v72 v74 v406 v408 v410 v412 v778 v780) (w1016 v34 v53 v72 v74 v406 v408 v410 v412 v778 v780) (w1055 v34 v53 v72 v74 v406 v408 v410 v412 v778 v780) (w1057 v778) (w1058 v780) = pure ⟨(w1095 v34 v53 v72 v74 v406 v408 v410 v412 v778 v780), (w1099 v780), (w1104 v77 v79 v778), (w1107 v77 v79 v778), (w1109 v77 v79 v778)⟩ := rfl
theorem part48_eq : k0_part48 arg0 harg0 arg1 harg1 arg2 harg2 arg3 harg3 arg4 harg4 arg5 harg5 arg6 harg6 arg7 harg7 arg8 harg8 arg9 harg9 arg10 arg11 (w101 v77 v79) (w250 v34 v77 v79) (w255 v34 v77 v79) (w257 v34 v53 v77 v79) (w266 v34 v77 v79) (w271 v34 v77 v79) (w604 v77 v79 v406 v408) (w609 v77 v79 v406 v408) (w611 v77 v79 v406 v408 v410 v412) (w626 v77 v79 v406 v408) (w631 v77 v79 v406 v408) (w779 v778) (w781 v780) (w1099 v780) (w1104 v77 v79 v778) (w1107 v77 v79 v778) (w1109 v77 v79 v778) = pure ⟨(w1134 v34 v53 v77 v79 v406 v408 v410 v412 v778 v780), (w1150 v77 v79 v778 v780), (w1154 v34 v77 v79 v406 v408 v778), (w1156 v34 v77 v79 v406 v408 v778), (w1158 v34 v77 v79 v406 v408 v778), (w1163 v34 v77 v79 v406 v408 v778)⟩ := rfl
theorem part49_eq : k0_part49 arg0 harg0 arg1 harg1 arg2 harg2 arg3 harg3 arg4 harg4 arg5 harg5 arg6 harg6 arg7 harg7 arg8 harg8 arg9 harg9 arg10 arg11 (w103 v77 v79) (w105 v77 v79) (w273 v34 v53 v77 v79) (w282 v34 v77 v79) (w287 v34 v77 v79) (w289 v34 v53 v77 v79) (w633 v77 v79 v406 v408 v410 v412) (w648 v77 v79 v406 v408) (w653 v77 v79 v406 v408) (w655 v77 v79 v406 v408 v410 v412) (w779 v778) (w781 v780) (w1150 v77 v79 v778 v780) (w1154 v34 v77 v79 v406 v408 v778) (w1156 v34 v77 v79 v406 v408 v778) (w1158 v34 v77 v79 v406 v408 v778) (w1163 v34 v77 v79 v406 v408 v778) = pure ⟨(w1173 v34 v53 v77 v79 v406 v408 v410 v412 v778 v780), (w1212 v34 v53 v77 v79 v406 v408 v410 v412 v778 v780), (w1216 v780), (w1217 v77 v79 v778)⟩ := rfl
theorem part50_eq : k0_part50 arg0 harg0 arg1 harg1 arg2 harg2 arg3 harg3 arg4 harg4 arg5 harg5 arg6 harg6 arg7 harg7 arg8 harg8 arg9 harg9 arg10 arg11 (w107 v77 v79) (w298 v34 v77 v79) (w303 v34 v77 v79) (w305 v34 v53 v77 v79) (w670 v77 v79 v406 v408) (w675 v77 v79 v406 v408) (w677 v77 v79 v406 v408 v410 v412) (w779 v778) (w781 v780) (w1134 v34 v53 v77 v79 v406 v408 v410 v412 v778 v780) (w1173 v34 v53 v77 v79 v406 v408 v410 v412 v778 v780) (w1212 v34 v53 v77 v79 v406 v408 v410 v412 v778 v780) (w1216 v780) (w1217 v77 v79 v778) = pure ⟨(w1252 v34 v53 v77 v79 v406 v408 v410 v412 v778 v780), (w1261 v77 v79 v778), (w1266 v77 v79 v778), (w1268 v77 v79 v778 v780)⟩ := rfl
theorem part51_eq : k0_part51 arg0 harg0 arg1 harg1 arg2 harg2 arg3 harg3 arg4 harg4 arg5 harg5 arg6 harg6 arg7 harg7 arg8 harg8 arg9 harg9 arg10 arg11 (w109 v77 v79) (w314 v34 v77 v79) (w319 v34 v77 v79) (w321 v34 v53 v77 v79) (w330 v34 v77 v79) (w335 v34 v77 v79) (w337 v34 v53 v77 v79) (w692 v77 v79 v406 v408) (w697 v77 v79 v406 v408) (w699 v77 v79 v406 v408 v410 v412) (w714 v77 v79 v406 v408) (w719 v77 v79 v406 v408) (w779 v778) (w781 v780) (w1261 v77 v79 v778) (w1266 v77 v79 v778) (w1268 v77 v79 v778 v780) = pure ⟨(w1291 v34 v53 v77 v79 v406 v408 v410 v412 v778 v780), (w1307 v77 v79 v778 v780), (w1315 v34 v77 v79 v406 v408 v778), (w1320 v34 v77 v79 v406 v408 v778), (w1322 v34 v53 v77 v79 v406 v408 v778), (w1323 v34 v77 v79 v406 v408 v778)⟩ := rfl
theorem part52_eq : k0_part52 arg0 harg0 arg1 harg1 arg2 harg2 arg3 harg3 arg4 harg4 arg5 harg5 arg6 harg6 arg7 harg7 arg8 harg8 arg9 harg9 arg10 arg11 (w111 v77 v79) (w113 v77 v79) (w346 v34 v77 v79) (w351 v34 v77 v79) (w353 v34 v53 v77 v79) (w721 v77 v79 v406 v408 v410 v412) (w736 v77 v79 v406 v408) (w741 v77 v79 v406 v408) (w743 v77 v79 v406 v408 v410 v412) (w779 v778) (w781 v780) (w1307 v77 v79 v778 v780) (w1315 v34 v77 v79 v406 v408 v778) (w1320 v34 v77 v79 v406 v408 v778) (w1322 v34 v53 v77 v79 v406 v408 v778) (w1323 v34 v77 v79 v406 v408 v778) = pure ⟨(w1330 v34 v53 v77 v79 v406 v408 v410 v412 v778 v780), (w1369 v34 v53 v77 v79 v406 v408 v410 v412 v778 v780), (w1373 v780), (w1376 v77 v79 v778)⟩ := rfl
theorem part57_eq : k0_part57 arg0 harg0 arg1 harg1 arg2 harg2 arg3 harg3 arg4 harg4 arg5 harg5 arg6 harg6 arg7 harg7 arg8 harg8 arg9 harg9 arg10 arg11 (w85 v72 v74) (w87 v72 v74) (w407 v406) (w409 v408) (w411 v410) (w413 v412) (w423 v410 v412) (w426 v72 v74 v406 v408) = pure ⟨(w428 v72 v74 v406 v408), (w433 v72 v74 v406 v408), (w435 v72 v74 v406 v408 v410 v412), (w450 v72 v74 v406 v408), (w455 v72 v74 v406 v408), (w457 v72 v74 v406 v408 v410 v412), (w467 v410 v412), (w472 v72 v74 v406 v408), (w475 v72 v74 v406 v408)⟩ := rfl
theorem part58_eq : k0_part58 arg0 harg0 arg1 harg1 arg2 harg2 arg3 harg3 arg4 harg4 arg5 harg5 arg6 harg6 arg7 harg7 arg8 harg8 arg9 harg9 arg10 arg11 (w89 v72 v74) (w91 v72 v74) (w407 v406) (w409 v408) (w411 v410) (w413 v412) (w467 v410 v412) (w475 v72 v74 v406 v408) = pure ⟨(w477 v72 v74 v406 v408), (w479 v72 v74 v406 v408 v410 v412), (w494 v72 v74 v406 v408), (w499 v72 v74 v406 v408), (w501 v72 v74 v406 v408 v410 v412), (w516 v72 v74 v406 v408), (w521 v72 v74 v406 v408), (w523 v72 v74 v406 v408 v410 v412), (w524 v406)⟩ := rfl
theorem part59_eq : k0_part59 arg0 harg0 arg1 harg1 arg2 harg2 arg3 harg3 arg4 harg4 arg5 harg5 arg6 harg6 arg7 harg7 arg8 harg8 arg9 harg9 arg10 arg11 (w93 v72 v74) (w95 v72 v74) (w407 v406) (w409 v408) (w411 v410) (w413 v412) (w524 v406) = pure ⟨(w538 v72 v74 v406 v408), (w543 v72 v74 v406 v408), (w545 v72 v74 v406 v408 v410 v412), (w560 v72 v74 v406 v408), (w565 v72 v74 v406 v408), (w567 v72 v74 v406 v408 v410 v412), (w572 v406 v408), (w574 v410)⟩ := rfl
theorem part60_eq : k0_part60 arg0 harg0 arg1 harg1 arg2 harg2 arg3 harg3 arg4 harg4 arg5 harg5 arg6 harg6 arg7 harg7 arg8 harg8 arg9 harg9 arg10 arg11 (w97 v72 v74) (w99 v77 v79) (w101 v77 v79) (w407 v406) (w409 v408) (w411 v410) (w413 v412) (w572 v406 v408) (w574 v410) = pure ⟨(w582 v72 v74 v406 v408), (w587 v72 v74 v406 v408), (w589 v72 v74 v406 v408 v410 v412), (w604 v77 v79 v406 v408), (w609 v77 v79 v406 v408), (w611 v77 v79 v406 v408 v410 v412), (w621 v410 v412), (w622 v77 v79 v406 v408), (wScale : F .f32)⟩ := rfl
theorem part61_eq : k0_part61 arg0 harg0 arg1 harg1 arg2 harg2 arg3 harg3 arg4 harg4 arg5 harg5 arg6 harg6 arg7 harg7 arg8 harg8 arg9 harg9 arg10 arg11 (w103 v77 v79) (w105 v77 v79) (w407 v406) (w409 v408) (w411 v410) (w413 v412) (w621 v410 v412) (w622 v77 v79 v406 v408) (wScale : F .f32) = pure ⟨(w626 v77 v79 v406 v408), (w631 v77 v79 v406 v408), (w633 v77 v79 v406 v408 v410 v412), (w648 v77 v79 v406 v408), (w653 v77 v79 v406 v408), (w655 v77 v79 v406 v408 v410 v412), (w665 v410 v412), (w668 v77 v79 v406 v408), (w670 v77 v79 v406 v408), (w671 v77 v79 v406 v408)⟩ := rfl
theorem part62_eq : k0_part62 arg0 harg0 arg1 harg1 arg2 harg2 arg3 harg3 arg4 harg4 arg5 harg5 arg6 harg6 arg7 harg7 arg8 harg8 arg9 harg9 arg10 arg11 (w107 v77 v79) (w109 v77 v79) (w407 v406) (w409 v408) (w411 v410) (w413 v412) (w665 v410 v412) (w668 v77 v79 v406 v408) (w671 v77 v79 v406 v408) = pure ⟨(w675 v77 v79 v406 v408), (w677 v77 v79 v406 v408 v410 v412), (w692 v77 v79 v406 v408), (w697 v77 v79 v406 v408), (w699 v77 v79 v406 v408 v410 v412), (w709 v410 v412), (w714 v77 v79 v406 v408), (w719 v77 v79 v406 v408), (w720 v77 v79 v406 v408)⟩ := rfl
theorem part63_eq : k0_part63 arg0 harg0 arg1 harg1 arg2 harg2 arg3 harg3 arg4 harg4 arg5 harg5 arg6 harg6 arg7 harg7 arg8 harg8 arg9 harg9 arg10 arg11 (w111 v77 v79) (w113 v77 v79) (w407 v406) (w409 v408) (w411 v410) (w413 v412) (w709 v410 v412) (w720 v77 v79 v406 v408) = pure ⟨(w721 v77 v79 v406 v408 v410 v412), (w736 v77 v79 v406 v408), (w741 v77 v79 v406 v408), (w743 v77 v79 v406 v408 v410 v412), (w758 v77 v79 v406 v408), (w763 v77 v79 v406 v408), (w765 v77 v79 v406 v408 v410 v412)⟩ := rfl
theorem part65_eq : k0_part65 arg0 harg0 arg1 harg1 arg2 harg2 arg3 harg3 arg4 harg4 arg5 harg5 arg6 harg6 arg7 harg7 arg8 harg8 arg9 harg9 arg10 arg11 (w85 v72 v74) (w122 v34 v72 v74) (w127 v34 v72 v74) (w129 v34 v53 v72 v74) (w138 v34 v72 v74) (w428 v72 v74 v406 v408) (w433 v72 v74 v406 v408) (w435 v72 v74 v406 v408 v410 v412) (w450 v72 v74 v406 v408) (w779 v778) (w781 v780) (w785 v780) (w788 v72 v74 v778) (w790 v72 v74 v778) = pure ⟨(w820 v34 v53 v72 v74 v406 v408 v410 v412 v778 v780), (w834 v72 v74 v778), (w836 v72 v74 v778 v780), (w840 v34 v72 v74 v406 v408 v778), (w842 v34 v72 v74 v406 v408 v778), (w843 v34 v72 v74 v406 v408 v778)⟩ := rfl
theorem part66_eq : k0_part66 arg0 harg0 arg1 harg1 arg2 harg2 arg3 harg3 arg4 harg4 arg5 harg5 arg6 harg6 arg7 harg7 arg8 harg8 arg9 harg9 arg10 arg11 (w87 v72 v74) (w143 v34 v72 v74) (w145 v34 v53 v72 v74) (w154 v34 v72 v74) (w159 v34 v72 v74) (w161 v34 v53 v72 v74) (w455 v72 v74 v406 v408) (w457 v72 v74 v406 v408 v410 v412) (w472 v72 v74 v406 v408) (w477 v72 v74 v406 v408) (w479 v72 v74 v406 v408 v410 v412) (w779 v778) (w781 v780) (w834 v72 v74 v778) (w836 v72 v74 v778 v780) (w840 v34 v72 v74 v406 v408 v778) (w842 v34 v72 v74 v406 v408 v778) (w843 v34 v72 v74 v406 v408 v778) = pure ⟨(w859 v34 v53 v72 v74 v406 v408 v410 v412 v778 v780), (w898 v34 v53 v72 v74 v406 v408 v410 v412 v778 v780)⟩ := rfl
theorem part67_eq : k0_part67 arg0 harg0 arg1 harg1 arg2 harg2 arg3 harg3 arg4 harg4 arg5 harg5 arg6 harg6 arg7 harg7 arg8 harg8 arg9 harg9 arg10 arg11 (w89 v72 v74) (w91 v72 v74) (w170 v34 v72 v74) (w175 v34 v72 v74) (w177 v34 v53 v72 v74) (w494 v72 v74 v406 v408) (w499 v72 v74 v406 v408) (w501 v72 v74 v406 v408 v410 v412) (w779 v778) (w781 v780) (w820 v34 v53 v72 v74 v406 v408 v410 v412 v778 v780) (w859 v34 v53 v72 v74 v406 v408 v410 v412 v778 v780) (w898 v34 v53 v72 v74 v406 v408 v410 v412 v778 v780) = pure ⟨(w938 v34 v53 v72 v74 v406 v408 v410 v412 v778 v780), (w942 v780), (w947 v72 v74 v778), (w950 v72 v74 v778)⟩ := rfl
theorem part68_eq : k0_part68 arg0 harg0 arg1 harg1 arg2 harg2 arg3 harg3 arg4 harg4 arg5 harg5 arg6 harg6 arg7 harg7 arg8 harg8 arg9 harg9 arg10 arg11 (w93 v72 v74) (w186 v34 v72 v74) (w191 v34 v72 v74) (w193 v34 v53 v72 v74) (w202 v34 v72 v74) (w207 v34 v72 v74) (w516 v72 v74 v406 v408) (w521 v72 v74 v406 v408) (w523 v72 v74 v406 v408 v410 v412) (w538 v72 v74 v406 v408) (w543 v72 v74 v406 v408) (w779 v778) (w781 v780) (w942 v780) (w947 v72 v74 v778) (w950 v72 v74 v778) = pure ⟨(w977 v34 v53 v72 v74 v406 v408 v410 v412 v778 v780), (w991 v72 v74 v778), (w993 v72 v74 v778 v780), (w997 v34 v72 v74 v406 v408 v778), (w999 v34 v72 v74 v406 v408 v778), (w1001 v34 v72 v74 v406 v408 v778), (w1002 v34 v72 v74 v406 v408 v778), (w1003 v34 v72 v74 v406 v408 v778)⟩ := rfl
theorem part69_eq : k0_part69 arg0 harg0 arg1 harg1 arg2 harg2 arg3 harg3 arg4 harg4 arg5 harg5 arg6 harg6 arg7 harg7 arg8 harg8 arg9 harg9 arg10 arg11 (w95 v72 v74) (w209 v34 v53 v72 v74) (w218 v34 v72 v74) (w223 v34 v72 v74) (w225 v34 v53 v72 v74) (w545 v72 v74 v406 v408 v410 v412) (w560 v72 v74 v406 v408) (w565 v72 v74 v406 v408) (w567 v72 v74 v406 v408 v410 v412) (w779 v778) (w781 v780) (w991 v72 v74 v778) (w993 v72 v74 v778 v780) (w997 v34 v72 v74 v406 v408 v778) (w999 v34 v72 v74 v406 v408 v778) (w1001 v34 v72 v74 v406 v408 v778) (w1002 v34 v72 v74 v406 v408 v778) (w1003 v34 v72 v74 v406 v408 v778) = pure ⟨(w1016 v34 v53 v72 v74 v406 v408 v410 v412 v778 v780), (w1055 v34 v53 v72 v74 v406 v408 v410 v412 v778 v780), (w1057 v778), (w1058 v780)⟩ := rfl
theorem part70_eq : k0_part70 arg0 harg0 arg1 harg1 arg2 harg2 arg3 harg3 arg4 harg4 arg5 harg5 arg6 harg6 arg7 harg7 arg8 harg8 arg9 harg9 arg10 arg11 (w97 v72 v74) (w99 v77 v79) (w234 v34 v72 v74) (w239 v34 v72 v74) (w241 v34 v53 v72 v74) (w582 v72 v74 v406 v408) (w587 v72 v74 v406 v408) (w589 v72 v74 v406 v408 v410 v412) (w779 v778) (w781 v780) (w977 v34 v53 v72 v74 v406 v408 v410 v412 v778 v780) (w1016 v34 v53 v72 v74 v406 v408 v410 v412 v778 v780) (w1055 v34 v53 v72 v74 v406 v408 v410 v412 v778 v780) (w1057 v778) (w1058 v780) = pure ⟨(w1095 v34 v53 v72 v74 v406 v408 v410 v412 v778 v780), (w1099 v780), (w1104 v77 v79 v778), (w1107 v77 v79 v778), (w1109 v77 v79 v778)⟩ := rfl
theorem part71_eq : k0_part71 arg0 harg0 arg1 harg1 arg2 harg2 arg3 harg3 arg4 harg4 arg5 harg5 arg6 harg6 arg7 harg7 arg8 harg8 arg9 harg9 arg10 arg11 (w101 v77 v79) (w250 v34 v77 v79) (w255 v34 v77 v79) (w257 v34 v53 v77 v79) (w266 v34 v77 v79) (w271 v34 v77 v79) (w604 v77 v79 v406 v408) (w609 v77 v79 v406 v408) (w611 v77 v79 v406 v408 v410 v412) (w626 v77 v79 v406 v408) (w631 v77 v79 v406 v408) (w779 v778) (w781 v780) (w1099 v780) (w1104 v77 v79 v778) (w1107 v77 v79 v778) (w1109 v77 v79 v778) = pure ⟨(w1134 v34 v53 v77 v79 v406 v408 v410 v412 v778 v780), (w1150 v77 v79 v778 v780), (w1154 v34 v77 v79 v406 v408 v778), (w1156 v34 v77 v79 v406 v408 v778), (w1158 v34 v77 v79 v406 v408 v778), (w1163 v34 v77 v79 v406 v408 v778)⟩ := rfl
theorem part72_eq : k0_part72 arg0 harg0 arg1 harg1 arg2 harg2 arg3 harg3 arg4 harg4 arg5 harg5 arg6 harg6 arg7 harg7 arg8 harg8 arg9 harg9 arg10 arg11 (w103 v77 v79) (w105 v77 v79) (w273 v34 v53 v77 v79) (w282 v34 v77 v79) (w287 v34 v77 v79) (w289 v34 v53 v77 v79) (w633 v77 v79 v406 v408 v410 v412) (w648 v77 v79 v406 v408) (w653 v77 v79 v406 v408) (w655 v77 v79 v406 v408 v410 v412) (w779 v778) (w781 v780) (w1150 v77 v79 v778 v780) (w1154 v34 v77 v79 v406 v408 v778) (w1156 v34 v77 v79 v406 v408 v778) (w1158 v34 v77 v79 v406 v408 v778) (w1163 v34 v77 v79 v406 v408 v778) = pure ⟨(w1173 v34 v53 v77 v79 v406 v408 v410 v412 v778 v780), (w1212 v34 v53 v77 v79 v406 v408 v410 v412 v778 v780), (w1216 v780), (w1217 v77 v79 v778)⟩ := rfl
theorem part73_eq : k0_part73 arg0 harg0 arg1 harg1 arg2 harg2 arg3 harg3 arg4 harg4 arg5 harg5 arg6 harg6 arg7 harg7 arg8 harg8 arg9 harg9 arg10 arg11 (w107 v77 v79) (w298 v34 v77 v79) (w303 v34 v77 v79) (w305 v34 v53 v77 v79) (w670 v77 v79 v406 v408) (w675 v77 v79 v406 v408) (w677 v77 v79 v406 v408 v410 v412) (w779 v778) (w781 v780) (w1134 v34 v53 v77 v79 v406 v408 v410 v412 v778 v780) (w1173 v34 v53 v77 v79 v406 v408 v410 v412 v778 v780) (w1212 v34 v53 v77 v79 v406 v408 v410 v412 v778 v780) (w1216 v780) (w1217 v77 v79 v778) = pure ⟨(w1252 v34 v53 v77 v79 v406 v408 v410 v412 v778 v780), (w1261 v77 v79 v778), (w1266 v77 v79 v778), (w1268 v77 v79 v778 v780)⟩ := rfl
theorem part74_eq : k0_part74 arg0 harg0 arg1 harg1 arg2 harg2 arg3 harg3 arg4 harg4 arg5 harg5 arg6 harg6 arg7 harg7 arg8 harg8 arg9 harg9 arg10 arg11 (w109 v77 v79) (w314 v34 v77 v79) (w319 v34 v77 v79) (w321 v34 v53 v77 v79) (w330 v34 v77 v79) (w335 v34 v77 v79) (w337 v34 v53 v77 v79) (w692 v77 v79 v406 v408) (w697 v77 v79 v406 v408) (w699 v77 v79 v406 v408 v410 v412) (w714 v77 v79 v406 v408) (w719 v77 v79 v406 v408) (w779 v778) (w781 v780) (w1261 v77 v79 v778) (w1266 v77 v79 v778) (w1268 v77 v79 v778 v780) = pure ⟨(w1291 v34 v53 v77 v79 v406 v408 v410 v412 v778 v780), (w1307 v77 v79 v778 v780), (w1315 v34 v77 v79 v406 v408 v778), (w1320 v34 v77 v79 v406 v408 v778), (w1322 v34 v53 v77 v79 v406 v408 v778), (w1323 v34 v77 v79 v406 v408 v778)⟩ := rfl
theorem part75_eq : k0_part75 arg0 harg0 arg1 harg1 arg2 harg2 arg3 harg3 arg4 harg4 arg5 harg5 arg6 harg6 arg7 harg7 arg8 harg8 arg9 harg9 arg10 arg11 (w111 v77 v79) (w113 v77 v79) (w346 v34 v77 v79) (w351 v34 v77 v79) (w353 v34 v53 v77 v79) (w721 v77 v79 v406 v408 v410 v412) (w736 v77 v79 v406 v408) (w741 v77 v79 v406 v408) (w743 v77 v79 v406 v408 v410 v412) (w779 v778) (w781 v780) (w1307 v77 v79 v778 v780) (w1315 v34 v77 v79 v406 v408 v778) (w1320 v34 v77 v79 v406 v408 v778) (w1322 v34 v53 v77 v79 v406 v408 v778) (w1323 v34 v77 v79 v406 v408 v778) = pure ⟨(w1330 v34 v53 v77 v79 v406 v408 v410 v412 v778 v780), (w1369 v34 v53 v77 v79 v406 v408 v410 v412 v778 v780), (w1373 v780), (w1376 v77 v79 v778)⟩ := rfl
theorem part80_eq : k0_part80 arg0 harg0 arg1 harg1 arg2 harg2 arg3 harg3 arg4 harg4 arg5 harg5 arg6 harg6 arg7 harg7 arg8 harg8 arg9 harg9 arg10 arg11 (w85 v72 v74) (w87 v72 v74) (w407 v406) (w409 v408) (w411 v410) (w413 v412) (w423 v410 v412) (w426 v72 v74 v406 v408) = pure ⟨(w428 v72 v74 v406 v408), (w433 v72 v74 v406 v408), (w435 v72 v74 v406 v408 v410 v412), (w450 v72 v74 v406 v408), (w455 v72 v74 v406 v408), (w457 v72 v74 v406 v408 v410 v412), (w467 v410 v412), (w472 v72 v74 v406 v408), (w475 v72 v74 v406 v408)⟩ := rfl
theorem part81_eq : k0_part81 arg0 harg0 arg1 harg1 arg2 harg2 arg3 harg3 arg4 harg4 arg5 harg5 arg6 harg6 arg7 harg7 arg8 harg8 arg9 harg9 arg10 arg11 (w89 v72 v74) (w91 v72 v74) (w407 v406) (w409 v408) (w411 v410) (w413 v412) (w467 v410 v412) (w475 v72 v74 v406 v408) = pure ⟨(w477 v72 v74 v406 v408), (w479 v72 v74 v406 v408 v410 v412), (w494 v72 v74 v406 v408), (w499 v72 v74 v406 v408), (w501 v72 v74 v406 v408 v410 v412), (w516 v72 v74 v406 v408), (w521 v72 v74 v406 v408), (w523 v72 v74 v406 v408 v410 v412), (w524 v406)⟩ := rfl
theorem part82_eq : k0_part82 arg0 harg0 arg1 harg1 arg2 harg2 arg3 harg3 arg4 harg4 arg5 harg5 arg6 harg6 arg7 harg7 arg8 harg8 arg9 harg9 arg10 arg11 (w93 v72 v74) (w95 v72 v74) (w407 v406) (w409 v408) (w411 v410) (w413 v412) (w524 v406) = pure ⟨(w538 v72 v74 v406 v408), (w543 v72 v74 v406 v408), (w545 v72 v74 v406 v408 v410 v412), (w560 v72 v74 v406 v408), (w565 v72 v74 v406 v408), (w567 v72 v74 v406 v408 v410 v412), (w572 v406 v408), (w574 v410)⟩ := rfl
theorem part83_eq : k0_part83 arg0 harg0 arg1 harg1 arg2 harg2 arg3 harg3 arg4 harg4 arg5 harg5 arg6 harg6 arg7 harg7 arg8 harg8 arg9 harg9 arg10 arg11 (w97 v72 v74) (w99 v77 v79) (w101 v77 v79) (w407 v406) (w409 v408) (w411 v410) (w413 v412) (w572 v406 v408) (w574 v410) = pure ⟨(w582 v72 v74 v406 v408), (w587 v72 v74 v406 v408), (w589 v72 v74 v406 v408 v410 v412), (w604 v77 v79 v406 v408), (w609 v77 v79 v406 v408), (w611 v77 v79 v406 v408 v410 v412), (w621 v410 v412), (w622 v77 v79 v406 v408), (wScale : F .f32)⟩ := rfl
theorem part84_eq : k0_part84 arg0 harg0 arg1 harg1 arg2 harg2 arg3 harg3 arg4 harg4 arg5 harg5 arg6 harg6 arg7 harg7 arg8 harg8 arg9 harg9 arg10 arg11 (w103 v77 v79) (w105 v77 v79) (w407 v406) (w409 v408) (w411 v410) (w413 v412) (w621 v410 v412) (w622 v77 v79 v406 v408) (wScale : F .f32) = pure ⟨(w626 v77 v79 v406 v408), (w631 v77 v79 v406 v408), (w633 v77 v79 v406 v408 v410 v412), (w648 v77 v79 v406 v408), (w653 v77 v79 v406 v408), (w655 v77 v79 v406 v408 v410 v412), (w665 v410 v412), (w668 v77 v79 v406 v408), (w670 v77 v79 v406 v408), (w671 v77 v79 v406 v408)⟩ := rfl
theorem part85_eq : k0_part85 arg0 harg0 arg1 harg1 arg2 harg2 arg3 harg3 arg4 harg4 arg5 harg5 arg6 harg6 arg7 harg7 arg8 harg8 arg9 harg9 arg10 arg11 (w107 v77 v79) (w109 v77 v79) (w407 v406) (w409 v408) (w411 v410) (w413 v412) (w665 v410 v412) (w668 v77 v79 v406 v408) (w671 v77 v79 v406 v408) = pure ⟨(w675 v77 v79 v406 v408), (w677 v77 v79 v406 v408 v410 v412), (w692 v77 v79 v406 v408), (w697 v77 v79 v406 v408), (w699 v77 v79 v406 v408 v410 v412), (w709 v410 v412), (w714 v77 v79 v406 v408), (w719 v77 v79 v406 v408), (w720 v77 v79 v406 v408)⟩ := rfl
theorem part86_eq : k0_part86 arg0 harg0 arg1 harg1 arg2 harg2 arg3 harg3 arg4 harg4 arg5 harg5 arg6 harg6 arg7 harg7 arg8 harg8 arg9 harg9 arg10 arg11 (w111 v77 v79) (w113 v77 v79) (w407 v406) (w409 v408) (w411 v410) (w413 v412) (w709 v410 v412) (w720 v77 v79 v406 v408) = pure ⟨(w721 v77 v79 v406 v408 v410 v412), (w736 v77 v79 v406 v408), (w741 v77 v79 v406 v408), (w743 v77 v79 v406 v408 v410 v412), (w758 v77 v79 v406 v408), (w763 v77 v79 v406 v408), (w765 v77 v79 v406 v408 v410 v412)⟩ := rfl
theorem part88_eq : k0_part88 arg0 harg0 arg1 harg1 arg2 harg2 arg3 harg3 arg4 harg4 arg5 harg5 arg6 harg6 arg7 harg7 arg8 harg8 arg9 harg9 arg10 arg11 (w85 v72 v74) (w122 v34 v72 v74) (w127 v34 v72 v74) (w129 v34 v53 v72 v74) (w138 v34 v72 v74) (w428 v72 v74 v406 v408) (w433 v72 v74 v406 v408) (w435 v72 v74 v406 v408 v410 v412) (w450 v72 v74 v406 v408) (w779 v778) (w781 v780) (w785 v780) (w788 v72 v74 v778) (w790 v72 v74 v778) = pure ⟨(w820 v34 v53 v72 v74 v406 v408 v410 v412 v778 v780), (w834 v72 v74 v778), (w836 v72 v74 v778 v780), (w840 v34 v72 v74 v406 v408 v778), (w842 v34 v72 v74 v406 v408 v778), (w843 v34 v72 v74 v406 v408 v778)⟩ := rfl
theorem part89_eq : k0_part89 arg0 harg0 arg1 harg1 arg2 harg2 arg3 harg3 arg4 harg4 arg5 harg5 arg6 harg6 arg7 harg7 arg8 harg8 arg9 harg9 arg10 arg11 (w87 v72 v74) (w143 v34 v72 v74) (w145 v34 v53 v72 v74) (w154 v34 v72 v74) (w159 v34 v72 v74) (w161 v34 v53 v72 v74) (w455 v72 v74 v406 v408) (w457 v72 v74 v406 v408 v410 v412) (w472 v72 v74 v406 v408) (w477 v72 v74 v406 v408) (w479 v72 v74 v406 v408 v410 v412) (w779 v778) (w781 v780) (w834 v72 v74 v778) (w836 v72 v74 v778 v780) (w840 v34 v72 v74 v406 v408 v778) (w842 v34 v72 v74 v406 v408 v778) (w843 v34 v72 v74 v406 v408 v778) = pure ⟨(w859 v34 v53 v72 v74 v406 v408 v410 v412 v778 v780), (w898 v34 v53 v72 v74 v406 v408 v410 v412 v778 v780)⟩ := rfl
theorem part90_eq : k0_part90 arg0 harg0 arg1 harg1 arg2 harg2 arg3 harg3 arg4 harg4 arg5 harg5 arg6 harg6 arg7 harg7 arg8 harg8 arg9 harg9 arg10 arg11 (w89 v72 v74) (w91 v72 v74) (w170 v34 v72 v74) (w175 v34 v72 v74) (w177 v34 v53 v72 v74) (w494 v72 v74 v406 v408) (w499 v72 v74 v406 v408) (w501 v72 v74 v406 v408 v410 v412) (w779 v778) (w781 v780) (w820 v34 v53 v72 v74 v406 v408 v410 v412 v778 v780) (w859 v34 v53 v72 v74 v406 v408 v410 v412 v778 v780) (w898 v34 v53 v72 v74 v406 v408 v410 v412 v778 v780) = pure ⟨(w938 v34 v53 v72 v74 v406 v408 v410 v412 v778 v780), (w942 v780), (w947 v72 v74 v778), (w950 v72 v74 v778)⟩ := rfl
theorem part91_eq : k0_part91 arg0 harg0 arg1 harg1 arg2 harg2 arg3 harg3 arg4 harg4 arg5 harg5 arg6 harg6 arg7 harg7 arg8 harg8 arg9 harg9 arg10 arg11 (w93 v72 v74) (w186 v34 v72 v74) (w191 v34 v72 v74) (w193 v34 v53 v72 v74) (w202 v34 v72 v74) (w207 v34 v72 v74) (w516 v72 v74 v406 v408) (w521 v72 v74 v406 v408) (w523 v72 v74 v406 v408 v410 v412) (w538 v72 v74 v406 v408) (w543 v72 v74 v406 v408) (w779 v778) (w781 v780) (w942 v780) (w947 v72 v74 v778) (w950 v72 v74 v778) = pure ⟨(w977 v34 v53 v72 v74 v406 v408 v410 v412 v778 v780), (w991 v72 v74 v778), (w993 v72 v74 v778 v780), (w997 v34 v72 v74 v406 v408 v778), (w999 v34 v72 v74 v406 v408 v778), (w1001 v34 v72 v74 v406 v408 v778), (w1002 v34 v72 v74 v406 v408 v778), (w1003 v34 v72 v74 v406 v408 v778)⟩ := rfl
theorem part92_eq : k0_part92 arg0 harg0 arg1 harg1 arg2 harg2 arg3 harg3 arg4 harg4 arg5 harg5 arg6 harg6 arg7 harg7 arg8 harg8 arg9 harg9 arg10 arg11 (w95 v72 v74) (w209 v34 v53 v72 v74) (w218 v34 v72 v74) (w223 v34 v72 v74) (w225 v34 v53 v72 v74) (w545 v72 v74 v406 v408 v410 v412) (w560 v72 v74 v406 v408) (w565 v72 v74 v406 v408) (w567 v72 v74 v406 v408 v410 v412) (w779 v778) (w781 v780) (w991 v72 v74 v778) (w993 v72 v74 v778 v780) (w997 v34 v72 v74 v406 v408 v778) (w999 v34 v72 v74 v406 v408 v778) (w1001 v34 v72 v74 v406 v408 v778) (w1002 v34 v72 v74 v406 v408 v778) (w1003 v34 v72 v74 v406 v408 v778) = pure ⟨(w1016 v34 v53 v72 v74 v406 v408 v410 v412 v778 v780), (w1055 v34 v53 v72 v74 v406 v408 v410 v412 v778 v780), (w1057 v778), (w1058 v780)⟩ := rfl
theorem part93_eq : k0_part93 arg0 harg0 arg1 harg1 arg2 harg2 arg3 harg3 arg4 harg4 arg5 harg5 arg6 harg6 arg7 harg7 arg8 harg8 arg9 harg9 arg10 arg11 (w97 v72 v74) (w99 v77 v79) (w234 v34 v72 v74) (w239 v34 v72 v74) (w241 v34 v53 v72 v74) (w582 v72 v74 v406 v408) (w587 v72 v74 v406 v408) (w589 v72 v74 v406 v408 v410 v412) (w779 v778) (w781 v780) (w977 v34 v53 v72 v74 v406 v408 v410 v412 v778 v780) (w1016 v34 v53 v72 v74 v406 v408 v410 v412 v778 v780) (w1055 v34 v53 v72 v74 v406 v408 v410 v412 v778 v780) (w1057 v778) (w1058 v780) = pure ⟨(w1095 v34 v53 v72 v74 v406 v408 v410 v412 v778 v780), (w1099 v780), (w1104 v77 v79 v778), (w1107 v77 v79 v778), (w1109 v77 v79 v778)⟩ := rfl
theorem part94_eq : k0_part94 arg0 harg0 arg1 harg1 arg2 harg2 arg3 harg3 arg4 harg4 arg5 harg5 arg6 harg6 arg7 harg7 arg8 harg8 arg9 harg9 arg10 arg11 (w101 v77 v79) (w250 v34 v77 v79) (w255 v34 v77 v79) (w257 v34 v53 v77 v79) (w266 v34 v77 v79) (w271 v34 v77 v79) (w604 v77 v79 v406 v408) (w609 v77 v79 v406 v408) (w611 v77 v79 v406 v408 v410 v412) (w626 v77 v79 v406 v408) (w631 v77 v79 v406 v408) (w779 v778) (w781 v780) (w1099 v780) (w1104 v77 v79 v778) (w1107 v77 v79 v778) (w1109 v77 v79 v778) = pure ⟨(w1134 v34 v53 v77 v79 v406 v408 v410 v412 v778 v780), (w1150 v77 v79 v778 v780), (w1154 v34 v77 v79 v406 v408 v778), (w1156 v34 v77 v79 v406 v408 v778), (w1158 v34 v77 v79 v406 v408 v778), (w1163 v34 v77 v79 v406 v408 v778)⟩ := rfl
theorem part95_eq : k0_part95 arg0 harg0 arg1 harg1 arg2 harg2 arg3 harg3 arg4 harg4 arg5 harg5 arg6 harg6 arg7 harg7 arg8 harg8 arg9 harg9 arg10 arg11 (w103 v77 v79) (w105 v77 v79) (w273 v34 v53 v77 v79) (w282 v34 v77 v79) (w287 v34 v77 v79) (w289 v34 v53 v77 v79) (w633 v77 v79 v406 v408 v410 v412) (w648 v77 v79 v406 v408) (w653 v77 v79 v406 v408) (w655 v77 v79 v406 v408 v410 v412) (w779 v778) (w781 v780) (w1150 v77 v79 v778 v780) (w1154 v34 v77 v79 v406 v408 v778) (w1156 v34 v77 v79 v406 v408 v778) (w1158 v34 v77 v79 v406 v408 v778) (w1163 v34 v77 v79 v406 v408 v778) = pure ⟨(w1173 v34 v53 v77 v79 v406 v408 v410 v412 v778 v780), (w1212 v34 v53 v77 v79 v406 v408 v410 v412 v778 v780), (w1216 v780), (w1217 v77 v79 v778)⟩ := rfl
theorem part96_eq : k0_part96 arg0 harg0 arg1 harg1 arg2 harg2 arg3 harg3 arg4 harg4 arg5 harg5 arg6 harg6 arg7 harg7 arg8 harg8 arg9 harg9 arg10 arg11 (w107 v77 v79) (w298 v34 v77 v79) (w303 v34 v77 v79) (w305 v34 v53 v77 v79) (w670 v77 v79 v406 v408) (w675 v77 v79 v406 v408) (w677 v77 v79 v406 v408 v410 v412) (w779 v778) (w781 v780) (w1134 v34 v53 v77 v79 v406 v408 v410 v412 v778 v780) (w1173 v34 v53 v77 v79 v406 v408 v410 v412 v778 v780) (w1212 v34 v53 v77 v79 v406 v408 v410 v412 v778 v780) (w1216 v780) (w1217 v77 v79 v778) = pure ⟨(w1252 v34 v53 v77 v79 v406 v408 v410 v412 v778 v780), (w1261 v77 v79 v778), (w1266 v77 v79 v778), (w1268 v77 v79 v778 v780)⟩ := rfl
theorem part97_eq : k0_part97 arg0 harg0 arg1 harg1 arg2 harg2 arg3 harg3 arg4 harg4 arg5 harg5 arg6 harg6 arg7 harg7 arg8 harg8 arg9 harg9 arg10 arg11 (w109 v77 v79) (w314 v34 v77 v79) (w319 v34 v77 v79) (w321 v34 v53 v77 v79) (w330 v34 v77 v79) (w335 v34 v77 v79) (w337 v34 v53 v77 v79) (w692 v77 v79 v406 v408) (w697 v77 v79 v406 v408) (w699 v77 v79 v406 v408 v410 v412) (w714 v77 v79 v406 v408) (w719 v77 v79 v406 v408) (w779 v778) (w781 v780) (w1261 v77 v79 v778) (w1266 v77 v79 v778) (w1268 v77 v79 v778 v780) = pure ⟨(w1291 v34 v53 v77 v79 v406 v408 v410 v412 v778 v780), (w1307 v77 v79 v778 v780), (w1315 v34 v77 v79 v406 v408 v778), (w1320 v34 v77 v79 v406 v408 v778), (w1322 v34 v53 v77 v79 v406 v408 v778), (w1323 v34 v77 v79 v406 v408 v778)⟩ := rfl
theorem part98_eq : k0_part98 arg0 harg0 arg1 harg1 arg2 harg2 arg3 harg3 arg4 harg4 arg5 harg5 arg6 harg6 arg7 harg7 arg8 harg8 arg9 harg9 arg10 arg11 (w111 v77 v79) (w113 v77 v79) (w346 v34 v77 v79) (w351 v34 v77 v79) (w353 v34 v53 v77 v79) (w721 v77 v79 v406 v408 v410 v412) (w736 v77 v79 v406 v408) (w741 v77 v79 v406 v408) (w743 v77 v79 v406 v408 v410 v412) (w779 v778) (w781 v780) (w1307 v77 v79 v778 v780) (w1315 v34 v77 v79 v406 v408 v778) (w1320 v34 v77 v79 v406 v408 v778) (w1322 v34 v53 v77 v79 v406 v408 v778) (w1323 v34 v77 v79 v406 v408 v778) = pure ⟨(w1330 v34 v53 v77 v79 v406 v408 v410 v412 v778 v780), (w1369 v34 v53 v77 v79 v406 v408 v410 v412 v778 v780), (w1373 v780), (w1376 v77 v79 v778)⟩ := rfl

end Parts

/-! ## What the loading stretches return, and what is stored -/

section Folds
variable (v34 : Vec F S2x128x4x64 .f32)
variable (v53 : Vec F S2x128x4x64 .f32)
variable (v72 : Vec F S1x128x512 .f32)
variable (v74 : Vec F S512x256 .f32)
variable (v77 : Vec F S1x128x512 .f32)
variable (v79 : Vec F S512x256 .f32)
variable (v406 : Vec F S1x2x4x128x64 .bf16)
variable (v408 : Vec F S1x2x4x128x64 .bf16)
variable (v410 : Vec F S1x2x4x128x64 .bf16)
variable (v412 : Vec F S1x2x4x128x64 .bf16)
variable (v778 : Vec F S1x2x4x128x64 .bf16)
variable (v780 : Vec F S1x2x4x128x64 .bf16)
variable (v1411 : Vec F S256x512 .f32)

theorem pay713_eq : k0_pay713 v34 = (w37 v34) := rfl
theorem pay715_eq : k0_pay715 v53 = (w56 v53) := rfl
theorem pay718_eq : k0_pay718 v77 v79 = (w81 v77 v79) := rfl
theorem pay719_eq : k0_pay719 v72 v74 = (w83 v72 v74) := rfl
theorem pay720_eq : k0_pay720 v72 v74 = (w85 v72 v74) := rfl
theorem pay721_eq : k0_pay721 v72 v74 = (w87 v72 v74) := rfl
theorem pay722_eq : k0_pay722 v72 v74 = (w89 v72 v74) := rfl
theorem pay723_eq : k0_pay723 v72 v74 = (w91 v72 v74) := rfl
theorem pay724_eq : k0_pay724 v72 v74 = (w93 v72 v74) := rfl
theorem pay725_eq : k0_pay725 v72 v74 = (w95 v72 v74) := rfl
theorem pay726_eq : k0_pay726 v72 v74 = (w97 v72 v74) := rfl
theorem pay727_eq : k0_pay727 v77 v79 = (w99 v77 v79) := rfl
theorem pay811_eq : k0_pay811 (w328 v34 v77 v79) (w331 v34 v77 v79) = (w335 v34 v77 v79) := rfl
theorem pay812_eq : k0_pay812 (w325 v53) (w328 v34 v77 v79) (w331 v34 v77 v79) = (w337 v34 v53 v77 v79) := rfl
theorem pay814_eq : k0_pay814 (w37 v34) (w111 v77 v79) = (w346 v34 v77 v79) := rfl
theorem pay816_eq : k0_pay816 (w37 v34) (w111 v77 v79) = (w351 v34 v77 v79) := rfl
theorem pay817_eq : k0_pay817 (w37 v34) (w56 v53) (w111 v77 v79) = (w353 v34 v53 v77 v79) := rfl
theorem pay819_eq : k0_pay819 (w37 v34) (w113 v77 v79) = (w362 v34 v77 v79) := rfl
theorem pay821_eq : k0_pay821 (w37 v34) (w113 v77 v79) = (w367 v34 v77 v79) := rfl
theorem pay822_eq : k0_pay822 (w37 v34) (w56 v53) (w113 v77 v79) = (w369 v34 v53 v77 v79) := rfl
theorem pay1_eq : k0_pay1 v406 = (w407 v406) := rfl
theorem pay2_eq : k0_pay2 v408 = (w409 v408) := rfl
theorem pay3_eq : k0_pay3 v410 = (w411 v410) := rfl
theorem pay4_eq : k0_pay4 v412 = (w413 v412) := rfl
theorem pay5_eq : k0_pay5 v410 v412 = (w423 v410 v412) := rfl
theorem pay6_eq : k0_pay6 (w83 v72 v74) v406 v408 = (w426 v72 v74 v406 v408) := rfl
theorem pay96_eq : k0_pay96 v778 = (w779 v778) := rfl
theorem pay97_eq : k0_pay97 v780 = (w781 v780) := rfl
theorem pay98_eq : k0_pay98 v780 = (w785 v780) := rfl
theorem pay99_eq : k0_pay99 (w83 v72 v74) v778 = (w788 v72 v74 v778) := rfl
theorem pay100_eq : k0_pay100 (w83 v72 v74) v778 = (w790 v72 v74 v778) := rfl
theorem pay177_eq : k0_pay177 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outLo v34 v53 v72 v74 v77 v79 v406 v408 v410 v412 v778 v780 v1411) := rfl
theorem pay178_eq : k0_pay178 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outHi v34 v53 v72 v74 v77 v79 v406 v408 v410 v412 v778 v780 v1411) := rfl
theorem pay179_eq : k0_pay179 v406 = (w407 v406) := rfl
theorem pay180_eq : k0_pay180 v408 = (w409 v408) := rfl
theorem pay181_eq : k0_pay181 v410 = (w411 v410) := rfl
theorem pay182_eq : k0_pay182 v412 = (w413 v412) := rfl
theorem pay183_eq : k0_pay183 v410 v412 = (w423 v410 v412) := rfl
theorem pay184_eq : k0_pay184 (w83 v72 v74) v406 v408 = (w426 v72 v74 v406 v408) := rfl
theorem pay274_eq : k0_pay274 v778 = (w779 v778) := rfl
theorem pay275_eq : k0_pay275 v780 = (w781 v780) := rfl
theorem pay276_eq : k0_pay276 v780 = (w785 v780) := rfl
theorem pay277_eq : k0_pay277 (w83 v72 v74) v778 = (w788 v72 v74 v778) := rfl
theorem pay278_eq : k0_pay278 (w83 v72 v74) v778 = (w790 v72 v74 v778) := rfl
theorem pay355_eq : k0_pay355 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outLo v34 v53 v72 v74 v77 v79 v406 v408 v410 v412 v778 v780 v1411) := rfl
theorem pay356_eq : k0_pay356 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outHi v34 v53 v72 v74 v77 v79 v406 v408 v410 v412 v778 v780 v1411) := rfl
theorem pay357_eq : k0_pay357 v406 = (w407 v406) := rfl
theorem pay358_eq : k0_pay358 v408 = (w409 v408) := rfl
theorem pay359_eq : k0_pay359 v410 = (w411 v410) := rfl
theorem pay360_eq : k0_pay360 v412 = (w413 v412) := rfl
theorem pay361_eq : k0_pay361 v410 v412 = (w423 v410 v412) := rfl
theorem pay362_eq : k0_pay362 (w83 v72 v74) v406 v408 = (w426 v72 v74 v406 v408) := rfl
theorem pay452_eq : k0_pay452 v778 = (w779 v778) := rfl
theorem pay453_eq : k0_pay453 v780 = (w781 v780) := rfl
theorem pay454_eq : k0_pay454 v780 = (w785 v780) := rfl
theorem pay455_eq : k0_pay455 (w83 v72 v74) v778 = (w788 v72 v74 v778) := rfl
theorem pay456_eq : k0_pay456 (w83 v72 v74) v778 = (w790 v72 v74 v778) := rfl
theorem pay533_eq : k0_pay533 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outLo v34 v53 v72 v74 v77 v79 v406 v408 v410 v412 v778 v780 v1411) := rfl
theorem pay534_eq : k0_pay534 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outHi v34 v53 v72 v74 v77 v79 v406 v408 v410 v412 v778 v780 v1411) := rfl
theorem pay535_eq : k0_pay535 v406 = (w407 v406) := rfl
theorem pay536_eq : k0_pay536 v408 = (w409 v408) := rfl
theorem pay537_eq : k0_pay537 v410 = (w411 v410) := rfl
theorem pay538_eq : k0_pay538 v412 = (w413 v412) := rfl
theorem pay539_eq : k0_pay539 v410 v412 = (w423 v410 v412) := rfl
theorem pay540_eq : k0_pay540 (w83 v72 v74) v406 v408 = (w426 v72 v74 v406 v408) := rfl
theorem pay630_eq : k0_pay630 v778 = (w779 v778) := rfl
theorem pay631_eq : k0_pay631 v780 = (w781 v780) := rfl
theorem pay632_eq : k0_pay632 v780 = (w785 v780) := rfl
theorem pay633_eq : k0_pay633 (w83 v72 v74) v778 = (w788 v72 v74 v778) := rfl
theorem pay634_eq : k0_pay634 (w83 v72 v74) v778 = (w790 v72 v74 v778) := rfl
theorem pay711_eq : k0_pay711 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outLo v34 v53 v72 v74 v77 v79 v406 v408 v410 v412 v778 v780 v1411) := rfl
theorem pay712_eq : k0_pay712 (w362 v34 v77 v79) (w367 v34 v77 v79) (w369 v34 v53 v77 v79) (w758 v77 v79 v406 v408) (w763 v77 v79 v406 v408) (w765 v77 v79 v406 v408 v410 v412) (w938 v34 v53 v72 v74 v406 v408 v410 v412 v778 v780) (w1095 v34 v53 v72 v74 v406 v408 v410 v412 v778 v780) (w1252 v34 v53 v77 v79 v406 v408 v410 v412 v778 v780) (w1291 v34 v53 v77 v79 v406 v408 v410 v412 v778 v780) (w1330 v34 v53 v77 v79 v406 v408 v410 v412 v778 v780) (w1369 v34 v53 v77 v79 v406 v408 v410 v412 v778 v780) (w1373 v780) (w1376 v77 v79 v778) v1411 = (outHi v34 v53 v72 v74 v77 v79 v406 v408 v410 v412 v778 v780 v1411) := rfl

end Folds

end Cert.KernelIdeal.Run

end
-- ==== Proof.Run.lean ====
/-
# The kernel's body, once for all places

The body tests the device's place and takes one of four branches, which differ only in which mates are near, mid and
far. Here is the body with the place as a variable (`runT`), and what it does to memory: every device's output block is
`outAt`, computed from its own blocks and from the key and value blocks of its three mates.
-/
module

public import proofs.«01_k».proof.Proof.Pieces
public import proofs.«01_k».proof.Proof.Values

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Mates in the order the body meets them -/

/-- The mate two places away, one place away, and at the opposite end of the exchange. -/
abbrev nearP (t : Fin 4) : Fin 4 := match t with | 0 => 2 | 1 => 3 | 2 => 0 | 3 => 1
abbrev midP (t : Fin 4) : Fin 4 := match t with | 0 => 1 | 1 => 0 | 2 => 3 | 3 => 2
abbrev farP (t : Fin 4) : Fin 4 := match t with | 0 => 3 | 1 => 2 | 2 => 1 | 3 => 0
/-- The mates in ascending order, as the barrier signals go. -/
abbrev sigP (t : Fin 4) (i : Fin 3) : Fin 4 :=
  match i with
  | 0 => (match t with | 0 => 1 | 1 => 0 | 2 => 0 | 3 => 0)
  | 1 => (match t with | 0 => 2 | 1 => 2 | 2 => 1 | 3 => 1)
  | 2 => (match t with | 0 => 3 | 1 => 3 | 2 => 3 | 3 => 2)

theorem meet_nodup (t : Fin 4) : [t, nearP t, midP t, farP t].Nodup := by revert t; decide
theorem sig_nodup (t : Fin 4) : [t, sigP t 0, sigP t 1, sigP t 2].Nodup := by revert t; decide
theorem near_ne (t : Fin 4) : nearP t ≠ t := by revert t; decide
theorem mid_ne (t : Fin 4) : midP t ≠ t := by revert t; decide
theorem far_ne (t : Fin 4) : farP t ≠ t := by revert t; decide
theorem sig_ne (t : Fin 4) (i : Fin 3) : sigP t i ≠ t := by revert t i; decide

/-! ## Slots loaded, rows stored -/

/-- A slot's block as a load through the four-slot buffer returns it. -/
def unslot (X : Vec F S2x4x128x64 .bf16) : Vec F S1x2x4x128x64 .bf16 := shapeCast S1x2x4x128x64 X (Eq.symm shapeCasts_S1x2x4x128x64_S2x4x128x64)

theorem inb_row (b : Fin 2) : ∀ a, (![b.val, 0, 0] : Fin 3 → Nat) a + S1x128x512.size a ≤ S2x128x512.size a := by revert b; decide
/-- Batch row `b` of a block of activations. -/
abbrev rowR (b : Fin 2) : Rect S2x128x512 := Rect.unit (s := S2x128x512) ![b.val, 0, 0] S1x128x512.size (inb_row b)

abbrev xM : Memref sig .tc .vmem S2x128x512 .f32 := Memref.whole cc0_stg0_0
abbrev wqM : Memref sig .tc .vmem S512x256 .f32 := Memref.whole cc0_stg1_0
abbrev kM : Memref sig .tc .vmem S2x128x4x64 .f32 := Memref.whole cc0_stg2_0
abbrev vM : Memref sig .tc .vmem S2x128x4x64 .f32 := Memref.whole cc0_stg3_0
abbrev woM : Memref sig .tc .vmem S256x512 .f32 := Memref.whole cc0_stg4_0
abbrev outM : Memref sig .tc .vmem S2x128x512 .f32 := Memref.whole cc0_stg5_0

abbrev rX (b : Fin 2) : View sig .tc .vmem S1x128x512 .f32 := outM.access (rowR b)

/-- Row `b` of the activations staged on device `c`. -/
def xRow (c : Dev nD) (b : Fin 2) : Vec F S1x128x512 .f32 := xM.view.readAt (Elt F) (rowR b).toLoadRect (xIn m ρ c)

/-- The output block made of its two batch rows. -/
def outC (lo hi : Vec F S1x128x512 .f32) : (cc0_stg5_0 : Ref sig .tc).ty.Contents (Elt F) :=
  (rX 1).write (Elt F) ((rX 0).write (Elt F) (fun _ => Scalar.ofBits .f32 0x0#32) lo Finset.univ) hi Finset.univ

theorem mem_rowR (b : Fin 2) (i : S2x128x512.Idx) : i ∈ (rowR b).set ↔ (i 0 : Nat) = b.val := by
  rw [Rect.mem_set_unit]
  constructor
  · intro h
    have h0 := h 0
    have hs : S1x128x512.size 0 = 1 := rfl
    simp only [Matrix.cons_val_zero] at h0
    omega
  · intro h a
    have hl : ∀ a, (i a : Nat) < S2x128x512.size a := fun a => (i a).isLt
    fin_cases a
    · show b.val ≤ (i 0 : Nat) ∧ (i 0 : Nat) < b.val + 1; omega
    · exact ⟨Nat.zero_le _, by show (i 1 : Nat) < 0 + 128; have := hl 1; have e : S2x128x512.size 1 = 128 := rfl; omega⟩
    · exact ⟨Nat.zero_le _, by show (i 2 : Nat) < 0 + 512; have := hl 2; have e : S2x128x512.size 2 = 512 := rfl; omega⟩

theorem mem_rX (b : Fin 2) (i : (cc0_stg5_0 : Ref sig .tc).ty.Idx) : i ∈ (rX b).set ↔ (show S2x128x512.Idx from i) ∈ (rowR b).set := by
  unfold rX Memref.access
  rw [View.set_slice_whole]

theorem rows_cover (i : S2x128x512.Idx) (h : i ∉ (rX 1).set) : i ∈ (rX 0).set := by
  rw [mem_rX, mem_rowR] at h ⊢
  have hb : (i 0 : Nat) < 2 := (i 0).isLt
  have e1 : ((1 : Fin 2) : Nat) = 1 := rfl
  have e0 : ((0 : Fin 2) : Nat) = 0 := rfl
  rw [e1] at h
  rw [e0]
  omega

/-- Both rows stored, nothing of what was there remains. -/
theorem write_rows (f : (cc0_stg5_0 : Ref sig .tc).ty.Contents (Elt F)) (lo hi : Vec F S1x128x512 .f32) :
    (rX 1).write (Elt F) ((rX 0).write (Elt F) f lo Finset.univ) hi Finset.univ = outC lo hi := by
  unfold outC
  funext i
  by_cases h1 : i ∈ (rX 1).set
  · obtain ⟨y, rfl⟩ := View.exists_emb_of_mem_set (rX 1) h1
    rw [View.write_emb_of_mem _ _ (Finset.mem_univ y), View.write_emb_of_mem _ _ (Finset.mem_univ y)]
  · obtain ⟨y, rfl⟩ := View.exists_emb_of_mem_set (rX 0) (rows_cover i h1)
    rw [View.write_of_not_mem (v := rX 1) _ _ _ (by exact h1), View.write_of_not_mem (v := rX 1) _ _ _ (by exact h1),
      View.write_emb_of_mem _ _ (Finset.mem_univ y), View.write_emb_of_mem _ _ (Finset.mem_univ y)]

/-! ## What a device stores -/

/-- The block of channel `ch` of the mate of `c` at place `s`, as loaded from its slot. -/
abbrev got (c : Dev nD) (s : Fin 4) (ch : Bool) : Vec F S1x2x4x128x64 .bf16 := unslot (sent m ρ ch (mate c s))

def loAt (c : Dev nD) : Vec F S1x128x512 .f32 :=
  outLo (kIn m ρ c) (vIn m ρ c) (xRow m ρ c 0) (wqIn m ρ c) (xRow m ρ c 1) (wqIn m ρ c)
    (got m ρ c (nearP (place c)) false) (got m ρ c (midP (place c)) false) (got m ρ c (nearP (place c)) true) (got m ρ c (midP (place c)) true)
    (got m ρ c (farP (place c)) false) (got m ρ c (farP (place c)) true) (woIn m ρ c)
def hiAt (c : Dev nD) : Vec F S1x128x512 .f32 :=
  outHi (kIn m ρ c) (vIn m ρ c) (xRow m ρ c 0) (wqIn m ρ c) (xRow m ρ c 1) (wqIn m ρ c)
    (got m ρ c (nearP (place c)) false) (got m ρ c (midP (place c)) false) (got m ρ c (nearP (place c)) true) (got m ρ c (midP (place c)) true)
    (got m ρ c (farP (place c)) false) (got m ρ c (farP (place c)) true) (woIn m ρ c)
/-- The output block of device `c`. -/
def outAt (c : Dev nD) : (cc0_stg5_0 : Ref sig .tc).ty.Contents (Elt F) := outC (loAt m ρ c) (hiAt m ρ c)

/-! ## The body with its place a variable -/

abbrev Body (F : FTy → Type) [FloatOps F] : Type 1 := Prog (TpuEff nD τ sig (Elt F) Λ₀ .tc) PUnit

theorem slot_words (ch : Bool) (s : Fin 4) : (slotM ch s).view.WordExact := by
  cases ch <;> fin_cases s
  · exact ((Memref.isWhole_whole cc0_scratch0).wordExact_slice rfl _ wordsbf16_S4x2x4x128x64_S1x2x4x128x64_0_0_0_0_0).reshape _ _
  · exact ((Memref.isWhole_whole cc0_scratch0).wordExact_slice rfl _ wordsbf16_S4x2x4x128x64_S1x2x4x128x64_1_0_0_0_0).reshape _ _
  · exact ((Memref.isWhole_whole cc0_scratch0).wordExact_slice rfl _ wordsbf16_S4x2x4x128x64_S1x2x4x128x64_2_0_0_0_0).reshape _ _
  · exact ((Memref.isWhole_whole cc0_scratch0).wordExact_slice rfl _ wordsbf16_S4x2x4x128x64_S1x2x4x128x64_3_0_0_0_0).reshape _ _
  · exact ((Memref.isWhole_whole cc0_scratch1).wordExact_slice rfl _ wordsbf16_S4x2x4x128x64_S1x2x4x128x64_0_0_0_0_0).reshape _ _
  · exact ((Memref.isWhole_whole cc0_scratch1).wordExact_slice rfl _ wordsbf16_S4x2x4x128x64_S1x2x4x128x64_1_0_0_0_0).reshape _ _
  · exact ((Memref.isWhole_whole cc0_scratch1).wordExact_slice rfl _ wordsbf16_S4x2x4x128x64_S1x2x4x128x64_2_0_0_0_0).reshape _ _
  · exact ((Memref.isWhole_whole cc0_scratch1).wordExact_slice rfl _ wordsbf16_S4x2x4x128x64_S1x2x4x128x64_3_0_0_0_0).reshape _ _
theorem src_words (ch : Bool) : (srcM ch).view.WordExact := by
  cases ch
  · exact (Memref.isWhole_whole cc0_scratch2).wordExact
  · exact (Memref.isWhole_whole cc0_scratch3).wordExact
theorem slot_plain (ch : Bool) (s : Fin 4) : (slotM ch s).view.ref.isScScratch = false := by cases ch <;> rfl

abbrev srcR : Rect S2x4x128x64 := Rect.unit (s := S2x4x128x64) ![0, 0, 0, 0] S2x4x128x64.size inb_S2x4x128x64_S2x4x128x64_0_0_0_0
theorem src_stores (ch : Bool) : ((srcM ch).access srcR).Stores (Finset.univ : Finset srcR.shape.Idx) := by
  cases ch
  · exact View.stores_vmem h_S2x4x128x64 ((Memref.isWhole_whole cc0_scratch2).storeExact_slice rfl _ packedbf16_S2x4x128x64_S2x4x128x64_0_0_0_0) (fun _ => rfl)
  · exact View.stores_vmem h_S2x4x128x64 ((Memref.isWhole_whole cc0_scratch3).storeExact_slice rfl _ packedbf16_S2x4x128x64_S2x4x128x64_0_0_0_0) (fun _ => rfl)

def signalTo (c : Dev nD) (u : Fin 4) (k : Body F) : Body F := .op (.semSignal (mate c u : Thread nD τ) barS 1) fun _ => k
def copyTo (c : Dev nD) (t u : Fin 4) (ch : Bool) (k : Body F) : Body F :=
  .op (.enqueueDma (srcM ch) (.remote (Dev.tc (mate c u) : Thread nD τ) (slotM ch t) (.dma (sendS u ch)) (slot_plain ch t)) (.dma (recvS t ch)) (src_words ch) (slot_words ch t) ⟨⟨rfl, Or.inl rfl⟩, trivial⟩) fun _ => k
def awaitFrom (s : Fin 4) (ch : Bool) (k : Body F) : Body F := .op (.waitDma2 (recvS s ch) (srcM false) (slotM ch s) (src_words false) (slot_words ch s)) fun _ => k
def awaitSent (t u : Fin 4) (ch : Bool) (k : Body F) : Body F := .op (.waitDma2 (sendS u ch) (slotM ch t) (srcM false) (slot_words ch t) (src_words false)) fun _ => k
def loadSlot (s : Fin 4) (ch : Bool) (k : Vec F S1x2x4x128x64 .bf16 → Body F) : Body F :=
  .op (.load (bufM ch) (slotR s).toLoadRect (View.loadsAt_vmem h_S1x2x4x128x64)) k
def storeSrc (ch : Bool) (w : Vec F S2x4x128x64 .bf16) (k : Body F) : Body F :=
  .op (.load (srcM ch) srcR.toLoadRect (View.loadsAt_vmem h_S2x4x128x64)) fun _ =>
  .op (.store (srcM ch) srcR w Finset.univ (src_stores ch) (.inl rfl)) fun _ => k
def storeRow (b : Fin 2) (w : Vec F S1x128x512 .f32) (k : Body F) : Body F :=
  .op (.load outM (rowR b).toLoadRect (View.loadsAt_vmem h_S1x128x512)) fun _ =>
  .op (.store outM (rowR b) w Finset.univ (View.stores_vmem_bits_univ h_S1x128x512 rfl) (.inl rfl)) fun _ => k
def loadRow (b : Fin 2) (k : Vec F S1x128x512 .f32 → Body F) : Body F := .op (.load xM (rowR b).toLoadRect (View.loadsAt_vmem h_S1x128x512)) k
abbrev kR : Rect S2x128x4x64 := Rect.unit (s := S2x128x4x64) ![0, 0, 0, 0] S2x128x4x64.size inb_S2x128x4x64_S2x128x4x64_0_0_0_0
abbrev wqR : Rect S512x256 := Rect.unit (s := S512x256) ![0, 0] S512x256.size inb_S512x256_S512x256_0_0
abbrev woR : Rect S256x512 := Rect.unit (s := S256x512) ![0, 0] S256x512.size inb_S256x512_S256x512_0_0
def loadK (k : Vec F S2x128x4x64 .f32 → Body F) : Body F := .op (.load kM kR.toLoadRect (View.loadsAt_vmem h_S2x128x4x64)) k
def loadV (k : Vec F S2x128x4x64 .f32 → Body F) : Body F := .op (.load vM kR.toLoadRect (View.loadsAt_vmem h_S2x128x4x64)) k
def loadWq (k : Vec F S512x256 .f32 → Body F) : Body F := .op (.load wqM wqR.toLoadRect (View.loadsAt_vmem h_S512x256)) k
def loadWo (k : Vec F S256x512 .f32 → Body F) : Body F := .op (.load woM woR.toLoadRect (View.loadsAt_vmem h_S256x512)) k

/-- The attention over the landed blocks, the two stores, and the waits for the sends. -/
def runTail (t n d f : Fin 4) (v34 v53 : Vec F S2x128x4x64 .f32) (v72 : Vec F S1x128x512 .f32) (v74 : Vec F S512x256 .f32) (v77 : Vec F S1x128x512 .f32) (v79 : Vec F S512x256 .f32) : Body F :=
  awaitFrom n false <| awaitFrom n true <| awaitFrom d false <| awaitFrom d true <|
  loadSlot n false fun v406 => loadSlot d false fun v408 => loadSlot n true fun v410 => loadSlot d true fun v412 =>
  awaitFrom f false <| awaitFrom f true <|
  loadSlot f false fun v778 => loadSlot f true fun v780 =>
  loadWo fun v1411 =>
  storeRow 0 (outLo v34 v53 v72 v74 v77 v79 v406 v408 v410 v412 v778 v780 v1411) <|
  storeRow 1 (outHi v34 v53 v72 v74 v77 v79 v406 v408 v410 v412 v778 v780 v1411) <|
  awaitSent t n false <| awaitSent t n true <| awaitSent t d false <| awaitSent t d true <| awaitSent t f false <| awaitSent t f true <|
  .ret ⟨⟩

/-- The body on a device at place `t` with mates `n`, `d`, `f` (near, mid, far), signalled in the order `a`, `b`, `e`. -/
def runT (c : Dev nD) (t n d f a b e : Fin 4) : Body F :=
  signalTo c a <| signalTo c b <| signalTo c e <|
  .op (.semWait barS 3) fun _ =>
  loadK fun v34 => storeSrc false (k0_pay714 v34) <|
  copyTo c t n false <| copyTo c t d false <| copyTo c t f false <|
  loadV fun v53 => storeSrc true (k0_pay716 v53) <|
  copyTo c t n true <| copyTo c t d true <| copyTo c t f true <|
  loadRow 0 fun v72 => loadWq fun v74 => loadRow 1 fun v77 => loadWq fun v79 =>
  runTail t n d f v34 v53 v72 v74 v77 v79

/-! ## The run -/

section Loads
variable (c : Dev nD)

/-- A load of a slot whose contents are known. -/
theorem step_slot {Q : PUnit → sProp 𝕄} {k : Vec F S1x2x4x128x64 .bf16 → Body F} (s : Fin 4) (ch : Bool) (X : Vec F S2x4x128x64 .bf16) :
    owns (c : Thread nD τ) (slotM ch s) fullShare X
      ⊢ iprop((owns (c : Thread nD τ) (slotM ch s) fullShare X -∗ runs c (k (unslot X)) Q) -∗ runs c (loadSlot s ch k) Q) := by
  unfold owns loadSlot
  iintro ⟨%f, %hf, H⟩ Hk
  have hr : (bufM ch).view.readAt (Elt F) (slotR s).toLoadRect f = unslot X := by
    rw [← hf]
    exact (shapeCast_shapeCast _ shapeCasts_S1x2x4x128x64_S2x4x128x64 _).symm
  iapply (wp_load 𝒱₀ (c : Thread nD τ) none Set.univ (m := bufM ch) (r := (slotR s).toLoadRect) (S := slotSet ch s) (f := f) (q := fullShare)
    (by rw [slotSet_eq]; exact Finset.Subset.refl _)) $$ H
  iintro H
  rw [hr]
  iapply Hk
  iexists f; isplitr; · ipureintro; exact hf
  iexact H

/-- The store of the block to be sent. -/
theorem step_src {Q : PUnit → sProp 𝕄} {k : Body F} (ch : Bool) (w : Vec F S2x4x128x64 .bf16) :
    iprop(∃ f : Buf (Elt F) (srcL c ch), srcL c ch ↦{fullShare} f)
      ⊢ iprop((owns (c : Thread nD τ) (srcM ch) fullShare w -∗ runs c k Q) -∗ runs c (storeSrc ch w k) Q) := by
  unfold storeSrc
  iintro ⟨%f, H⟩ Hk
  iapply (wp_load 𝒱₀ (c : Thread nD τ) none Set.univ (m := srcM ch) (r := srcR.toLoadRect) (S := Finset.univ) (f := f) (q := fullShare) (Finset.subset_univ _)) $$ H
  iintro H
  iapply (wp_store 𝒱₀ (c : Thread nD τ) none Set.univ (m := srcM ch) (r := srcR) (w := w) (Mk := Finset.univ) (S := Finset.univ) (f := f) (Finset.subset_univ _)) $$ H
  iintro H
  iapply Hk
  unfold owns
  iexists _
  isplitr
  rotate_left
  · rw [srcM_set]; iexact H
  ipureintro
  have hz : (![0, 0, 0, 0] : Fin 4 → Nat) = fun _ => 0 := by funext a; fin_cases a <;> rfl
  cases ch
  · exact Memref.write_access_unit_zero_univ (Elt F) cc0_scratch2 hz inb_S2x4x128x64_S2x4x128x64_0_0_0_0 f w
  · exact Memref.write_access_unit_zero_univ (Elt F) cc0_scratch3 hz inb_S2x4x128x64_S2x4x128x64_0_0_0_0 f w

/-- The store of a row of the output. -/
theorem step_row {Q : PUnit → sProp 𝕄} {k : Body F} (b : Fin 2) (w : Vec F S1x128x512 .f32) (f : (cc0_stg5_0 : Ref sig .tc).ty.Contents (Elt F)) :
    (((c : Thread nD τ).loc cc0_stg5_0 ↦{fullShare} f) : sProp 𝕄)
      ⊢ iprop((((c : Thread nD τ).loc cc0_stg5_0 ↦{fullShare} ((rX b).write (Elt F) f w Finset.univ)) -∗ runs c k Q) -∗ runs c (storeRow b w k) Q) := by
  unfold storeRow
  iintro H Hk
  iapply (wp_load 𝒱₀ (c : Thread nD τ) none Set.univ (m := outM) (r := (rowR b).toLoadRect) (S := Finset.univ) (f := f) (q := fullShare) (Finset.subset_univ _)) $$ H
  iintro H
  iapply (wp_store 𝒱₀ (c : Thread nD τ) none Set.univ (m := outM) (r := rowR b) (w := w) (Mk := Finset.univ) (S := Finset.univ) (f := f) (Finset.subset_univ _)) $$ H
  iintro H
  iapply Hk
  iexact H

theorem step_xrow {Q : PUnit → sProp 𝕄} {k : Vec F S1x128x512 .f32 → Body F} (b : Fin 2) :
    (((c : Thread nD τ).loc cc0_stg0_0 ↦{fullShare} xIn m ρ c) : sProp 𝕄)
      ⊢ iprop((((c : Thread nD τ).loc cc0_stg0_0 ↦{fullShare} xIn m ρ c) -∗ runs c (k (xRow m ρ c b)) Q) -∗ runs c (loadRow b k) Q) := by
  unfold loadRow
  exact wp_load 𝒱₀ (c : Thread nD τ) none Set.univ (m := xM) (r := (rowR b).toLoadRect) (S := Finset.univ) (f := xIn m ρ c) (q := fullShare) (Finset.subset_univ _)

theorem step_wq {Q : PUnit → sProp 𝕄} {k : Vec F S512x256 .f32 → Body F} (f : (cc0_stg1_0 : Ref sig .tc).ty.Contents (Elt F)) :
    (((c : Thread nD τ).loc cc0_stg1_0 ↦{fullShare} f) : sProp 𝕄)
      ⊢ iprop((((c : Thread nD τ).loc cc0_stg1_0 ↦{fullShare} f) -∗ runs c (k f) Q) -∗ runs c (loadWq k) Q) := by
  unfold loadWq
  iintro H Hk
  have hr : wqM.view.readAt (Elt F) wqR.toLoadRect f = f := Memref.readAt_unit_zero (Elt F) cc0_stg1_0 (by funext a; fin_cases a <;> rfl) inb_S512x256_S512x256_0_0 f
  iapply (wp_load 𝒱₀ (c : Thread nD τ) none Set.univ (m := wqM) (r := wqR.toLoadRect) (S := Finset.univ) (f := f) (q := fullShare) (Finset.subset_univ _)) $$ H
  iintro H
  rw [hr]
  iapply Hk
  iexact H
theorem step_wo {Q : PUnit → sProp 𝕄} {k : Vec F S256x512 .f32 → Body F} (f : (cc0_stg4_0 : Ref sig .tc).ty.Contents (Elt F)) :
    (((c : Thread nD τ).loc cc0_stg4_0 ↦{fullShare} f) : sProp 𝕄)
      ⊢ iprop((((c : Thread nD τ).loc cc0_stg4_0 ↦{fullShare} f) -∗ runs c (k f) Q) -∗ runs c (loadWo k) Q) := by
  unfold loadWo
  iintro H Hk
  have hr : woM.view.readAt (Elt F) woR.toLoadRect f = f := Memref.readAt_unit_zero (Elt F) cc0_stg4_0 (by funext a; fin_cases a <;> rfl) inb_S256x512_S256x512_0_0 f
  iapply (wp_load 𝒱₀ (c : Thread nD τ) none Set.univ (m := woM) (r := woR.toLoadRect) (S := Finset.univ) (f := f) (q := fullShare) (Finset.subset_univ _)) $$ H
  iintro H
  rw [hr]
  iapply Hk
  iexact H
theorem step_k {Q : PUnit → sProp 𝕄} {k : Vec F S2x128x4x64 .f32 → Body F} (f : (cc0_stg2_0 : Ref sig .tc).ty.Contents (Elt F)) :
    (((c : Thread nD τ).loc cc0_stg2_0 ↦{fullShare} f) : sProp 𝕄)
      ⊢ iprop((((c : Thread nD τ).loc cc0_stg2_0 ↦{fullShare} f) -∗ runs c (k f) Q) -∗ runs c (loadK k) Q) := by
  unfold loadK
  iintro H Hk
  have hr : kM.view.readAt (Elt F) kR.toLoadRect f = f := Memref.readAt_unit_zero (Elt F) cc0_stg2_0 (by funext a; fin_cases a <;> rfl) inb_S2x128x4x64_S2x128x4x64_0_0_0_0 f
  iapply (wp_load 𝒱₀ (c : Thread nD τ) none Set.univ (m := kM) (r := kR.toLoadRect) (S := Finset.univ) (f := f) (q := fullShare) (Finset.subset_univ _)) $$ H
  iintro H
  rw [hr]
  iapply Hk
  iexact H
theorem step_v {Q : PUnit → sProp 𝕄} {k : Vec F S2x128x4x64 .f32 → Body F} (f : (cc0_stg3_0 : Ref sig .tc).ty.Contents (Elt F)) :
    (((c : Thread nD τ).loc cc0_stg3_0 ↦{fullShare} f) : sProp 𝕄)
      ⊢ iprop((((c : Thread nD τ).loc cc0_stg3_0 ↦{fullShare} f) -∗ runs c (k f) Q) -∗ runs c (loadV k) Q) := by
  unfold loadV
  iintro H Hk
  have hr : vM.view.readAt (Elt F) kR.toLoadRect f = f := Memref.readAt_unit_zero (Elt F) cc0_stg3_0 (by funext a; fin_cases a <;> rfl) inb_S2x128x4x64_S2x128x4x64_0_0_0_0 f
  iapply (wp_load 𝒱₀ (c : Thread nD τ) none Set.univ (m := vM) (r := kR.toLoadRect) (S := Finset.univ) (f := f) (q := fullShare) (Finset.subset_univ _)) $$ H
  iintro H
  rw [hr]
  iapply Hk
  iexact H

end Loads

end Cert.KernelIdeal.Run

end
-- ==== Proof.Triple.lean ====
/-
# One device's run

What a device holds when its body starts, what it holds when the body ends, and the run between the two, at the place
of the device.
-/
module

public import proofs.«01_k».proof.Proof.Run

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after -/

/-- The positions of the cells of place `u` on device `c`. -/
def posAt (c : Dev nD) (u : Fin 4) : sProp 𝕄 :=
  iprop(atPos ER (sendCell c u false) 0 ∅ 0 ∗ atPos ER (sendCell c u true) 0 ∅ 0 ∗ atPos ER (recvCell c u false) 0 ∅ 0 ∗ atPos ER (recvCell c u true) 0 ∅ 0)
/-- The right to signal the mate at place `u`. -/
def barTok (c : Dev nD) (u : Fin 4) : sProp 𝕄 := dutyTok ER (barCell (mate c u)) 0 (place c)
/-- The right to copy to the mate at place `u`: what the copy pays here and there. -/
def copyTok (c : Dev nD) (ch : Bool) (u : Fin 4) : sProp 𝕄 :=
  iprop(dutyTok ER (sendCell c u ch) 0 0 ∗ dutyTok ER (recvCell (mate c u) (place c) ch) 0 0)
/-- The landings a device is owed. -/
def landing (c : Dev nD) (ch : Bool) (u : Fin 4) : sProp 𝕄 := cred (tallyAt (recvCell c u ch) () N)
/-- The counters of place `u`, at zero. -/
def zeroAt (c : Dev nD) (u : Fin 4) : sProp 𝕄 :=
  iprop(semVal (sendCell c u false) 0 ∗ semVal (sendCell c u true) 0 ∗ semVal (recvCell c u false) 0 ∗ semVal (recvCell c u true) 0)

/-- Everything of the protocol that device `c` holds at the start. -/
def ghost (K : Dev nD × (Unit ⊕ Copy) → ℕ) (c : Dev nD) : sProp 𝕄 :=
  iprop(records m ρ K ∗ levAts L lv ∗ cred (tallyAt (barCell c) () 3)
    ∗ (bigSep (Finset.univ.erase (place c)) fun u => landing c false u) ∗ (bigSep (Finset.univ.erase (place c)) fun u => landing c true u)
    ∗ atPos ER (barCell c) 0 ∅ 0 ∗ (bigSep Finset.univ fun u => posAt c u)
    ∗ (bigSep (Finset.univ.erase (place c)) fun u => barTok c u)
    ∗ (bigSep (Finset.univ.erase (place c)) fun u => copyTok c false u) ∗ (bigSep (Finset.univ.erase (place c)) fun u => copyTok c true u))

/-- The scratch buffers, their contents of no matter. -/
def scratch (c : Dev nD) : sProp 𝕄 :=
  iprop((∃ f : Buf (Elt F) (bufL c false), bufL c false ↦{fullShare} f) ∗ (∃ f : Buf (Elt F) (bufL c true), bufL c true ↦{fullShare} f)
    ∗ (∃ f : Buf (Elt F) (srcL c false), srcL c false ↦{fullShare} f) ∗ (∃ f : Buf (Elt F) (srcL c true), srcL c true ↦{fullShare} f))

/-- The staged blocks of the arguments. -/
def staged (c : Dev nD) : sProp 𝕄 :=
  iprop(((c : Thread nD τ).loc cc0_stg0_0 ↦{fullShare} xIn m ρ c) ∗ ((c : Thread nD τ).loc cc0_stg1_0 ↦{fullShare} wqIn m ρ c)
    ∗ ((c : Thread nD τ).loc cc0_stg2_0 ↦{fullShare} kIn m ρ c) ∗ ((c : Thread nD τ).loc cc0_stg3_0 ↦{fullShare} vIn m ρ c)
    ∗ ((c : Thread nD τ).loc cc0_stg4_0 ↦{fullShare} woIn m ρ c))

def before (K : Dev nD × (Unit ⊕ Copy) → ℕ) (c : Dev nD) : sProp 𝕄 :=
  iprop(ghost m ρ K c ∗ scratch c ∗ owing c (O₀ c) ∗ staged m ρ c ∗ ∃ f : Buf (Elt F) ((c : Thread nD τ).loc cc0_stg5_0), ((c : Thread nD τ).loc cc0_stg5_0 ↦{fullShare} f))
def after (c : Dev nD) : sProp 𝕄 :=
  iprop(scratch c ∗ semVal (barCell c) 0 ∗ (bigSep Finset.univ fun u => zeroAt c u) ∗ owing c 0 ∗ staged m ρ c ∗ ((c : Thread nD τ).loc cc0_stg5_0 ↦{fullShare} outAt m ρ c))

/-! ## The cells nobody uses -/

/-- The counters of the device's own place, closed unused. -/
theorem close_home (K : Dev nD × (Unit ⊕ Copy) → ℕ) (c : Dev nD) :
    iprop(records m ρ K ∗ posAt c (place c)) ⊢ |={Set.univ}=> zeroAt c (place c) := by
  unfold posAt zeroAt
  iintro ⟨#HK, H1, H2, H3, H4⟩
  imod (Rounds.cell_close ER (sched m ρ) (Set.mem_univ (K (c, .inr (place c, false, false)))) (fun h => h) (R := 0) (fun r _ => duties_home_send m ρ c false r)) $$ [H1] with H1
  · isplitr; · iapply (inv_of m ρ K (c, .inr (place c, false, false))); iexact HK
    iexact H1
  imod (Rounds.cell_close ER (sched m ρ) (Set.mem_univ (K (c, .inr (place c, false, true)))) (fun h => h) (R := 0) (fun r _ => duties_home_send m ρ c true r)) $$ [H2] with H2
  · isplitr; · iapply (inv_of m ρ K (c, .inr (place c, false, true))); iexact HK
    iexact H2
  imod (Rounds.cell_close ER (sched m ρ) (Set.mem_univ (K (c, .inr (place c, true, false)))) (fun h => h) (R := 0) (fun r _ => duties_home_recv m ρ c false r)) $$ [H3] with H3
  · isplitr; · iapply (inv_of m ρ K (c, .inr (place c, true, false))); iexact HK
    iexact H3
  imod (Rounds.cell_close ER (sched m ρ) (Set.mem_univ (K (c, .inr (place c, true, true)))) (fun h => h) (R := 0) (fun r _ => duties_home_recv m ρ c true r)) $$ [H4] with H4
  · isplitr; · iapply (inv_of m ρ K (c, .inr (place c, true, true))); iexact HK
    iexact H4
  imodintro
  isplitl [H1]; · iexact H1
  isplitl [H2]; · iexact H2
  isplitl [H3]; · iexact H3
  iexact H4

/-! ## What is owed, mate by mate -/

theorem owed_split {t n d f a b e : Fin 4} (c : Dev nD) (ht : place c = t) (h₁ : [t, n, d, f].Nodup) (h₂ : [t, a, b, e].Nodup) :
    O₀ c = (((owedRecv c f true + owedRecv c d true + owedRecv c n true) + owedRecv c f false + owedRecv c d false + owedRecv c n false) + owedBar c e + owedBar c b) + owedBar c a := by
  unfold O₀
  rw [ht, Finset.sum_add_distrib, Finset.sum_add_distrib, sum_mates h₂, sum_mates h₁, sum_mates h₁]
  ac_rfl

/-! ## The run -/

theorem run_place (K : Dev nD × (Unit ⊕ Copy) → ℕ) (c : Dev nD) {t n d f a b e : Fin 4} (ht : t = place c) (hn : n = nearP (place c)) (hd : d = midP (place c)) (hf : f = farP (place c))
    (ha : a = sigP (place c) 0) (hb : b = sigP (place c) 1) (he : e = sigP (place c) 2) (Q : PUnit → sProp 𝕄) :
    iprop(before m ρ K c ∗ (after m ρ c -∗ Q ⟨⟩)) ⊢ runs c (runT c t n d f a b e) Q := by
  have h₁ : [place c, n, d, f].Nodup := by rw [hn, hd, hf]; exact meet_nodup _
  have h₂ : [place c, a, b, e].Nodup := by rw [ha, hb, he]; exact sig_nodup _
  have nn : n ≠ place c := by rw [hn]; exact near_ne _
  have nd : d ≠ place c := by rw [hd]; exact mid_ne _
  have nf : f ≠ place c := by rw [hf]; exact far_ne _
  have na : a ≠ place c := by rw [ha]; exact sig_ne _ _
  have nb : b ≠ place c := by rw [hb]; exact sig_ne _ _
  have ne : e ≠ place c := by rw [he]; exact sig_ne _ _
  subst ht
  unfold before ghost scratch staged
  rw [bigSep_mates h₁, bigSep_mates h₁, bigSep_places h₁, bigSep_mates h₂, bigSep_mates h₁, bigSep_mates h₁, owed_split c rfl h₁ h₂]
  unfold runT signalTo
  iintro ⟨⟨⟨#HK, #Hlev, HcB, ⟨HLnf, HLdf, HLff⟩, ⟨HLnt, HLdt, HLft⟩, HaB, ⟨HPp, HPn, HPd, HPf⟩, ⟨HBa, HBb, HBe⟩, ⟨HCnf, HCdf, HCff⟩, ⟨HCnt, HCdt, HCft⟩⟩,
    ⟨Hbk, Hbv, Hsk, Hsv⟩, HO, ⟨Hx, Hwq, Hk, Hv, Hwo⟩, ⟨%g, Hout⟩⟩, Hend⟩
  imod (close_home m ρ K c) $$ [HPp] with HZp
  · isplitr; · iexact HK
    iexact HPp
  ihave HFk := (slots_split c false) $$ Hbk
  ihave HFv := (slots_split c true) $$ Hbv
  ihave HFk := (Entails.of_eq (bigSep_places h₂ _)) $$ HFk
  ihave HFv := (Entails.of_eq (bigSep_places h₂ _)) $$ HFv
  icases HFk with ⟨HFkp, HFka, HFkb, HFke⟩
  icases HFv with ⟨HFvp, HFva, HFvb, HFve⟩
  unfold barTok
  iapply (step_signal m ρ K c a rfl na _ _ rfl) $$ [HO HBa HFka HFva]
  · isplitr; · iexact HK
    isplitl [HO]; · iexact HO
    isplitl [HBa]; · iexact HBa
    isplitl [HFka]; · iexact HFka
    iexact HFva
  iintro HO
  iapply (step_signal m ρ K c b rfl nb _ _ rfl) $$ [HO HBb HFkb HFvb]
  · isplitr; · iexact HK
    isplitl [HO]; · iexact HO
    isplitl [HBb]; · iexact HBb
    isplitl [HFkb]; · iexact HFkb
    iexact HFvb
  iintro HO
  iapply (step_signal m ρ K c e rfl ne _ _ rfl) $$ [HO HBe HFke HFve]
  · isplitr; · iexact HK
    isplitl [HO]; · iexact HO
    isplitl [HBe]; · iexact HBe
    isplitl [HFke]; · iexact HFke
    iexact HFve
  iintro HO
  iapply (step_barrier m ρ K c ((owedRecv c f true + owedRecv c d true + owedRecv c n true) + owedRecv c f false + owedRecv c d false + owedRecv c n false) (by
      intro g u h
      unfold owedRecv at h
      rcases add_pos_of h with h | h
      · rcases add_pos_of h with h | h
        · rcases add_pos_of h with h | h
          · rcases add_pos_of h with h | h
            · rcases add_pos_of h with h | h
              · exact ⟨_, _, _, tally_pos h⟩
              · exact ⟨_, _, _, tally_pos h⟩
            · exact ⟨_, _, _, tally_pos h⟩
          · exact ⟨_, _, _, tally_pos h⟩
        · exact ⟨_, _, _, tally_pos h⟩
      · exact ⟨_, _, _, tally_pos h⟩)) $$ [HO HcB HaB]
  · isplitr; · iexact HK
    isplitr; · iexact Hlev
    isplitl [HO]; · iexact HO
    isplitl [HcB]; · iexact HcB
    iexact HaB
  iintro ⟨HO, HZB, Hpay⟩
  ihave Hpay := (Entails.of_eq (bigSep_mates h₁ _)) $$ Hpay
  unfold barPay
  icases Hpay with ⟨⟨HDnf, HDnt⟩, ⟨HDdf, HDdt⟩, HDff, HDft⟩
  unfold landing copyTok posAt
  iapply (step_k c _) $$ Hk
  iintro Hk
  iapply (step_src c false (sent m ρ false c)) $$ Hsk
  iintro Hsk
  ihave Hsk := (sent_split m ρ c false) $$ Hsk
  ihave Hsk := (Entails.of_eq (bigSep_places h₁ _)) $$ Hsk
  unfold sendPay
  icases Hsk with ⟨HQpf, HQnf, HQdf, HQff⟩
  unfold copyTo
  icases HCnf with ⟨HCs, HCr⟩
  iapply (step_copy m ρ K c n false rfl nn _ rfl rfl rfl _ _ rfl) $$ [HO HQnf HDnf HCs HCr]
  · isplitr; · iexact HK
    isplitl [HO]; · iexact HO
    isplitl [HQnf]; · iexact HQnf
    isplitl [HDnf]; · iexact HDnf
    isplitl [HCs]; · iexact HCs
    iexact HCr
  iintro ⟨HO, HSnf⟩
  icases HCdf with ⟨HCs, HCr⟩
  iapply (step_copy m ρ K c d false rfl nd _ rfl rfl rfl _ _ rfl) $$ [HO HQdf HDdf HCs HCr]
  · isplitr; · iexact HK
    isplitl [HO]; · iexact HO
    isplitl [HQdf]; · iexact HQdf
    isplitl [HDdf]; · iexact HDdf
    isplitl [HCs]; · iexact HCs
    iexact HCr
  iintro ⟨HO, HSdf⟩
  icases HCff with ⟨HCs, HCr⟩
  iapply (step_copy m ρ K c f false rfl nf _ rfl rfl rfl _ _ rfl) $$ [HO HQff HDff HCs HCr]
  · isplitr; · iexact HK
    isplitl [HO]; · iexact HO
    isplitl [HQff]; · iexact HQff
    isplitl [HDff]; · iexact HDff
    isplitl [HCs]; · iexact HCs
    iexact HCr
  iintro ⟨HO, HSff⟩
  iapply (step_v c _) $$ Hv
  iintro Hv
  iapply (step_src c true (sent m ρ true c)) $$ Hsv
  iintro Hsv
  ihave Hsv := (sent_split m ρ c true) $$ Hsv
  ihave Hsv := (Entails.of_eq (bigSep_places h₁ _)) $$ Hsv
  unfold sendPay
  icases Hsv with ⟨HQpt, HQnt, HQdt, HQft⟩

  icases HCnt with ⟨HCs, HCr⟩
  iapply (step_copy m ρ K c n true rfl nn _ rfl rfl rfl _ _ rfl) $$ [HO HQnt HDnt HCs HCr]
  · isplitr; · iexact HK
    isplitl [HO]; · iexact HO
    isplitl [HQnt]; · iexact HQnt
    isplitl [HDnt]; · iexact HDnt
    isplitl [HCs]; · iexact HCs
    iexact HCr
  iintro ⟨HO, HSnt⟩
  icases HCdt with ⟨HCs, HCr⟩
  iapply (step_copy m ρ K c d true rfl nd _ rfl rfl rfl _ _ rfl) $$ [HO HQdt HDdt HCs HCr]
  · isplitr; · iexact HK
    isplitl [HO]; · iexact HO
    isplitl [HQdt]; · iexact HQdt
    isplitl [HDdt]; · iexact HDdt
    isplitl [HCs]; · iexact HCs
    iexact HCr
  iintro ⟨HO, HSdt⟩
  icases HCft with ⟨HCs, HCr⟩
  iapply (step_copy m ρ K c f true rfl nf _ rfl rfl rfl _ 0 (by rw [zero_add])) $$ [HO HQft HDft HCs HCr]
  · isplitr; · iexact HK
    isplitl [HO]; · iexact HO
    isplitl [HQft]; · iexact HQft
    isplitl [HDft]; · iexact HDft
    isplitl [HCs]; · iexact HCs
    iexact HCr
  iintro ⟨HO, HSft⟩
  iapply (step_xrow m ρ c 0) $$ Hx
  iintro Hx
  iapply (step_wq c _) $$ Hwq
  iintro Hwq
  iapply (step_xrow m ρ c 1) $$ Hx
  iintro Hx
  iapply (step_wq c _) $$ Hwq
  iintro Hwq
  unfold runTail awaitFrom awaitSent
  icases HPn with ⟨HPsnf, HPsnt, HPrnf, HPrnt⟩
  icases HPd with ⟨HPsdf, HPsdt, HPrdf, HPrdt⟩
  icases HPf with ⟨HPsff, HPsft, HPrff, HPrft⟩
  iapply (step_recv m ρ K c n false rfl (credit_slot false n) nn) $$ [HO HLnf HPrnf]
  · isplitr; · iexact HK
    isplitl [HO]; · iexact HO
    isplitl [HLnf]; · iexact HLnf
    iexact HPrnf
  iintro ⟨HO, HZrnf, HRnf⟩
  iapply (step_recv m ρ K c n true rfl (credit_slot true n) nn) $$ [HO HLnt HPrnt]
  · isplitr; · iexact HK
    isplitl [HO]; · iexact HO
    isplitl [HLnt]; · iexact HLnt
    iexact HPrnt
  iintro ⟨HO, HZrnt, HRnt⟩
  iapply (step_recv m ρ K c d false rfl (credit_slot false d) nd) $$ [HO HLdf HPrdf]
  · isplitr; · iexact HK
    isplitl [HO]; · iexact HO
    isplitl [HLdf]; · iexact HLdf
    iexact HPrdf
  iintro ⟨HO, HZrdf, HRdf⟩
  iapply (step_recv m ρ K c d true rfl (credit_slot true d) nd) $$ [HO HLdt HPrdt]
  · isplitr; · iexact HK
    isplitl [HO]; · iexact HO
    isplitl [HLdt]; · iexact HLdt
    iexact HPrdt
  iintro ⟨HO, HZrdt, HRdt⟩
  unfold recvPay
  iapply (step_slot c n false _) $$ HRnf
  iintro HRnf
  iapply (step_slot c d false _) $$ HRdf
  iintro HRdf
  iapply (step_slot c n true _) $$ HRnt
  iintro HRnt
  iapply (step_slot c d true _) $$ HRdt
  iintro HRdt
  iapply (step_recv m ρ K c f false rfl (credit_slot false f) nf) $$ [HO HLff HPrff]
  · isplitr; · iexact HK
    isplitl [HO]; · iexact HO
    isplitl [HLff]; · iexact HLff
    iexact HPrff
  iintro ⟨HO, HZrff, HRff⟩
  iapply (step_recv m ρ K c f true rfl (credit_slot true f) nf) $$ [HO HLft HPrft]
  · isplitr; · iexact HK
    isplitl [HO]; · iexact HO
    isplitl [HLft]; · iexact HLft
    iexact HPrft
  iintro ⟨HO, HZrft, HRft⟩
  unfold recvPay
  iapply (step_slot c f false _) $$ HRff
  iintro HRff
  iapply (step_slot c f true _) $$ HRft
  iintro HRft
  iapply (step_wo c _) $$ Hwo
  iintro Hwo
  iapply (step_row c 0 _ _) $$ Hout
  iintro Hout
  iapply (step_row c 1 _ _) $$ Hout
  iintro Hout
  iapply (step_sent m ρ K c n false rfl (credit_src false) nn) $$ [HO HSnf HPsnf]
  · isplitr; · iexact HK
    isplitl [HO]; · iexact HO
    isplitl [HSnf]; · iexact HSnf
    iexact HPsnf
  iintro ⟨HO, HZsnf, HQnf⟩
  iapply (step_sent m ρ K c n true rfl (credit_src false) nn) $$ [HO HSnt HPsnt]
  · isplitr; · iexact HK
    isplitl [HO]; · iexact HO
    isplitl [HSnt]; · iexact HSnt
    iexact HPsnt
  iintro ⟨HO, HZsnt, HQnt⟩
  iapply (step_sent m ρ K c d false rfl (credit_src false) nd) $$ [HO HSdf HPsdf]
  · isplitr; · iexact HK
    isplitl [HO]; · iexact HO
    isplitl [HSdf]; · iexact HSdf
    iexact HPsdf
  iintro ⟨HO, HZsdf, HQdf⟩
  iapply (step_sent m ρ K c d true rfl (credit_src false) nd) $$ [HO HSdt HPsdt]
  · isplitr; · iexact HK
    isplitl [HO]; · iexact HO
    isplitl [HSdt]; · iexact HSdt
    iexact HPsdt
  iintro ⟨HO, HZsdt, HQdt⟩
  iapply (step_sent m ρ K c f false rfl (credit_src false) nf) $$ [HO HSff HPsff]
  · isplitr; · iexact HK
    isplitl [HO]; · iexact HO
    isplitl [HSff]; · iexact HSff
    iexact HPsff
  iintro ⟨HO, HZsff, HQff⟩
  iapply (step_sent m ρ K c f true rfl (credit_src false) nf) $$ [HO HSft HPsft]
  · isplitr; · iexact HK
    isplitl [HO]; · iexact HO
    isplitl [HSft]; · iexact HSft
    iexact HPsft
  iintro ⟨HO, HZsft, HQft⟩
  unfold runs
  rw [wp_ret]
  imodintro
  iapply Hend
  unfold after scratch staged
  isplitl [HFkp HFvp HRnf HRdf HRff HRnt HRdt HRft HQpf HQnf HQdf HQff HQpt HQnt HQdt HQft]
  · isplitl [HFkp HRnf HRdf HRff]
    · iapply (slots_join c false (fun _ => Scalar.ofBits .bf16 0x0#16))
      rw [bigSep_places h₁]
      isplitl [HFkp]; · iexact HFkp
      isplitl [HRnf]; · unfold freeSlot; iexists _; iexact HRnf
      isplitl [HRdf]; · unfold freeSlot; iexists _; iexact HRdf
      unfold freeSlot; iexists _; iexact HRff
    isplitl [HFvp HRnt HRdt HRft]
    · iapply (slots_join c true (fun _ => Scalar.ofBits .bf16 0x0#16))
      rw [bigSep_places h₁]
      isplitl [HFvp]; · iexact HFvp
      isplitl [HRnt]; · unfold freeSlot; iexists _; iexact HRnt
      isplitl [HRdt]; · unfold freeSlot; iexists _; iexact HRdt
      unfold freeSlot; iexists _; iexact HRft
    isplitl [HQpf HQnf HQdf HQff]
    · iapply (sent_join m ρ c false)
      rw [bigSep_places h₁]
      unfold sendPay
      isplitl [HQpf]; · iexact HQpf
      isplitl [HQnf]; · iexact HQnf
      isplitl [HQdf]; · iexact HQdf
      iexact HQff
    · iapply (sent_join m ρ c true)
      rw [bigSep_places h₁]
      unfold sendPay
      isplitl [HQpt]; · iexact HQpt
      isplitl [HQnt]; · iexact HQnt
      isplitl [HQdt]; · iexact HQdt
      iexact HQft
  isplitl [HZB]; · iexact HZB
  isplitl [HZp HZsnf HZsnt HZrnf HZrnt HZsdf HZsdt HZrdf HZrdt HZsff HZsft HZrff HZrft]
  · rw [bigSep_places h₁]
    isplitl [HZp]; · iexact HZp
    isplitl [HZsnf HZsnt HZrnf HZrnt]
    · unfold zeroAt
      isplitl [HZsnf]; · iexact HZsnf
      isplitl [HZsnt]; · iexact HZsnt
      isplitl [HZrnf]; · iexact HZrnf
      iexact HZrnt
    isplitl [HZsdf HZsdt HZrdf HZrdt]
    · unfold zeroAt
      isplitl [HZsdf]; · iexact HZsdf
      isplitl [HZsdt]; · iexact HZsdt
      isplitl [HZrdf]; · iexact HZrdf
      iexact HZrdt
    · unfold zeroAt
      isplitl [HZsff]; · iexact HZsff
      isplitl [HZsft]; · iexact HZsft
      isplitl [HZrff]; · iexact HZrff
      iexact HZrft
  isplitl [HO]; · iexact HO
  isplitl [Hx Hwq Hk Hv Hwo]
  · isplitl [Hx]; · iexact Hx
    isplitl [Hwq]; · iexact Hwq
    isplitl [Hk]; · iexact Hk
    isplitl [Hv]; · iexact Hv
    iexact Hwo
  rw [write_rows]
  subst hn hd hf
  iexact Hout

end Cert.KernelIdeal.Run

end
-- ==== Proof.Deal.lean ====
/-
# Dealing out the launch

The initial resource holds every cell of the protocol and every right to pay into one. Each cell gets its invariant; each
right goes to the device that exercises it, and each device gets credit for what the others owe its cells.
-/
module

public import proofs.«01_k».proof.Proof.Triple
@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Every cell once -/

/-- A `bigSep` over the four places, over the two truth values, over all cells of a device. -/
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_five {M : Type} [URA M] (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ
theorem bigSep_ways {M : Type} [URA M] (Φ : Bool × Bool → sProp M) :
    bigSep Finset.univ Φ = iprop(Φ (false, false) ∗ Φ (false, true) ∗ Φ (true, false) ∗ Φ (true, true)) :=
  bigSep_univ_eq_bigSepL [(false, false), (false, true), (true, false), (true, true)] (by decide) (by decide) Φ
theorem bigSep_unit {M : Type} [URA M] (Φ : Unit → sProp M) : bigSep Finset.univ Φ = Φ () :=
  bigSep_univ_eq_bigSepL [()] (by decide) (by decide) Φ
theorem bigSep_copies {M : Type} [URA M] (Φ : Copy → sProp M) :
    bigSep Finset.univ Φ = bigSep Finset.univ fun u : Fin 4 =>
      iprop(Φ (u, false, false) ∗ Φ (u, false, true) ∗ Φ (u, true, false) ∗ Φ (u, true, true)) :=
  (bigSep_univ_prod Φ).trans (bigSep_congr fun u _ => bigSep_ways fun x => Φ (u, x))
theorem bigSep_cells {M : Type} [URA M] (Φ : Unit ⊕ Copy → sProp M) :
    bigSep Finset.univ Φ = iprop(Φ (.inl ()) ∗ bigSep Finset.univ fun u : Fin 4 =>
      iprop(Φ (.inr (u, false, false)) ∗ Φ (.inr (u, false, true)) ∗ Φ (.inr (u, true, false)) ∗ Φ (.inr (u, true, true)))) := by
  rw [bigSep_univ_sum, bigSep_unit, bigSep_copies]
  rfl

/-- The name of a cell, read back from it. -/
def cellName : SemLoc sig → Unit ⊕ Copy
  | .reg _ => .inl ()
  | .dma q => .inr (slotOf q, isRecv q, chOf q)
theorem cellName_csem (x : Unit ⊕ Copy) : cellName (csem x) = x := by
  rcases x with ⟨⟩ | ⟨s, r, ch⟩
  · rfl
  · cases r
    · show Sum.inr (slotOf (sendS s ch), isRecv (sendS s ch), chOf (sendS s ch)) = _
      rw [slotOf_send, isRecv_send, chOf_send]
    · show Sum.inr (slotOf (recvS s ch), isRecv (recvS s ch), chOf (recvS s ch)) = _
      rw [slotOf_recv, isRecv_recv, chOf_recv]
theorem csem_injective : Function.Injective csem := Function.LeftInverse.injective cellName_csem
theorem kcell_injective : Function.Injective (kcell : Dev nD × (Unit ⊕ Copy) → GSem nD τ sig) :=
  Function.LeftInverse.injective (g := fun g : GSem nD τ sig => (g.1.1, cellName g.2)) fun ck => by
    show (ck.1, cellName (csem ck.2)) = ck
    rw [cellName_csem]
def allCells : Finset (GSem nD τ sig) := Finset.univ.map ⟨kcell, kcell_injective⟩

/-! ## Every right to pay once -/

/-- The rights minted for the cells of device `c`, by place: to signal its barrier from there, to pay the two copies that
    leave for there, to pay the two that arrive from there. -/
def tokOf (x : Dev nD × Fin 4 × Fin 5) : GSem nD τ sig × ℕ × Fin 4 :=
  match x.2.2 with
  | 0 => (barCell x.1, 0, x.2.1)
  | 1 => (sendCell x.1 x.2.1 false, 0, 0)
  | 2 => (sendCell x.1 x.2.1 true, 0, 0)
  | 3 => (recvCell x.1 x.2.1 false, 0, 0)
  | 4 => (recvCell x.1 x.2.1 true, 0, 0)
def tokName (y : GSem nD τ sig × ℕ × Fin 4) : Dev nD × Fin 4 × Fin 5 :=
  match y.1.2 with
  | .reg _ => (y.1.1.1, y.2.2, 0)
  | .dma q => (y.1.1.1, slotOf q, if isRecv q then (if chOf q then 4 else 3) else (if chOf q then 2 else 1))
theorem tokOf_injective : Function.Injective tokOf :=
  Function.LeftInverse.injective (g := tokName) fun x => by
    rcases x with ⟨c, u, j⟩
    fin_cases j
    · rfl
    · show (c, slotOf (sendS u false), if isRecv (sendS u false) then (if chOf (sendS u false) then (4 : Fin 5) else 3) else (if chOf (sendS u false) then 2 else 1)) = _
      rw [slotOf_send, isRecv_send, chOf_send]; rfl
    · show (c, slotOf (sendS u true), if isRecv (sendS u true) then (if chOf (sendS u true) then (4 : Fin 5) else 3) else (if chOf (sendS u true) then 2 else 1)) = _
      rw [slotOf_send, isRecv_send, chOf_send]; rfl
    · show (c, slotOf (recvS u false), if isRecv (recvS u false) then (if chOf (recvS u false) then (4 : Fin 5) else 3) else (if chOf (recvS u false) then 2 else 1)) = _
      rw [slotOf_recv, isRecv_recv, chOf_recv]; rfl
    · show (c, slotOf (recvS u true), if isRecv (recvS u true) then (if chOf (recvS u true) then (4 : Fin 5) else 3) else (if chOf (recvS u true) then 2 else 1)) = _
      rw [slotOf_recv, isRecv_recv, chOf_recv]; rfl
def allToks : Finset (GSem nD τ sig × ℕ × Fin 4) := Finset.univ.map ⟨tokOf, tokOf_injective⟩

/-- The rights at place `u` of device `c`, as minted. -/
def minted (c : Dev nD) (u : Fin 4) : sProp 𝕄 :=
  iprop(dutyTok ER (barCell c) 0 u ∗ dutyTok ER (sendCell c u false) 0 0 ∗ dutyTok ER (sendCell c u true) 0 0
    ∗ dutyTok ER (recvCell c u false) 0 0 ∗ dutyTok ER (recvCell c u true) 0 0)
/-- The rights device `c` exercises towards its mate at place `u`. -/
def dealt (c : Dev nD) (u : Fin 4) : sProp 𝕄 := iprop(barTok c u ∗ copyTok c false u ∗ copyTok c true u)

/-- A device and a place, swapped for the mate there and the place the device has from it. -/
def across : Dev nD × Fin 4 ≃ Dev nD × Fin 4 where
  toFun x := (mate x.1 x.2, place x.1)
  invFun x := (mate x.1 x.2, place x.1)
  left_inv x := by show (mate (mate x.1 x.2) (place x.1), place (mate x.1 x.2)) = x; rw [mate_mate, mate_place, place_mate]
  right_inv x := by show (mate (mate x.1 x.2) (place x.1), place (mate x.1 x.2)) = x; rw [mate_mate, mate_place, place_mate]

theorem deal : (bigSep Finset.univ fun c : Dev nD => bigSep Finset.univ fun u : Fin 4 => minted (F := F) c u)
    ⊢ bigSep Finset.univ fun c : Dev nD => bigSep Finset.univ fun u : Fin 4 => dealt (F := F) c u := by
  rw [← bigSep_univ_prod (fun x : Dev nD × Fin 4 => minted (F := F) x.1 x.2), ← bigSep_univ_prod (fun x : Dev nD × Fin 4 => dealt (F := F) x.1 x.2)]
  unfold minted dealt barTok copyTok
  rw [bigSep_sep', bigSep_sep', bigSep_sep', bigSep_sep', bigSep_sep', bigSep_sep', bigSep_sep', bigSep_sep',
    bigSep_univ_equiv across (fun x : Dev nD × Fin 4 => (dutyTok ER (barCell x.1) 0 x.2 : sProp 𝕄)),
    bigSep_univ_equiv across (fun x : Dev nD × Fin 4 => (dutyTok ER (recvCell x.1 x.2 false) 0 0 : sProp 𝕄)),
    bigSep_univ_equiv across (fun x : Dev nD × Fin 4 => (dutyTok ER (recvCell x.1 x.2 true) 0 0 : sProp 𝕄))]
  iintro ⟨H0, H1, H2, H3, H4⟩
  isplitl [H0]; · iexact H0
  isplitl [H1 H3]
  · isplitl [H1]; · iexact H1
    iexact H3
  isplitl [H2]; · iexact H2
  iexact H4

/-! ## What the launch deals -/

def u₀ : UU := (initOf (Pipeline.cells cfgs cellOf_inj) (Pipeline.launchToks cfgs cellOf_inj), initOf allCells allToks)

/-- What each device gets of the initial resource: its cells' states and positions, and the rights minted for them. -/
def G (c : Dev nD) : sProp 𝕄 :=
  iprop((bigSep Finset.univ fun k : Unit ⊕ Copy => roundState ER (sched m ρ) (kcell (c, k)) 0)
    ∗ (bigSep Finset.univ fun k : Unit ⊕ Copy => iprop(atPos ER (kcell (c, k)) 0 ∅ 0 ∗ reached ER (kcell (c, k)) 0))
    ∗ bigSep Finset.univ fun u : Fin 4 => minted c u)

/-- What it holds once every cell has its invariant and the rights have gone to those who exercise them. -/
def held (K : Dev nD × (Unit ⊕ Copy) → ℕ) (c : Dev nD) : sProp 𝕄 :=
  iprop(records m ρ K ∗ (bigSep Finset.univ fun k : Unit ⊕ Copy => atPos ER (kcell (c, k)) 0 ∅ 0) ∗ bigSep Finset.univ fun u : Fin 4 => dealt c u)
def G' (c : Dev nD) : sProp 𝕄 := iprop(∃ K, held m ρ K c)

theorem held_intro (K : Dev nD × (Unit ⊕ Copy) → ℕ) (c : Dev nD) :
    iprop(records m ρ K ∗ (bigSep Finset.univ fun k : Unit ⊕ Copy => atPos ER (kcell (c, k)) 0 ∅ 0) ∗ bigSep Finset.univ fun u : Fin 4 => dealt c u)
      ⊢ G' m ρ c := by
  unfold G' held
  iintro H
  iexists K
  iexact H

theorem fund_all : BI.own (ER (initOf allCells allToks)) ⊢ (|==> bigSep Finset.univ (G m ρ) : sProp 𝕄) := by
  have hC (Φ : GSem nD τ sig → sProp 𝕄) : bigSep allCells Φ = bigSep Finset.univ fun c : Dev nD => bigSep Finset.univ fun k : Unit ⊕ Copy => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun u : Fin 4 => minted c u := by
    unfold allToks; rw [bigSep_map, bigSep_univ_prod]
    refine bigSep_congr fun c _ => ?_
    rw [bigSep_univ_prod]
    exact bigSep_congr fun u _ => by unfold minted; rw [bigSep_five]; rfl
  iintro HX
  imod (Rounds.fund ER (sched m ρ) allCells allToks) $$ HX with ⟨Hst, Hr, Hat, Htok⟩
  imodintro
  ihave Hst := (Entails.of_eq (hC fun g => roundState ER (sched m ρ) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The copies' semaphores are the kernel's own; the barrier's is the launch's one unscoped semaphore. -/
theorem ownSems0_eq (c : Dev nD) : (Pipeline.ownSems0 (Ix := Unit) (Name := ℕ) (U := UU) (Lvl := ℕ) (Val := Elt F) (τ := τ) osem c : sProp 𝕄)
    = bigSep Finset.univ fun u : Fin 4 => zeroAt c u := by
  unfold Pipeline.ownSems0; rw [bigSep_copies]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem counters (c : Dev nD) :
    iprop(Pipeline.ownSems0 (Ix := Unit) (Name := ℕ) (U := UU) (Lvl := ℕ) (Val := Elt F) (τ := τ) osem c ∗ unscopedSems0 c)
      ⊢ (bigSep Finset.univ fun k : Unit ⊕ Copy => semVal (kcell (c, k)) 0 : sProp 𝕄) := by
  rw [bigSep_cells, ownSems0_eq, unscopedSems0_eq]
  iintro ⟨HO, HB⟩
  isplitl [HB]; · iexact HB
  iexact HO

theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0))
          ∗ bigSep Finset.univ fun u : Fin 4 => minted c u) := by
  have halloc : iprop((bigSep Finset.univ fun k : Unit ⊕ Copy => semVal (kcell (c, k)) 0) ∗ bigSep Finset.univ fun k : Unit ⊕ Copy => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  iintro ⟨Hos, Hus, Hst, Hat, Htok⟩
  ihave Hv := (counters (F := F) c) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0))
          ∗ bigSep Finset.univ fun u : Fin 4 => minted c u) : sProp 𝕄)
      ⊢ bigSep Finset.univ (G' m ρ) := by
  rw [bigSep_sep', bigSep_sep', ← bigSep_univ_prod (fun ck : Dev nD × (Unit ⊕ Copy) => iprop(∃ κ : ℕ, cellInv ER (sched m ρ) κ (kcell ck))),
    bigSep_congr (s := Finset.univ) (fun (c : Dev nD) _ => bigSep_sep' Finset.univ (fun k : Unit ⊕ Copy => (atPos ER (kcell (c, k)) 0 ∅ 0 : sProp 𝕄)) (fun k => reached ER (kcell (c, k)) 0)),
    bigSep_sep', ← bigSep_univ_prod (fun ck : Dev nD × (Unit ⊕ Copy) => (reached ER (kcell ck) 0 : sProp 𝕄))]
  iintro ⟨HI, ⟨Hat, #HR⟩, Htok⟩
  ihave HK := (BI.bigSep_exists_pi Finset.univ (fun (ck : Dev nD × (Unit ⊕ Copy)) (κ : ℕ) => (cellInv ER (sched m ρ) κ (kcell ck) : sProp 𝕄))) $$ HI
  icases HK with ⟨%K, #HI⟩
  ihave Htok := (deal (F := F)) $$ Htok
  have hall : iprop(records m ρ K ∗ bigSep Finset.univ fun c : Dev nD => iprop((bigSep Finset.univ fun k : Unit ⊕ Copy => (atPos ER (kcell (c, k)) 0 ∅ 0 : sProp 𝕄)) ∗ bigSep Finset.univ fun u : Fin 4 => dealt c u))
      ⊢ bigSep Finset.univ (G' m ρ) := by
    refine (sep_mono_left (BI.bigSep_of_persistent (Finset.univ : Finset (Dev nD)) (records m ρ K))).trans ?_
    rw [← bigSep_sep']
    exact bigSep_mono fun c _ => held_intro m ρ K c
  iapply hall
  isplitr
  · unfold records; isplitl; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (regroup m ρ))

/-! ## What the devices owe each other -/

theorem bar_eq_iff {a b : Dev nD} : barCell a = barCell b ↔ a = b :=
  ⟨fun h => congrArg (fun g : GSem nD τ sig => g.1.1) h, fun h => h ▸ rfl⟩
theorem recv_eq_iff {a b : Dev nD} {s u : Fin 4} {ch ch' : Bool} : recvCell a s ch = recvCell b u ch' ↔ a = b ∧ s = u ∧ ch = ch' := by
  refine ⟨fun h => ?_, fun ⟨h₁, h₂, h₃⟩ => by rw [h₁, h₂, h₃]⟩
  have h' := kcell_injective (a₁ := (a, .inr (s, true, ch))) (a₂ := (b, .inr (u, true, ch'))) h
  have h₁ : a = b := congrArg Prod.fst h'
  have h₂ : (s, true, ch) = (u, true, ch') := Sum.inr.inj (congrArg Prod.snd h' : (Sum.inr (s, true, ch) : Unit ⊕ Copy) = .inr (u, true, ch'))
  exact ⟨h₁, congrArg (fun y : Copy => y.1) h₂, congrArg (fun y : Copy => y.2.2) h₂⟩
theorem bar_ne_recv (a b : Dev nD) (s : Fin 4) (ch : Bool) : barCell a ≠ recvCell b s ch := fun h => by
  have h' := congrArg Prod.snd h
  cases h'

theorem owed_at (d : Dev nD) (g : GSem nD τ sig) :
    O₀ d g () = ∑ u ∈ Finset.univ.erase (place d), (owedBar d u g () + (owedRecv d u false g () + owedRecv d u true g ())) := by
  unfold O₀
  rw [Finset.sum_apply, Finsupp.finset_sum_apply]
  rfl

theorem owed_bar (d c : Dev nD) : O₀ d (barCell c) () = ∑ u ∈ Finset.univ.erase (place d), if mate d u = c then 1 else 0 := by
  rw [owed_at]
  refine Finset.sum_congr rfl fun u _ => ?_
  unfold owedBar owedRecv
  rw [tallyAt_ne_cell (bar_ne_recv _ _ _ _), tallyAt_ne_cell (bar_ne_recv _ _ _ _), tallyAt_apply]
  simp only [Finsupp.zero_apply, Nat.add_zero]
  by_cases h : mate d u = c
  · rw [if_pos h, if_pos ⟨by rw [h], trivial⟩]
  · rw [if_neg h, if_neg fun h' => h (bar_eq_iff.mp h'.1).symm]

theorem owed_recv (d c : Dev nD) (s : Fin 4) (ch : Bool) :
    O₀ d (recvCell c s ch) () = ∑ u ∈ Finset.univ.erase (place d), N * if mate d u = c ∧ place d = s then 1 else 0 := by
  rw [owed_at]
  refine Finset.sum_congr rfl fun u _ => ?_
  unfold owedBar owedRecv
  rw [tallyAt_ne_cell (bar_ne_recv _ _ _ _).symm, tallyAt_apply, tallyAt_apply]
  simp only [recv_eq_iff, Finsupp.zero_apply, Nat.zero_add]
  by_cases h : mate d u = c ∧ place d = s
  · rw [if_pos h]
    cases ch
    · rw [if_pos ⟨⟨h.1.symm, h.2.symm, rfl⟩, trivial⟩, if_neg fun h' => Bool.false_ne_true h'.1.2.2]; rfl
    · rw [if_neg fun h' => Bool.false_ne_true h'.1.2.2.symm, if_pos ⟨⟨h.1.symm, h.2.symm, rfl⟩, trivial⟩]
      exact (Nat.zero_add _).trans (Nat.mul_one _).symm
  · rw [if_neg h, if_neg fun h' => h ⟨h'.1.1.symm, h'.1.2.1.symm⟩, if_neg fun h' => h ⟨h'.1.1.symm, h'.1.2.1.symm⟩]
    exact (Nat.mul_zero _).symm

theorem total_bar (c : Dev nD) : (∑ d : Dev nD, ∑ u ∈ Finset.univ.erase (place d), if mate d u = c then 1 else 0) = 3 := by
  revert c; decide
theorem total_recv (c : Dev nD) (s : Fin 4) (h : s ≠ place c) :
    (∑ d : Dev nD, ∑ u ∈ Finset.univ.erase (place d), if mate d u = c ∧ place d = s then 1 else 0) = 1 := by
  revert c s; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  exact total_bar c
theorem launch_recv (c : Dev nD) (s : Fin 4) (ch : Bool) (h : s ≠ place c) :
    tallyOn (recvCell c s ch) (launchCredit (Pipeline.owing O₀) 0 (recvCell c s ch)) = (tallyAt (recvCell c s ch) () N : CellTallies nD τ sig Unit) := by
  unfold tallyAt; refine congrArg _ (Finsupp.ext fun u => ?_); cases u
  rw [Pipeline.launchCredit_owing, Finsupp.single_eq_same, Finset.sum_congr rfl fun d _ => owed_recv d c s ch,
    Finset.sum_congr rfl fun d _ => (Finset.mul_sum _ _ _).symm, ← Finset.mul_sum]
  rw [total_recv c s h, Nat.mul_one]

theorem drop_two {A B C D : sProp 𝕄} : iprop(A ∗ B ∗ C ∗ D) ⊢ iprop(C ∗ D) := by
  iintro ⟨-, -, H1, H2⟩
  isplitl [H1]; · iexact H1
  iexact H2

theorem creds (c : Dev nD) :
    (Pipeline.launchCred O₀ c : sProp 𝕄)
      ⊢ iprop(cred (tallyAt (barCell c) () 3) ∗ (bigSep (Finset.univ.erase (place c)) fun u => landing c false u)
          ∗ bigSep (Finset.univ.erase (place c)) fun u => landing c true u) := by
  unfold Pipeline.launchCred
  refine (bigSep_subset (t := Finset.univ.map ⟨csem, csem_injective⟩) (Finset.subset_univ _)).trans ?_
  rw [bigSep_map]
  show bigSep Finset.univ (fun x : Unit ⊕ Copy => (cred (tallyOn (kcell (c, x)) (launchCredit (Pipeline.owing O₀) 0 (kcell (c, x)))) : sProp 𝕄)) ⊢ _
  rw [bigSep_cells, show tallyOn (kcell (c, .inl ())) (launchCredit (Pipeline.owing O₀) 0 (kcell (c, .inl ()))) = tallyAt (barCell c) () 3 from launch_bar c]
  refine sep_mono_right ?_
  refine (bigSep_subset (t := Finset.univ.erase (place c)) (Finset.subset_univ _)).trans ?_
  rw [← bigSep_sep']
  refine bigSep_mono fun u hu => ?_
  have h := Finset.ne_of_mem_erase hu
  unfold landing
  rw [← launch_recv c u false h, ← launch_recv c u true h]
  exact drop_two

/-- What a device's body starts from. -/
def start (c : Dev nD) : sProp 𝕄 := iprop(∃ K, ghost m ρ K c)

theorem start_of (c : Dev nD) : iprop(levAts L lv ∗ Pipeline.launchCred O₀ c ∗ G' m ρ c) ⊢ start m ρ c := by
  have hdeal : (bigSep Finset.univ fun u : Fin 4 => dealt (F := F) c u)
      ⊢ iprop((bigSep (Finset.univ.erase (place c)) fun u => barTok c u)
        ∗ (bigSep (Finset.univ.erase (place c)) fun u => copyTok c false u) ∗ (bigSep (Finset.univ.erase (place c)) fun u => copyTok c true u)) := by
    refine (bigSep_subset (t := Finset.univ.erase (place c)) (Finset.subset_univ _)).trans ?_
    unfold dealt
    rw [bigSep_sep', bigSep_sep']
    exact Entails.refl _
  unfold G' held start ghost
  rw [bigSep_cells]
  iintro ⟨Hlev, Hcr, ⟨%K, HK, ⟨HB, HP⟩, HT⟩⟩
  ihave Hcr := (creds (F := F) c) $$ Hcr
  icases Hcr with ⟨H1, H2, H3⟩
  ihave HT := hdeal $$ HT
  icases HT with ⟨HT1, HT2, HT3⟩
  iexists K
  isplitl [HK]; · iexact HK
  isplitl [Hlev]; · iexact Hlev
  isplitl [H1]; · iexact H1
  isplitl [H2]; · iexact H2
  isplitl [H3]; · iexact H3
  isplitl [HB]; · iexact HB
  isplitl [HP]; · iexact HP
  isplitl [HT1]; · iexact HT1
  isplitl [HT2]; · iexact HT2
  iexact HT3

end Cert.KernelIdeal.Run

end
-- ==== Proof.Stretch.lean ====
/-
# The printed body is the body with a variable place

Each stretch of the printed body, on a device at one of the four places, is the corresponding stretch of `runT`: its
conditions are decided there, its device words are mates, its branch is the one of the place.
-/
module

public import proofs.«01_k».proof.Proof.Run

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The word the body computes for its place: `c / 2` rounded down, as the printed arithmetic spells it. -/
def placeWord (c : Dev nD) : BitVec 32 :=
  Scalar.select (Scalar.andi (Scalar.cmpi .ne
      (Scalar.subi (Scalar.extui (Scalar.cmpi .sgt (Scalar.remsi (Scalar.divsi (Dev.word c) 1#32) 8#32) 0#32)) (Scalar.extui (Scalar.cmpi .slt (Scalar.remsi (Scalar.divsi (Dev.word c) 1#32) 8#32) 0#32)) : BitVec 32)
      (Scalar.subi (Scalar.extui (Scalar.cmpi .sgt (2#32 : BitVec 32) 0#32)) (Scalar.extui (Scalar.cmpi .slt (2#32 : BitVec 32) 0#32))))
    (Scalar.cmpi .ne (Scalar.remsi (Scalar.remsi (Scalar.divsi (Dev.word c) 1#32) 8#32) 2#32) 0#32))
    (Scalar.subi (Scalar.divsi (Scalar.remsi (Scalar.divsi (Dev.word c) 1#32) 8#32) 2#32) 1#32)
    (Scalar.divsi (Scalar.remsi (Scalar.divsi (Dev.word c) 1#32) 8#32) 2#32)
/-- The word of the parity. -/
def parityWord (c : Dev nD) : BitVec 32 := Scalar.remsi (Scalar.remsi (Scalar.divsi (Dev.word c) 1#32) 8#32) 2#32
/-- The word a branch tests. -/
abbrev atWord (w : BitVec 32) (t : BitVec 32) : BitVec 1 := Scalar.cmpi .ne (Scalar.extui (Scalar.cmpi .eq w t)) (0#32 : BitVec 32)

theorem word0_0 : ∀ c : Dev nD, place c = 0 → atWord (placeWord c) 0#32 = 1#1 := by decide
theorem word0_1 : ∀ c : Dev nD, place c = 0 → atWord (placeWord c) 1#32 ≠ 1#1 := by decide
theorem word0_2 : ∀ c : Dev nD, place c = 0 → atWord (placeWord c) 2#32 ≠ 1#1 := by decide
theorem word0_3 : ∀ c : Dev nD, place c = 0 → atWord (placeWord c) 3#32 ≠ 1#1 := by decide
theorem word1_0 : ∀ c : Dev nD, place c = 1 → atWord (placeWord c) 0#32 ≠ 1#1 := by decide
theorem word1_1 : ∀ c : Dev nD, place c = 1 → atWord (placeWord c) 1#32 = 1#1 := by decide
theorem word1_2 : ∀ c : Dev nD, place c = 1 → atWord (placeWord c) 2#32 ≠ 1#1 := by decide
theorem word1_3 : ∀ c : Dev nD, place c = 1 → atWord (placeWord c) 3#32 ≠ 1#1 := by decide
theorem word2_0 : ∀ c : Dev nD, place c = 2 → atWord (placeWord c) 0#32 ≠ 1#1 := by decide
theorem word2_1 : ∀ c : Dev nD, place c = 2 → atWord (placeWord c) 1#32 ≠ 1#1 := by decide
theorem word2_2 : ∀ c : Dev nD, place c = 2 → atWord (placeWord c) 2#32 = 1#1 := by decide
theorem word2_3 : ∀ c : Dev nD, place c = 2 → atWord (placeWord c) 3#32 ≠ 1#1 := by decide
theorem word3_0 : ∀ c : Dev nD, place c = 3 → atWord (placeWord c) 0#32 ≠ 1#1 := by decide
theorem word3_1 : ∀ c : Dev nD, place c = 3 → atWord (placeWord c) 1#32 ≠ 1#1 := by decide
theorem word3_2 : ∀ c : Dev nD, place c = 3 → atWord (placeWord c) 2#32 ≠ 1#1 := by decide
theorem word3_3 : ∀ c : Dev nD, place c = 3 → atWord (placeWord c) 3#32 = 1#1 := by decide
theorem dev1 (c : Dev nD) (h : k0_cond1 c = 1#1) : (⟨k0_dev1 c, k0_dev1_lt c h⟩ : Dev nD) = mate c 0 := Fin.ext (by have e := k0_dev1_eq c; show k0_dev1 c = c.val % 2 + 2 * 0; omega)
theorem dev2 (c : Dev nD) (h : k0_cond2 c = 1#1) : (⟨k0_dev2 c, k0_dev2_lt c h⟩ : Dev nD) = mate c 1 := Fin.ext (by have e := k0_dev2_eq c; show k0_dev2 c = c.val % 2 + 2 * 1; omega)
theorem dev3 (c : Dev nD) (h : k0_cond3 c = 1#1) : (⟨k0_dev3 c, k0_dev3_lt c h⟩ : Dev nD) = mate c 2 := Fin.ext (by have e := k0_dev3_eq c; show k0_dev3 c = c.val % 2 + 2 * 2; omega)
theorem dev4 (c : Dev nD) (h : k0_cond4 c = 1#1) : (⟨k0_dev4 c, k0_dev4_lt c h⟩ : Dev nD) = mate c 3 := Fin.ext (by have e := k0_dev4_eq c; show k0_dev4 c = c.val % 2 + 2 * 3; omega)
theorem dev5 (c : Dev nD) (h : k0_cond5 c = 1#1) : (⟨k0_dev5 c, k0_dev5_lt c h⟩ : Dev nD) = mate c 2 := Fin.ext (by have e := k0_dev5_eq c; show k0_dev5 c = c.val % 2 + 2 * 2; omega)
theorem dev6 (c : Dev nD) (h : k0_cond5 c = 1#1) : (⟨k0_dev6 c, k0_dev6_lt c h⟩ : Dev nD) = mate c 1 := Fin.ext (by have e := k0_dev6_eq c; show k0_dev6 c = c.val % 2 + 2 * 1; omega)
theorem dev7 (c : Dev nD) (h : k0_cond5 c = 1#1) : (⟨k0_dev7 c, k0_dev7_lt c h⟩ : Dev nD) = mate c 3 := Fin.ext (by have e := k0_dev7_eq c; show k0_dev7 c = c.val % 2 + 2 * 3; omega)
theorem dev8 (c : Dev nD) (h : k0_cond6 c = 1#1) : (⟨k0_dev8 c, k0_dev8_lt c h⟩ : Dev nD) = mate c 3 := Fin.ext (by have e := k0_dev8_eq c; show k0_dev8 c = c.val % 2 + 2 * 3; omega)
theorem dev9 (c : Dev nD) (h : k0_cond6 c = 1#1) : (⟨k0_dev9 c, k0_dev9_lt c h⟩ : Dev nD) = mate c 0 := Fin.ext (by have e := k0_dev9_eq c; show k0_dev9 c = c.val % 2 + 2 * 0; omega)
theorem dev10 (c : Dev nD) (h : k0_cond6 c = 1#1) : (⟨k0_dev10 c, k0_dev10_lt c h⟩ : Dev nD) = mate c 2 := Fin.ext (by have e := k0_dev10_eq c; show k0_dev10 c = c.val % 2 + 2 * 2; omega)
theorem dev11 (c : Dev nD) (h : k0_cond7 c = 1#1) : (⟨k0_dev11 c, k0_dev11_lt c h⟩ : Dev nD) = mate c 0 := Fin.ext (by have e := k0_dev11_eq c; show k0_dev11 c = c.val % 2 + 2 * 0; omega)
theorem dev12 (c : Dev nD) (h : k0_cond7 c = 1#1) : (⟨k0_dev12 c, k0_dev12_lt c h⟩ : Dev nD) = mate c 3 := Fin.ext (by have e := k0_dev12_eq c; show k0_dev12 c = c.val % 2 + 2 * 3; omega)
theorem dev13 (c : Dev nD) (h : k0_cond7 c = 1#1) : (⟨k0_dev13 c, k0_dev13_lt c h⟩ : Dev nD) = mate c 1 := Fin.ext (by have e := k0_dev13_eq c; show k0_dev13 c = c.val % 2 + 2 * 1; omega)
theorem dev14 (c : Dev nD) (h : k0_cond8 c = 1#1) : (⟨k0_dev14 c, k0_dev14_lt c h⟩ : Dev nD) = mate c 1 := Fin.ext (by have e := k0_dev14_eq c; show k0_dev14 c = c.val % 2 + 2 * 1; omega)
theorem dev15 (c : Dev nD) (h : k0_cond8 c = 1#1) : (⟨k0_dev15 c, k0_dev15_lt c h⟩ : Dev nD) = mate c 2 := Fin.ext (by have e := k0_dev15_eq c; show k0_dev15 c = c.val % 2 + 2 * 2; omega)
theorem dev16 (c : Dev nD) (h : k0_cond8 c = 1#1) : (⟨k0_dev16 c, k0_dev16_lt c h⟩ : Dev nD) = mate c 0 := Fin.ext (by have e := k0_dev16_eq c; show k0_dev16 c = c.val % 2 + 2 * 0; omega)
theorem dev17 (c : Dev nD) (h : k0_cond9 c = 1#1) : (⟨k0_dev17 c, k0_dev17_lt c h⟩ : Dev nD) = mate c 2 := Fin.ext (by have e := k0_dev17_eq c; show k0_dev17 c = c.val % 2 + 2 * 2; omega)
theorem dev18 (c : Dev nD) (h : k0_cond9 c = 1#1) : (⟨k0_dev18 c, k0_dev18_lt c h⟩ : Dev nD) = mate c 1 := Fin.ext (by have e := k0_dev18_eq c; show k0_dev18 c = c.val % 2 + 2 * 1; omega)
theorem dev19 (c : Dev nD) (h : k0_cond9 c = 1#1) : (⟨k0_dev19 c, k0_dev19_lt c h⟩ : Dev nD) = mate c 3 := Fin.ext (by have e := k0_dev19_eq c; show k0_dev19 c = c.val % 2 + 2 * 3; omega)
theorem dev20 (c : Dev nD) (h : k0_cond10 c = 1#1) : (⟨k0_dev20 c, k0_dev20_lt c h⟩ : Dev nD) = mate c 3 := Fin.ext (by have e := k0_dev20_eq c; show k0_dev20 c = c.val % 2 + 2 * 3; omega)
theorem dev21 (c : Dev nD) (h : k0_cond10 c = 1#1) : (⟨k0_dev21 c, k0_dev21_lt c h⟩ : Dev nD) = mate c 0 := Fin.ext (by have e := k0_dev21_eq c; show k0_dev21 c = c.val % 2 + 2 * 0; omega)
theorem dev22 (c : Dev nD) (h : k0_cond10 c = 1#1) : (⟨k0_dev22 c, k0_dev22_lt c h⟩ : Dev nD) = mate c 2 := Fin.ext (by have e := k0_dev22_eq c; show k0_dev22 c = c.val % 2 + 2 * 2; omega)
theorem dev23 (c : Dev nD) (h : k0_cond11 c = 1#1) : (⟨k0_dev23 c, k0_dev23_lt c h⟩ : Dev nD) = mate c 0 := Fin.ext (by have e := k0_dev23_eq c; show k0_dev23 c = c.val % 2 + 2 * 0; omega)
theorem dev24 (c : Dev nD) (h : k0_cond11 c = 1#1) : (⟨k0_dev24 c, k0_dev24_lt c h⟩ : Dev nD) = mate c 3 := Fin.ext (by have e := k0_dev24_eq c; show k0_dev24 c = c.val % 2 + 2 * 3; omega)
theorem dev25 (c : Dev nD) (h : k0_cond11 c = 1#1) : (⟨k0_dev25 c, k0_dev25_lt c h⟩ : Dev nD) = mate c 1 := Fin.ext (by have e := k0_dev25_eq c; show k0_dev25 c = c.val % 2 + 2 * 1; omega)
theorem dev26 (c : Dev nD) (h : k0_cond12 c = 1#1) : (⟨k0_dev26 c, k0_dev26_lt c h⟩ : Dev nD) = mate c 1 := Fin.ext (by have e := k0_dev26_eq c; show k0_dev26 c = c.val % 2 + 2 * 1; omega)
theorem dev27 (c : Dev nD) (h : k0_cond12 c = 1#1) : (⟨k0_dev27 c, k0_dev27_lt c h⟩ : Dev nD) = mate c 2 := Fin.ext (by have e := k0_dev27_eq c; show k0_dev27 c = c.val % 2 + 2 * 2; omega)
theorem dev28 (c : Dev nD) (h : k0_cond12 c = 1#1) : (⟨k0_dev28 c, k0_dev28_lt c h⟩ : Dev nD) = mate c 0 := Fin.ext (by have e := k0_dev28_eq c; show k0_dev28 c = c.val % 2 + 2 * 0; omega)
theorem cond1_0 : ∀ c : Dev nD, place c = 0 → ¬ k0_cond1 c = 1#1 := by decide
theorem cond2_0 : ∀ c : Dev nD, place c = 0 → k0_cond2 c = 1#1 := by decide
theorem cond3_0 : ∀ c : Dev nD, place c = 0 → k0_cond3 c = 1#1 := by decide
theorem cond4_0 : ∀ c : Dev nD, place c = 0 → k0_cond4 c = 1#1 := by decide
theorem cond5_0 : ∀ c : Dev nD, place c = 0 → k0_cond5 c = 1#1 := by decide
theorem cond6_0 : ∀ c : Dev nD, place c = 0 → ¬ k0_cond6 c = 1#1 := by decide
theorem cond7_0 : ∀ c : Dev nD, place c = 0 → ¬ k0_cond7 c = 1#1 := by decide
theorem cond8_0 : ∀ c : Dev nD, place c = 0 → ¬ k0_cond8 c = 1#1 := by decide
theorem cond9_0 : ∀ c : Dev nD, place c = 0 → k0_cond9 c = 1#1 := by decide
theorem cond10_0 : ∀ c : Dev nD, place c = 0 → ¬ k0_cond10 c = 1#1 := by decide
theorem cond11_0 : ∀ c : Dev nD, place c = 0 → ¬ k0_cond11 c = 1#1 := by decide
theorem cond12_0 : ∀ c : Dev nD, place c = 0 → ¬ k0_cond12 c = 1#1 := by decide
theorem cond1_1 : ∀ c : Dev nD, place c = 1 → k0_cond1 c = 1#1 := by decide
theorem cond2_1 : ∀ c : Dev nD, place c = 1 → ¬ k0_cond2 c = 1#1 := by decide
theorem cond3_1 : ∀ c : Dev nD, place c = 1 → k0_cond3 c = 1#1 := by decide
theorem cond4_1 : ∀ c : Dev nD, place c = 1 → k0_cond4 c = 1#1 := by decide
theorem cond5_1 : ∀ c : Dev nD, place c = 1 → ¬ k0_cond5 c = 1#1 := by decide
theorem cond6_1 : ∀ c : Dev nD, place c = 1 → k0_cond6 c = 1#1 := by decide
theorem cond7_1 : ∀ c : Dev nD, place c = 1 → ¬ k0_cond7 c = 1#1 := by decide
theorem cond8_1 : ∀ c : Dev nD, place c = 1 → ¬ k0_cond8 c = 1#1 := by decide
theorem cond9_1 : ∀ c : Dev nD, place c = 1 → ¬ k0_cond9 c = 1#1 := by decide
theorem cond10_1 : ∀ c : Dev nD, place c = 1 → k0_cond10 c = 1#1 := by decide
theorem cond11_1 : ∀ c : Dev nD, place c = 1 → ¬ k0_cond11 c = 1#1 := by decide
theorem cond12_1 : ∀ c : Dev nD, place c = 1 → ¬ k0_cond12 c = 1#1 := by decide
theorem cond1_2 : ∀ c : Dev nD, place c = 2 → k0_cond1 c = 1#1 := by decide
theorem cond2_2 : ∀ c : Dev nD, place c = 2 → k0_cond2 c = 1#1 := by decide
theorem cond3_2 : ∀ c : Dev nD, place c = 2 → ¬ k0_cond3 c = 1#1 := by decide
theorem cond4_2 : ∀ c : Dev nD, place c = 2 → k0_cond4 c = 1#1 := by decide
theorem cond5_2 : ∀ c : Dev nD, place c = 2 → ¬ k0_cond5 c = 1#1 := by decide
theorem cond6_2 : ∀ c : Dev nD, place c = 2 → ¬ k0_cond6 c = 1#1 := by decide
theorem cond7_2 : ∀ c : Dev nD, place c = 2 → k0_cond7 c = 1#1 := by decide
theorem cond8_2 : ∀ c : Dev nD, place c = 2 → ¬ k0_cond8 c = 1#1 := by decide
theorem cond9_2 : ∀ c : Dev nD, place c = 2 → ¬ k0_cond9 c = 1#1 := by decide
theorem cond10_2 : ∀ c : Dev nD, place c = 2 → ¬ k0_cond10 c = 1#1 := by decide
theorem cond11_2 : ∀ c : Dev nD, place c = 2 → k0_cond11 c = 1#1 := by decide
theorem cond12_2 : ∀ c : Dev nD, place c = 2 → ¬ k0_cond12 c = 1#1 := by decide
theorem cond1_3 : ∀ c : Dev nD, place c = 3 → k0_cond1 c = 1#1 := by decide
theorem cond2_3 : ∀ c : Dev nD, place c = 3 → k0_cond2 c = 1#1 := by decide
theorem cond3_3 : ∀ c : Dev nD, place c = 3 → k0_cond3 c = 1#1 := by decide
theorem cond4_3 : ∀ c : Dev nD, place c = 3 → ¬ k0_cond4 c = 1#1 := by decide
theorem cond5_3 : ∀ c : Dev nD, place c = 3 → ¬ k0_cond5 c = 1#1 := by decide
theorem cond6_3 : ∀ c : Dev nD, place c = 3 → ¬ k0_cond6 c = 1#1 := by decide
theorem cond7_3 : ∀ c : Dev nD, place c = 3 → ¬ k0_cond7 c = 1#1 := by decide
theorem cond8_3 : ∀ c : Dev nD, place c = 3 → k0_cond8 c = 1#1 := by decide
theorem cond9_3 : ∀ c : Dev nD, place c = 3 → ¬ k0_cond9 c = 1#1 := by decide
theorem cond10_3 : ∀ c : Dev nD, place c = 3 → ¬ k0_cond10 c = 1#1 := by decide
theorem cond11_3 : ∀ c : Dev nD, place c = 3 → ¬ k0_cond11 c = 1#1 := by decide
theorem cond12_3 : ∀ c : Dev nD, place c = 3 → k0_cond12 c = 1#1 := by decide
theorem one_toInt : (1#32 : BitVec 32).toInt = 1 := by decide
theorem three_toInt : (3#32 : BitVec 32).toInt = 3 := by decide

/-- A copy to a device known to be the mate at place `u`. -/
theorem copy_eq (c x : Dev nD) (t u : Fin 4) (ch : Bool) (hx : x = mate c u)
    {hsc : (slotM ch t : Memref sig (Dev.tc x : Thread nD τ).2.kind .vmem S2x4x128x64 .bf16).view.ref.isScScratch = false}
    {hsrc : (srcM ch).view.WordExact} {hdst : (slotM ch t : Memref sig .tc .vmem S2x4x128x64 .bf16).view.WordExact}
    {hsem : DmaTarget.Typed .vmem (.dma (recvS t ch)) (.remote (Dev.tc x : Thread nD τ) (slotM ch t : Memref sig .tc .vmem S2x4x128x64 .bf16) (.dma (sendS u ch)) hsc)}
    (k k' : Body F) (hk : k = k') :
    Prog.op (.enqueueDma (srcM ch) (.remote (Dev.tc x : Thread nD τ) (slotM ch t) (.dma (sendS u ch)) hsc) (.dma (recvS t ch)) hsrc hdst hsem) (fun _ => k)
      = copyTo c t u ch k' := by
  subst hx hk; rfl

section Stretches
variable (c : Dev nD)

theorem head0 (h : place c = 0) {Q : PUnit → sProp 𝕄} (k : (Σ' (d0 : Dev nD) (v3 : BitVec 32), BitVec 32) → Body F) :
    runs c (k0_part101 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 >>= k) Q
      = runs c (signalTo c 1 <| signalTo c 2 <| signalTo c 3 <| .op (.semWait barS 3) fun _ => k ⟨c, parityWord c, placeWord c⟩) Q := by
  rw [k0_part101_eq_skeleton]; unfold k0_part101_skel
  simp only [runs, semSignalWord, semWaitWord, Prog.lift, Prog.bind_op, Prog.bind_ret, Prog.pure_eq_ret, wp_deviceId, dif_neg (cond1_0 c h), dif_pos (cond2_0 c h), dif_pos (cond3_0 c h), dif_pos (cond4_0 c h), dev2 c (cond2_0 c h), dev3 c (cond3_0 c h), dev4 c (cond4_0 c h), one_toInt, three_toInt]
  rfl

theorem keys0 (h : place c = 0) (w₃ w : BitVec 32) (k : (Σ' (v37 : FVec F S2x4x128x64 .bf16) (v56 : FVec F S2x4x128x64 .bf16) (v61 : BitVec 32), BitVec 32) → Body F) :
    k0_part102 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w >>= k
      = (loadK fun v34 => storeSrc false (k0_pay714 v34) <| copyTo c 0 2 false <| copyTo c 0 1 false <| copyTo c 0 3 false <|
          loadV fun v53 => storeSrc true (k0_pay716 v53) <| k ⟨k0_pay713 v34, k0_pay715 v53, Scalar.extui (Scalar.cmpi .eq w 0#32), 0#32⟩) := by
  rw [k0_part102_eq_skeleton]; unfold k0_part102_skel
  simp only [Prog.lift, Prog.bind_op, Prog.bind_ret, Prog.pure_eq_ret, dif_pos (cond5_0 c h), dif_neg (cond6_0 c h), dif_neg (cond7_0 c h), dif_neg (cond8_0 c h), k0_part1_eq_skeleton, k0_part1_skel]
  refine congrArg loadK (funext fun v34 => congrArg (storeSrc false (k0_pay714 v34)) ?_)
  refine copy_eq c _ 0 2 false (dev5 c (cond5_0 c h)) _ _ ?_
  refine copy_eq c _ 0 1 false (dev6 c (cond5_0 c h)) _ _ ?_
  refine copy_eq c _ 0 3 false (dev7 c (cond5_0 c h)) _ _ ?_
  rfl

theorem values0 (h : place c = 0) (w₃ w w₁ w₀ : BitVec 32) (k : (Σ' (v81 : FVec F S128x256 .f32) (v83 : FVec F S64x64 .bf16) (v85 : FVec F S64x64 .bf16) (v87 : FVec F S64x64 .bf16) (v89 : FVec F S64x64 .bf16) (v91 : FVec F S64x64 .bf16) (v93 : FVec F S64x64 .bf16) (v95 : FVec F S64x64 .bf16) (v97 : FVec F S64x64 .bf16), FVec F S64x64 .bf16) → Body F) :
    k0_part103 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w w₁ w₀ >>= k
      = (copyTo c 0 2 true <| copyTo c 0 1 true <| copyTo c 0 3 true <|
          loadRow 0 fun v72 => loadWq fun v74 => loadRow 1 fun v77 => loadWq fun v79 =>
          k ⟨k0_pay718 v77 v79, k0_pay719 v72 v74, k0_pay720 v72 v74, k0_pay721 v72 v74, k0_pay722 v72 v74, k0_pay723 v72 v74, k0_pay724 v72 v74, k0_pay725 v72 v74, k0_pay726 v72 v74, k0_pay727 v77 v79⟩) := by
  rw [k0_part103_eq_skeleton]; unfold k0_part103_skel
  simp only [Prog.lift, Prog.bind_op, Prog.bind_ret, Prog.pure_eq_ret, dif_pos (cond9_0 c h), dif_neg (cond10_0 c h), dif_neg (cond11_0 c h), dif_neg (cond12_0 c h), k0_part5_eq_skeleton, k0_part5_skel]
  refine copy_eq c _ 0 2 true (dev17 c (cond9_0 c h)) _ _ ?_
  refine copy_eq c _ 0 1 true (dev18 c (cond9_0 c h)) _ _ ?_
  refine copy_eq c _ 0 3 true (dev19 c (cond9_0 c h)) _ _ ?_
  rfl

theorem head1 (h : place c = 1) {Q : PUnit → sProp 𝕄} (k : (Σ' (d0 : Dev nD) (v3 : BitVec 32), BitVec 32) → Body F) :
    runs c (k0_part101 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 >>= k) Q
      = runs c (signalTo c 0 <| signalTo c 2 <| signalTo c 3 <| .op (.semWait barS 3) fun _ => k ⟨c, parityWord c, placeWord c⟩) Q := by
  rw [k0_part101_eq_skeleton]; unfold k0_part101_skel
  simp only [runs, semSignalWord, semWaitWord, Prog.lift, Prog.bind_op, Prog.bind_ret, Prog.pure_eq_ret, wp_deviceId, dif_pos (cond1_1 c h), dif_neg (cond2_1 c h), dif_pos (cond3_1 c h), dif_pos (cond4_1 c h), dev1 c (cond1_1 c h), dev3 c (cond3_1 c h), dev4 c (cond4_1 c h), one_toInt, three_toInt]
  rfl

theorem keys1 (h : place c = 1) (w₃ w : BitVec 32) (k : (Σ' (v37 : FVec F S2x4x128x64 .bf16) (v56 : FVec F S2x4x128x64 .bf16) (v61 : BitVec 32), BitVec 32) → Body F) :
    k0_part102 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w >>= k
      = (loadK fun v34 => storeSrc false (k0_pay714 v34) <| copyTo c 1 3 false <| copyTo c 1 0 false <| copyTo c 1 2 false <|
          loadV fun v53 => storeSrc true (k0_pay716 v53) <| k ⟨k0_pay713 v34, k0_pay715 v53, Scalar.extui (Scalar.cmpi .eq w 0#32), 0#32⟩) := by
  rw [k0_part102_eq_skeleton]; unfold k0_part102_skel
  simp only [Prog.lift, Prog.bind_op, Prog.bind_ret, Prog.pure_eq_ret, dif_neg (cond5_1 c h), dif_pos (cond6_1 c h), dif_neg (cond7_1 c h), dif_neg (cond8_1 c h), k0_part2_eq_skeleton, k0_part2_skel]
  refine congrArg loadK (funext fun v34 => congrArg (storeSrc false (k0_pay714 v34)) ?_)
  refine copy_eq c _ 1 3 false (dev8 c (cond6_1 c h)) _ _ ?_
  refine copy_eq c _ 1 0 false (dev9 c (cond6_1 c h)) _ _ ?_
  refine copy_eq c _ 1 2 false (dev10 c (cond6_1 c h)) _ _ ?_
  rfl

theorem values1 (h : place c = 1) (w₃ w w₁ w₀ : BitVec 32) (k : (Σ' (v81 : FVec F S128x256 .f32) (v83 : FVec F S64x64 .bf16) (v85 : FVec F S64x64 .bf16) (v87 : FVec F S64x64 .bf16) (v89 : FVec F S64x64 .bf16) (v91 : FVec F S64x64 .bf16) (v93 : FVec F S64x64 .bf16) (v95 : FVec F S64x64 .bf16) (v97 : FVec F S64x64 .bf16), FVec F S64x64 .bf16) → Body F) :
    k0_part103 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w w₁ w₀ >>= k
      = (copyTo c 1 3 true <| copyTo c 1 0 true <| copyTo c 1 2 true <|
          loadRow 0 fun v72 => loadWq fun v74 => loadRow 1 fun v77 => loadWq fun v79 =>
          k ⟨k0_pay718 v77 v79, k0_pay719 v72 v74, k0_pay720 v72 v74, k0_pay721 v72 v74, k0_pay722 v72 v74, k0_pay723 v72 v74, k0_pay724 v72 v74, k0_pay725 v72 v74, k0_pay726 v72 v74, k0_pay727 v77 v79⟩) := by
  rw [k0_part103_eq_skeleton]; unfold k0_part103_skel
  simp only [Prog.lift, Prog.bind_op, Prog.bind_ret, Prog.pure_eq_ret, dif_neg (cond9_1 c h), dif_pos (cond10_1 c h), dif_neg (cond11_1 c h), dif_neg (cond12_1 c h), k0_part6_eq_skeleton, k0_part6_skel]
  refine copy_eq c _ 1 3 true (dev20 c (cond10_1 c h)) _ _ ?_
  refine copy_eq c _ 1 0 true (dev21 c (cond10_1 c h)) _ _ ?_
  refine copy_eq c _ 1 2 true (dev22 c (cond10_1 c h)) _ _ ?_
  rfl

theorem head2 (h : place c = 2) {Q : PUnit → sProp 𝕄} (k : (Σ' (d0 : Dev nD) (v3 : BitVec 32), BitVec 32) → Body F) :
    runs c (k0_part101 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 >>= k) Q
      = runs c (signalTo c 0 <| signalTo c 1 <| signalTo c 3 <| .op (.semWait barS 3) fun _ => k ⟨c, parityWord c, placeWord c⟩) Q := by
  rw [k0_part101_eq_skeleton]; unfold k0_part101_skel
  simp only [runs, semSignalWord, semWaitWord, Prog.lift, Prog.bind_op, Prog.bind_ret, Prog.pure_eq_ret, wp_deviceId, dif_pos (cond1_2 c h), dif_pos (cond2_2 c h), dif_neg (cond3_2 c h), dif_pos (cond4_2 c h), dev1 c (cond1_2 c h), dev2 c (cond2_2 c h), dev4 c (cond4_2 c h), one_toInt, three_toInt]
  rfl

theorem keys2 (h : place c = 2) (w₃ w : BitVec 32) (k : (Σ' (v37 : FVec F S2x4x128x64 .bf16) (v56 : FVec F S2x4x128x64 .bf16) (v61 : BitVec 32), BitVec 32) → Body F) :
    k0_part102 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w >>= k
      = (loadK fun v34 => storeSrc false (k0_pay714 v34) <| copyTo c 2 0 false <| copyTo c 2 3 false <| copyTo c 2 1 false <|
          loadV fun v53 => storeSrc true (k0_pay716 v53) <| k ⟨k0_pay713 v34, k0_pay715 v53, Scalar.extui (Scalar.cmpi .eq w 0#32), 0#32⟩) := by
  rw [k0_part102_eq_skeleton]; unfold k0_part102_skel
  simp only [Prog.lift, Prog.bind_op, Prog.bind_ret, Prog.pure_eq_ret, dif_neg (cond5_2 c h), dif_neg (cond6_2 c h), dif_pos (cond7_2 c h), dif_neg (cond8_2 c h), k0_part3_eq_skeleton, k0_part3_skel]
  refine congrArg loadK (funext fun v34 => congrArg (storeSrc false (k0_pay714 v34)) ?_)
  refine copy_eq c _ 2 0 false (dev11 c (cond7_2 c h)) _ _ ?_
  refine copy_eq c _ 2 3 false (dev12 c (cond7_2 c h)) _ _ ?_
  refine copy_eq c _ 2 1 false (dev13 c (cond7_2 c h)) _ _ ?_
  rfl

theorem values2 (h : place c = 2) (w₃ w w₁ w₀ : BitVec 32) (k : (Σ' (v81 : FVec F S128x256 .f32) (v83 : FVec F S64x64 .bf16) (v85 : FVec F S64x64 .bf16) (v87 : FVec F S64x64 .bf16) (v89 : FVec F S64x64 .bf16) (v91 : FVec F S64x64 .bf16) (v93 : FVec F S64x64 .bf16) (v95 : FVec F S64x64 .bf16) (v97 : FVec F S64x64 .bf16), FVec F S64x64 .bf16) → Body F) :
    k0_part103 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w w₁ w₀ >>= k
      = (copyTo c 2 0 true <| copyTo c 2 3 true <| copyTo c 2 1 true <|
          loadRow 0 fun v72 => loadWq fun v74 => loadRow 1 fun v77 => loadWq fun v79 =>
          k ⟨k0_pay718 v77 v79, k0_pay719 v72 v74, k0_pay720 v72 v74, k0_pay721 v72 v74, k0_pay722 v72 v74, k0_pay723 v72 v74, k0_pay724 v72 v74, k0_pay725 v72 v74, k0_pay726 v72 v74, k0_pay727 v77 v79⟩) := by
  rw [k0_part103_eq_skeleton]; unfold k0_part103_skel
  simp only [Prog.lift, Prog.bind_op, Prog.bind_ret, Prog.pure_eq_ret, dif_neg (cond9_2 c h), dif_neg (cond10_2 c h), dif_pos (cond11_2 c h), dif_neg (cond12_2 c h), k0_part7_eq_skeleton, k0_part7_skel]
  refine copy_eq c _ 2 0 true (dev23 c (cond11_2 c h)) _ _ ?_
  refine copy_eq c _ 2 3 true (dev24 c (cond11_2 c h)) _ _ ?_
  refine copy_eq c _ 2 1 true (dev25 c (cond11_2 c h)) _ _ ?_
  rfl

theorem head3 (h : place c = 3) {Q : PUnit → sProp 𝕄} (k : (Σ' (d0 : Dev nD) (v3 : BitVec 32), BitVec 32) → Body F) :
    runs c (k0_part101 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 >>= k) Q
      = runs c (signalTo c 0 <| signalTo c 1 <| signalTo c 2 <| .op (.semWait barS 3) fun _ => k ⟨c, parityWord c, placeWord c⟩) Q := by
  rw [k0_part101_eq_skeleton]; unfold k0_part101_skel
  simp only [runs, semSignalWord, semWaitWord, Prog.lift, Prog.bind_op, Prog.bind_ret, Prog.pure_eq_ret, wp_deviceId, dif_pos (cond1_3 c h), dif_pos (cond2_3 c h), dif_pos (cond3_3 c h), dif_neg (cond4_3 c h), dev1 c (cond1_3 c h), dev2 c (cond2_3 c h), dev3 c (cond3_3 c h), one_toInt, three_toInt]
  rfl

theorem keys3 (h : place c = 3) (w₃ w : BitVec 32) (k : (Σ' (v37 : FVec F S2x4x128x64 .bf16) (v56 : FVec F S2x4x128x64 .bf16) (v61 : BitVec 32), BitVec 32) → Body F) :
    k0_part102 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w >>= k
      = (loadK fun v34 => storeSrc false (k0_pay714 v34) <| copyTo c 3 1 false <| copyTo c 3 2 false <| copyTo c 3 0 false <|
          loadV fun v53 => storeSrc true (k0_pay716 v53) <| k ⟨k0_pay713 v34, k0_pay715 v53, Scalar.extui (Scalar.cmpi .eq w 0#32), 0#32⟩) := by
  rw [k0_part102_eq_skeleton]; unfold k0_part102_skel
  simp only [Prog.lift, Prog.bind_op, Prog.bind_ret, Prog.pure_eq_ret, dif_neg (cond5_3 c h), dif_neg (cond6_3 c h), dif_neg (cond7_3 c h), dif_pos (cond8_3 c h), k0_part4_eq_skeleton, k0_part4_skel]
  refine congrArg loadK (funext fun v34 => congrArg (storeSrc false (k0_pay714 v34)) ?_)
  refine copy_eq c _ 3 1 false (dev14 c (cond8_3 c h)) _ _ ?_
  refine copy_eq c _ 3 2 false (dev15 c (cond8_3 c h)) _ _ ?_
  refine copy_eq c _ 3 0 false (dev16 c (cond8_3 c h)) _ _ ?_
  rfl

theorem values3 (h : place c = 3) (w₃ w w₁ w₀ : BitVec 32) (k : (Σ' (v81 : FVec F S128x256 .f32) (v83 : FVec F S64x64 .bf16) (v85 : FVec F S64x64 .bf16) (v87 : FVec F S64x64 .bf16) (v89 : FVec F S64x64 .bf16) (v91 : FVec F S64x64 .bf16) (v93 : FVec F S64x64 .bf16) (v95 : FVec F S64x64 .bf16) (v97 : FVec F S64x64 .bf16), FVec F S64x64 .bf16) → Body F) :
    k0_part103 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c w₃ w w₁ w₀ >>= k
      = (copyTo c 3 1 true <| copyTo c 3 2 true <| copyTo c 3 0 true <|
          loadRow 0 fun v72 => loadWq fun v74 => loadRow 1 fun v77 => loadWq fun v79 =>
          k ⟨k0_pay718 v77 v79, k0_pay719 v72 v74, k0_pay720 v72 v74, k0_pay721 v72 v74, k0_pay722 v72 v74, k0_pay723 v72 v74, k0_pay724 v72 v74, k0_pay725 v72 v74, k0_pay726 v72 v74, k0_pay727 v77 v79⟩) := by
  rw [k0_part103_eq_skeleton]; unfold k0_part103_skel
  simp only [Prog.lift, Prog.bind_op, Prog.bind_ret, Prog.pure_eq_ret, dif_neg (cond9_3 c h), dif_neg (cond10_3 c h), dif_neg (cond11_3 c h), dif_pos (cond12_3 c h), k0_part8_eq_skeleton, k0_part8_skel]
  refine copy_eq c _ 3 1 true (dev26 c (cond12_3 c h)) _ _ ?_
  refine copy_eq c _ 3 2 true (dev27 c (cond12_3 c h)) _ _ ?_
  refine copy_eq c _ 3 0 true (dev28 c (cond12_3 c h)) _ _ ?_
  rfl

end Stretches
end Cert.KernelIdeal.Run

end
-- ==== Proof.BodyEq.lean ====
/-
# The whole printed body at each place

On a device at place `t` the printed body is `runT` at `t`, with its near, mid and far mates.
-/
module

public import proofs.«01_k».proof.Proof.Stretch

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A bind is rewritten in its first program only: what follows is met once its argument is known. -/
theorem bind_first {E : Type → Type} {α β : Type} {p p' : Prog E α} (k : α → Prog E β) (h : p = p') : (p >>= k) = (p' >>= k) := by rw [h]
attribute [local congr] bind_first

set_option maxHeartbeats 4000000 in
set_option maxRecDepth 65536 in
theorem body0 (c : Dev nD) (h : place c = 0) (Q : PUnit → sProp 𝕄) :
    runs c (runT c 0 2 1 3 1 2 3) Q
      ⊢ runs c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q := by
  rw [cc0_body_eq_skeleton]; unfold cc0_body_skel
  simp only [↓head0 c h, ↓keys0 c h, ↓values0 c h, pay713_eq, pay715_eq, pay718_eq, pay719_eq, pay720_eq, pay721_eq, pay722_eq, pay723_eq, pay724_eq, pay725_eq, pay726_eq, pay727_eq, pay811_eq, pay812_eq, pay814_eq, pay816_eq, pay817_eq, pay819_eq, pay821_eq, pay822_eq, pay1_eq, pay2_eq, pay3_eq, pay4_eq, pay5_eq, pay6_eq, pay96_eq, pay97_eq, pay98_eq, pay99_eq, pay100_eq, pay177_eq, pay178_eq, pay179_eq, pay180_eq, pay181_eq, pay182_eq, pay183_eq, pay184_eq, pay274_eq, pay275_eq, pay276_eq, pay277_eq, pay278_eq, pay355_eq, pay356_eq, pay357_eq, pay358_eq, pay359_eq, pay360_eq, pay361_eq, pay362_eq, pay452_eq, pay453_eq, pay454_eq, pay455_eq, pay456_eq, pay533_eq, pay534_eq, pay535_eq, pay536_eq, pay537_eq, pay538_eq, pay539_eq, pay540_eq, pay630_eq, pay631_eq, pay632_eq, pay633_eq, pay634_eq, pay711_eq, pay712_eq,
    part104_eq, part105_eq, part106_eq, part107_eq, part108_eq, part11_eq, part12_eq, part13_eq, part14_eq, part15_eq, part16_eq, part17_eq, part19_eq, part20_eq, part21_eq, part22_eq, part23_eq, part24_eq, part25_eq, part26_eq, part27_eq, part28_eq, part29_eq,
    k0_part9_eq_skeleton, k0_part9_skel, k0_part10_eq_skeleton, k0_part10_skel, k0_part18_eq_skeleton, k0_part18_skel, k0_part30_eq_skeleton, k0_part30_skel, k0_part31_eq_skeleton, k0_part31_skel, k0_part109_eq_skeleton, k0_part109_skel,
    word0_0 c h, word0_1 c h, word0_2 c h, word0_3 c h, ↓reduceDIte, ↓reduceIte, Prog.lift, Prog.bind_op, Prog.bind_ret, Prog.pure_eq_ret]
  exact Entails.refl _

set_option maxHeartbeats 4000000 in
set_option maxRecDepth 65536 in
theorem body1 (c : Dev nD) (h : place c = 1) (Q : PUnit → sProp 𝕄) :
    runs c (runT c 1 3 0 2 0 2 3) Q
      ⊢ runs c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q := by
  rw [cc0_body_eq_skeleton]; unfold cc0_body_skel
  simp only [↓head1 c h, ↓keys1 c h, ↓values1 c h, pay713_eq, pay715_eq, pay718_eq, pay719_eq, pay720_eq, pay721_eq, pay722_eq, pay723_eq, pay724_eq, pay725_eq, pay726_eq, pay727_eq, pay811_eq, pay812_eq, pay814_eq, pay816_eq, pay817_eq, pay819_eq, pay821_eq, pay822_eq, pay1_eq, pay2_eq, pay3_eq, pay4_eq, pay5_eq, pay6_eq, pay96_eq, pay97_eq, pay98_eq, pay99_eq, pay100_eq, pay177_eq, pay178_eq, pay179_eq, pay180_eq, pay181_eq, pay182_eq, pay183_eq, pay184_eq, pay274_eq, pay275_eq, pay276_eq, pay277_eq, pay278_eq, pay355_eq, pay356_eq, pay357_eq, pay358_eq, pay359_eq, pay360_eq, pay361_eq, pay362_eq, pay452_eq, pay453_eq, pay454_eq, pay455_eq, pay456_eq, pay533_eq, pay534_eq, pay535_eq, pay536_eq, pay537_eq, pay538_eq, pay539_eq, pay540_eq, pay630_eq, pay631_eq, pay632_eq, pay633_eq, pay634_eq, pay711_eq, pay712_eq,
    part104_eq, part105_eq, part106_eq, part107_eq, part108_eq, part34_eq, part35_eq, part36_eq, part37_eq, part38_eq, part39_eq, part40_eq, part42_eq, part43_eq, part44_eq, part45_eq, part46_eq, part47_eq, part48_eq, part49_eq, part50_eq, part51_eq, part52_eq,
    k0_part32_eq_skeleton, k0_part32_skel, k0_part33_eq_skeleton, k0_part33_skel, k0_part41_eq_skeleton, k0_part41_skel, k0_part53_eq_skeleton, k0_part53_skel, k0_part54_eq_skeleton, k0_part54_skel, k0_part109_eq_skeleton, k0_part109_skel,
    word1_0 c h, word1_1 c h, word1_2 c h, word1_3 c h, ↓reduceDIte, ↓reduceIte, Prog.lift, Prog.bind_op, Prog.bind_ret, Prog.pure_eq_ret]
  exact Entails.refl _

set_option maxHeartbeats 4000000 in
set_option maxRecDepth 65536 in
theorem body2 (c : Dev nD) (h : place c = 2) (Q : PUnit → sProp 𝕄) :
    runs c (runT c 2 0 3 1 0 1 3) Q
      ⊢ runs c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q := by
  rw [cc0_body_eq_skeleton]; unfold cc0_body_skel
  simp only [↓head2 c h, ↓keys2 c h, ↓values2 c h, pay713_eq, pay715_eq, pay718_eq, pay719_eq, pay720_eq, pay721_eq, pay722_eq, pay723_eq, pay724_eq, pay725_eq, pay726_eq, pay727_eq, pay811_eq, pay812_eq, pay814_eq, pay816_eq, pay817_eq, pay819_eq, pay821_eq, pay822_eq, pay1_eq, pay2_eq, pay3_eq, pay4_eq, pay5_eq, pay6_eq, pay96_eq, pay97_eq, pay98_eq, pay99_eq, pay100_eq, pay177_eq, pay178_eq, pay179_eq, pay180_eq, pay181_eq, pay182_eq, pay183_eq, pay184_eq, pay274_eq, pay275_eq, pay276_eq, pay277_eq, pay278_eq, pay355_eq, pay356_eq, pay357_eq, pay358_eq, pay359_eq, pay360_eq, pay361_eq, pay362_eq, pay452_eq, pay453_eq, pay454_eq, pay455_eq, pay456_eq, pay533_eq, pay534_eq, pay535_eq, pay536_eq, pay537_eq, pay538_eq, pay539_eq, pay540_eq, pay630_eq, pay631_eq, pay632_eq, pay633_eq, pay634_eq, pay711_eq, pay712_eq,
    part104_eq, part105_eq, part106_eq, part107_eq, part108_eq, part57_eq, part58_eq, part59_eq, part60_eq, part61_eq, part62_eq, part63_eq, part65_eq, part66_eq, part67_eq, part68_eq, part69_eq, part70_eq, part71_eq, part72_eq, part73_eq, part74_eq, part75_eq,
    k0_part55_eq_skeleton, k0_part55_skel, k0_part56_eq_skeleton, k0_part56_skel, k0_part64_eq_skeleton, k0_part64_skel, k0_part76_eq_skeleton, k0_part76_skel, k0_part77_eq_skeleton, k0_part77_skel, k0_part109_eq_skeleton, k0_part109_skel,
    word2_0 c h, word2_1 c h, word2_2 c h, word2_3 c h, ↓reduceDIte, ↓reduceIte, Prog.lift, Prog.bind_op, Prog.bind_ret, Prog.pure_eq_ret]
  exact Entails.refl _

set_option maxHeartbeats 4000000 in
set_option maxRecDepth 65536 in
theorem body3 (c : Dev nD) (h : place c = 3) (Q : PUnit → sProp 𝕄) :
    runs c (runT c 3 1 2 0 0 1 2) Q
      ⊢ runs c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q := by
  rw [cc0_body_eq_skeleton]; unfold cc0_body_skel
  simp only [↓head3 c h, ↓keys3 c h, ↓values3 c h, pay713_eq, pay715_eq, pay718_eq, pay719_eq, pay720_eq, pay721_eq, pay722_eq, pay723_eq, pay724_eq, pay725_eq, pay726_eq, pay727_eq, pay811_eq, pay812_eq, pay814_eq, pay816_eq, pay817_eq, pay819_eq, pay821_eq, pay822_eq, pay1_eq, pay2_eq, pay3_eq, pay4_eq, pay5_eq, pay6_eq, pay96_eq, pay97_eq, pay98_eq, pay99_eq, pay100_eq, pay177_eq, pay178_eq, pay179_eq, pay180_eq, pay181_eq, pay182_eq, pay183_eq, pay184_eq, pay274_eq, pay275_eq, pay276_eq, pay277_eq, pay278_eq, pay355_eq, pay356_eq, pay357_eq, pay358_eq, pay359_eq, pay360_eq, pay361_eq, pay362_eq, pay452_eq, pay453_eq, pay454_eq, pay455_eq, pay456_eq, pay533_eq, pay534_eq, pay535_eq, pay536_eq, pay537_eq, pay538_eq, pay539_eq, pay540_eq, pay630_eq, pay631_eq, pay632_eq, pay633_eq, pay634_eq, pay711_eq, pay712_eq,
    part104_eq, part105_eq, part106_eq, part107_eq, part108_eq, part80_eq, part81_eq, part82_eq, part83_eq, part84_eq, part85_eq, part86_eq, part88_eq, part89_eq, part90_eq, part91_eq, part92_eq, part93_eq, part94_eq, part95_eq, part96_eq, part97_eq, part98_eq,
    k0_part78_eq_skeleton, k0_part78_skel, k0_part79_eq_skeleton, k0_part79_skel, k0_part87_eq_skeleton, k0_part87_skel, k0_part99_eq_skeleton, k0_part99_skel, k0_part100_eq_skeleton, k0_part100_skel, k0_part109_eq_skeleton, k0_part109_skel,
    word3_0 c h, word3_1 c h, word3_2 c h, word3_3 c h, ↓reduceDIte, ↓reduceIte, Prog.lift, Prog.bind_op, Prog.bind_ret, Prog.pure_eq_ret]
  exact Entails.refl _

end Cert.KernelIdeal.Run

end
-- ==== Proof.Whole.lean ====
/-
# The kernel's run

One grid point per device: its body from what the launch leaves it to its result, then all eight devices together.
-/
module

public import proofs.«01_k».proof.Proof.Deal
public import proofs.«01_k».proof.Proof.BodyEq
public import Idealize.ShloMosaic.Lib.Pipeline.CollectiveSegs
@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

def Φ₀ (c : Dev nD) : sProp 𝕄 := iprop(start m ρ c ∗ scratch c)
def Φ₁ (c : Dev nD) : sProp 𝕄 := iprop(scratch c ∗ semVal (barCell c) 0 ∗ bigSep Finset.univ fun u : Fin 4 => zeroAt c u)

/-- One grid point: the five arguments stay as staged, the result buffer gets the device's result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wqIn m ρ c
    | ⟨2, _⟩ => kIn m ρ c
    | ⟨3, _⟩ => vIn m ρ c
    | ⟨4, _⟩ => woIn m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

/-- The body of device `c`, between what it holds before and after. -/
theorem run_body (K : Dev nD × (Unit ⊕ Copy) → ℕ) (c : Dev nD) (Q : PUnit → sProp 𝕄) :
    iprop(before m ρ K c ∗ (after m ρ c -∗ Q ⟨⟩)) ⊢ runs c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5) Q := by
  have hp : place c = 0 ∨ place c = 1 ∨ place c = 2 ∨ place c = 3 := by generalize place c = p; revert p; decide
  rcases hp with h | h | h | h
  · exact (run_place m ρ K c (t := 0) (n := 2) (d := 1) (f := 3) (a := 1) (b := 2) (e := 3)
      h.symm (by rw [h]) (by rw [h]) (by rw [h]) (by rw [h]) (by rw [h]) (by rw [h]) Q).trans (body0 c h Q)
  · exact (run_place m ρ K c (t := 1) (n := 3) (d := 0) (f := 2) (a := 0) (b := 2) (e := 3)
      h.symm (by rw [h]) (by rw [h]) (by rw [h]) (by rw [h]) (by rw [h]) (by rw [h]) Q).trans (body1 c h Q)
  · exact (run_place m ρ K c (t := 2) (n := 0) (d := 3) (f := 1) (a := 0) (b := 1) (e := 3)
      h.symm (by rw [h]) (by rw [h]) (by rw [h]) (by rw [h]) (by rw [h]) (by rw [h]) Q).trans (body2 c h Q)
  · exact (run_place m ρ K c (t := 3) (n := 1) (d := 2) (f := 0) (a := 0) (b := 1) (e := 2)
      h.symm (by rw [h]) (by rw [h]) (by rw [h]) (by rw [h]) (by rw [h]) (by rw [h]) Q).trans (body3 c h Q)

def pointPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def pointPost (c : Dev nD) : sProp 𝕄 :=
  iprop(Φ₁ c ∗ (dats m ρ 0 c).owesAt () t0_0.succ ∗ stg c cc0_stg0_0 (xIn m ρ c) ∗ stg c cc0_stg1_0 (wqIn m ρ c)
    ∗ stg c cc0_stg2_0 (kIn m ρ c) ∗ stg c cc0_stg3_0 (vIn m ρ c) ∗ stg c cc0_stg4_0 (woIn m ρ c) ∗ stg c cc0_stg5_0 (outAt m ρ c))

theorem before_x (c : Dev nD) (d) : (dats m ρ 0 c).before (0 : Fin 6) t0_0 d = xIn m ρ c := by
  unfold Dat.before; rw [if_pos (fetch0_0 t0_0)]; rfl
theorem before_wq (c : Dev nD) (d) : (dats m ρ 0 c).before (1 : Fin 6) t0_0 d = wqIn m ρ c := by
  unfold Dat.before; rw [if_pos (fetch0_1 t0_0)]; rfl
theorem before_k (c : Dev nD) (d) : (dats m ρ 0 c).before (2 : Fin 6) t0_0 d = kIn m ρ c := by
  unfold Dat.before; rw [if_pos (fetch0_2 t0_0)]; rfl
theorem before_v (c : Dev nD) (d) : (dats m ρ 0 c).before (3 : Fin 6) t0_0 d = vIn m ρ c := by
  unfold Dat.before; rw [if_pos (fetch0_3 t0_0)]; rfl
theorem before_wo (c : Dev nD) (d) : (dats m ρ 0 c).before (4 : Fin 6) t0_0 d = woIn m ρ c := by
  unfold Dat.before; rw [if_pos (fetch0_4 t0_0)]; rfl

theorem point_before (c : Dev nD) : pointPre m ρ c ⊢ iprop(∃ K, before m ρ K c) := by
  unfold pointPre Φ₀ start before owing staged Dat.owesAt Pipeline.owesWithin
  rw [show (dats m ρ 0 c).owed t0_0.castSucc = O₀ c from rfl]
  iintro ⟨⟨⟨%K, HG⟩, Hscr⟩, ⟨%W, -, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_x] at h0
  rw [before_wq] at h1
  rw [before_k] at h2
  rw [before_v] at h3
  rw [before_wo] at h4
  subst h0 h1 h2 h3 h4
  iexists K
  isplitl [HG]; · iexact HG
  isplitl [Hscr]; · iexact Hscr
  isplitl [HO]; · iexists W; iexact HO
  isplitr [H5]
  · isplitl [H0]; · iexact H0
    isplitl [H1]; · iexact H1
    isplitl [H2]; · iexact H2
    isplitl [H3]; · iexact H3
    iexact H4
  iexists g5; iexact H5

theorem point_after (c : Dev nD) : after m ρ c ⊢ pointPost m ρ c := by
  unfold pointPost Φ₁ after owing staged Dat.owesAt Pipeline.owesWithin
  rw [show (dats m ρ 0 c).owed t0_0.succ = 0 from rfl]
  iintro ⟨Hscr, HB, HZ, ⟨%W, HO⟩, ⟨H0, H1, H2, H3, H4⟩, H5⟩
  isplitl [Hscr HB HZ]
  · isplitl [Hscr]; · iexact Hscr
    isplitl [HB] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pointPre m ρ c ⊢ runs c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5) (fun _ => pointPost m ρ c)
  refine (point_before m ρ c).trans ?_
  iintro ⟨%K, H⟩
  iapply (run_body m ρ K c fun _ => pointPost m ρ c)
  isplitl [H]; · iexact H
  iintro H
  iapply (point_after m ρ c)
  iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  imodintro
  isplitl
  · iapply (start_of m ρ c)
    isplitl [Hlev]; · iexact Hlev
    isplitl [Hcr] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HB, HZ⟩
  isplitl [HB]; · iexact HB
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a device's arrays hold at the end. -/
def finalA (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair execution of @main on the eight devices
    ends, with every array at its computed contents and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five arguments end as they were. -/
theorem finalA_x (c : Dev nD) : finalA m ρ c (0 : Fin 6) = (s₀ m ρ).mem (win0_0.arr.view.loc (c : Thread nD τ)) := (dats (F := F) m ρ 0 c).arrAt_in (0 : Fin 6) rfl _
theorem finalA_wq (c : Dev nD) : finalA m ρ c (1 : Fin 6) = (s₀ m ρ).mem (win0_1.arr.view.loc (c : Thread nD τ)) := (dats (F := F) m ρ 0 c).arrAt_in (1 : Fin 6) rfl _
theorem finalA_k (c : Dev nD) : finalA m ρ c (2 : Fin 6) = (s₀ m ρ).mem (win0_2.arr.view.loc (c : Thread nD τ)) := (dats (F := F) m ρ 0 c).arrAt_in (2 : Fin 6) rfl _
theorem finalA_v (c : Dev nD) : finalA m ρ c (3 : Fin 6) = (s₀ m ρ).mem (win0_3.arr.view.loc (c : Thread nD τ)) := (dats (F := F) m ρ 0 c).arrAt_in (3 : Fin 6) rfl _
theorem finalA_wo (c : Dev nD) : finalA m ρ c (4 : Fin 6) = (s₀ m ρ).mem (win0_4.arr.view.loc (c : Thread nD τ)) := (dats (F := F) m ρ 0 c).arrAt_in (4 : Fin 6) rfl _

end Cert.KernelIdeal.Run

end
-- ==== Proof.Frames.lean ====
/- The frames: each of the three programs runs to its end from any memory with zero counters, leaves its five arguments
   as they were and every semaphore counter at zero. The kernel's two (at the bit patterns and at the ideal values) are
   both read off `Run.run_main`, which is proved for any float values; the reference is host operations alone and
   declares no semaphore. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Whole

@[expose] public section

noncomputable section

namespace Cert.Proof

open Idealize.ShloMosaic Idealize.ShloMosaic.TcCoe Idealize.SL.Sem

/-- The two prints of the kernel have one body, label by label. -/
theorem bodies_eq : @Cert.Kernel.defs₀ Bits _ _ = @Cert.KernelIdeal.defs₀ Bits _ _ :=
  congrArg Defs.onTc (funext fun l => match l with
    | 0 => rfl
    | ⟨_ + 1, h⟩ => absurd h (Nat.not_lt.2 (Nat.le_add_left _ _)))

theorem defs_eq : @Cert.Kernel.defs Bits _ _ = @Cert.KernelIdeal.defs Bits _ _ := by
  unfold Cert.Kernel.defs Cert.KernelIdeal.defs
  rw [bodies_eq]
  rfl

/-- The kernel's frame at the bit patterns. -/
theorem frame_kernel : Cert.quiescent_Kernel := by
  intro m ρ _
  rw [defs_eq]
  exact (θ_run Cert.KernelIdeal.defs _ _).mono
    (fun _ h => ⟨fun c =>
      ⟨(h.1 c 0).trans (Cert.KernelIdeal.Run.finalA_x m ρ c), (h.1 c 1).trans (Cert.KernelIdeal.Run.finalA_wq m ρ c),
        (h.1 c 2).trans (Cert.KernelIdeal.Run.finalA_k m ρ c), (h.1 c 3).trans (Cert.KernelIdeal.Run.finalA_v m ρ c),
        (h.1 c 4).trans (Cert.KernelIdeal.Run.finalA_wo m ρ c)⟩, h.2⟩)
    (Cert.KernelIdeal.Run.run_main (F := Bits) m ρ)

/-- The kernel's frame at the ideal values. -/
theorem frame_kernelIdeal : Cert.quiescent_KernelIdeal := by
  intro m ρ _
  exact (θ_run Cert.KernelIdeal.defs _ _).mono
    (fun _ h => ⟨fun c =>
      ⟨(h.1 c 0).trans (Cert.KernelIdeal.Run.finalA_x m ρ c), (h.1 c 1).trans (Cert.KernelIdeal.Run.finalA_wq m ρ c),
        (h.1 c 2).trans (Cert.KernelIdeal.Run.finalA_k m ρ c), (h.1 c 3).trans (Cert.KernelIdeal.Run.finalA_v m ρ c),
        (h.1 c 4).trans (Cert.KernelIdeal.Run.finalA_wo m ρ c)⟩, h.2⟩)
    (Cert.KernelIdeal.Run.run_main (F := Ideal) m ρ)

/-- The reference's frame. -/
theorem frame_referenceIdeal : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Tiles.lean ====
/-
# The two stored blocks, head by head

The printed program spells out sixteen tiles (two batch rows, two halves of 64 queries, four heads), each with its own numbers.
Here one tile is a function of its operands, and the two stored blocks are stated by it.
-/
module

public import proofs.«01_k».proof.Proof.Values

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of a head's tile -/

set_option backward.proofsInPublic true in
/-- The 64 by 64 tile of batch `b`, head `h`, half `q` of a head-major block. -/
def sub (b : Fin 2) (h : Fin 4) (q : Fin 2) (v : FVec F S2x4x128x64 .bf16) : FVec F S64x64 .bf16 :=
  shapeCast S64x64 (extractStridedSlice S1x1x64x64 ![b.val, h.val, 64 * q.val, 0] v (by revert b h q; decide)) shapeCasts_S1x1x64x64_S64x64

set_option backward.proofsInPublic true in
/-- The tile of half `q`, head `h` of the projected activations of one batch row. -/
def qTile (x : Vec F S1x128x512 .f32) (wq : Vec F S512x256 .f32) (q : Fin 2) (h : Fin 4) : FVec F S64x64 .bf16 :=
  truncf .bf16 (extractStridedSlice S64x64 ![64 * q.val, 64 * h.val]
    (matmul dot_S128x512_S512x256_S128x256_1_0_0_1_n_n none (shapeCast S128x512 x shapeCasts_S1x128x512_S128x512) (shapeCast S512x256 wq shapeCasts_S512x256_S512x256) (constant S128x256 .f32 0x00000000#32))
    (by revert q h; decide)) bitsLt_bf16_f32

/-- A block as loaded from its slot, without the slot's axis. -/
def bare (v : Vec F S1x2x4x128x64 .bf16) : FVec F S2x4x128x64 .bf16 := shapeCast S2x4x128x64 v shapeCasts_S1x2x4x128x64_S2x4x128x64

/-- Scores of 64 queries with 64 keys. -/
def score (Q K : FVec F S64x64 .bf16) : FVec F S64x64 .f32 :=
  mulf (matmul dot_S64x64_S64x64_S64x64_1_1_0_0_n_n none Q K (constant S64x64 .f32 0x00000000#32)) (broadcast S64x64 (Scalar.ofBits .f32 0x3E000000#32))
def rowMax (s : FVec F S64x64 .f32) : FVec F S64x1 .f32 :=
  shapeCast S64x1 (multiReduction .maximumf [1] S64 s 0xFF800000#32 reduces_S64x64_S64 (.inl rfl) rfl) shapeCasts_S64_S64x1
def weight (s : FVec F S64x64 .f32) : FVec F S64x64 .f32 := exp (subf s (broadcastTo S64x64 (rowMax s) broadcasts_S64x1_S64x64))
def mass (s : FVec F S64x64 .f32) : FVec F S64x1 .f32 :=
  shapeCast S64x1 (multiReduction .add [1] S64 (weight s) 0x00000000#32 reduces_S64x64_S64 (.inl rfl) rfl) shapeCasts_S64_S64x1
def weighted (s : FVec F S64x64 .f32) (V : FVec F S64x64 .bf16) : FVec F S64x64 .f32 :=
  matmul dot_S64x64_S64x64_S64x64_1_0_0_1_n_n none (truncf .bf16 (weight s) bitsLt_bf16_f32) V (constant S64x64 .f32 0x00000000#32)

/-- Two tiles of keys or values, one above the other. -/
def pair (A B : FVec F S64x64 .bf16) : FVec F S128x64 .bf16 := concatenate S128x64 0 [⟨S64x64, A⟩, ⟨S64x64, B⟩] concatenates_S64x64_S64x64_S128x64_d0
/-- The same of 64 queries with a pair's 128 keys. -/
def score2 (Q : FVec F S64x64 .bf16) (K : FVec F S128x64 .bf16) : FVec F S64x128 .f32 :=
  mulf (matmul dot_S64x64_S128x64_S64x128_1_1_0_0_n_n none Q K (constant S64x128 .f32 0x00000000#32)) (broadcast S64x128 (Scalar.ofBits .f32 0x3E000000#32))
def rowMax2 (s : FVec F S64x128 .f32) : FVec F S64x1 .f32 :=
  shapeCast S64x1 (multiReduction .maximumf [1] S64 s 0xFF800000#32 reduces_S64x128_S64 (.inl rfl) rfl) shapeCasts_S64_S64x1
def weight2 (s : FVec F S64x128 .f32) : FVec F S64x128 .f32 := exp (subf s (broadcastTo S64x128 (rowMax2 s) broadcasts_S64x1_S64x128))
def mass2 (s : FVec F S64x128 .f32) : FVec F S64x1 .f32 :=
  shapeCast S64x1 (multiReduction .add [1] S64 (weight2 s) 0x00000000#32 reduces_S64x128_S64 (.inl rfl) rfl) shapeCasts_S64_S64x1
def weighted2 (s : FVec F S64x128 .f32) (V : FVec F S128x64 .bf16) : FVec F S64x64 .f32 :=
  matmul dot_S64x128_S128x64_S64x64_1_0_0_1_n_n none (truncf .bf16 (weight2 s) bitsLt_bf16_f32) V (constant S64x64 .f32 0x00000000#32)

/-- Three partial results, each with its own maximum, joined under the common one. -/
def merge (mA mB mC lA lB lC : FVec F S64x1 .f32) (aA aB aC : FVec F S64x64 .f32) : FVec F S64x64 .f32 :=
  let M := maximumf (maximumf mA mB) mC
  let wA := exp (subf mA M)
  let wB := exp (subf mB M)
  let wC := exp (subf mC M)
  divf (addf (addf (mulf aA (broadcastTo S64x64 wA broadcasts_S64x1_S64x64)) (mulf aB (broadcastTo S64x64 wB broadcasts_S64x1_S64x64)))
      (mulf aC (broadcastTo S64x64 wC broadcasts_S64x1_S64x64)))
    (broadcastTo S64x64 (addf (addf (mulf lA wA) (mulf lB wB)) (mulf lC wC)) broadcasts_S64x1_S64x64)

/-- What a device makes of 64 queries and its own, its near and middle mates', and its far mate's keys and values. -/
def attend (Q kA vA kB vB kC vC kD vD : FVec F S64x64 .bf16) : FVec F S64x64 .f32 :=
  merge (rowMax (score Q kA)) (rowMax2 (score2 Q (pair kB kC))) (rowMax (score Q kD))
    (mass (score Q kA)) (mass2 (score2 Q (pair kB kC))) (mass (score Q kD))
    (weighted (score Q kA) vA) (weighted2 (score2 Q (pair kB kC)) (pair vB vC)) (weighted (score Q kD) vD)

/-- One head's tile of batch `b`, half `q`. -/
def head (b q : Fin 2) (h : Fin 4) (v34 v53 : Vec F S2x128x4x64 .f32) (v72 : Vec F S1x128x512 .f32) (v74 : Vec F S512x256 .f32) (v406 v408 v410 v412 v778 v780 : Vec F S1x2x4x128x64 .bf16) : FVec F S64x64 .f32 :=
  attend (qTile v72 v74 q h) (sub b h q (w37 v34)) (sub b h q (w56 v53)) (sub b h q (bare v406)) (sub b h q (bare v410))
    (sub b h q (bare v408)) (sub b h q (bare v412)) (sub b h q (bare v778)) (sub b h q (bare v780))

/-- The four heads side by side. -/
def heads (b q : Fin 2) (v34 v53 : Vec F S2x128x4x64 .f32) (v72 : Vec F S1x128x512 .f32) (v74 : Vec F S512x256 .f32) (v406 v408 v410 v412 v778 v780 : Vec F S1x2x4x128x64 .bf16) : FVec F S64x256 .f32 :=
  concatenate S64x256 1 [⟨S64x64, head b q 0 v34 v53 v72 v74 v406 v408 v410 v412 v778 v780⟩, ⟨S64x64, head b q 1 v34 v53 v72 v74 v406 v408 v410 v412 v778 v780⟩, ⟨S64x64, head b q 2 v34 v53 v72 v74 v406 v408 v410 v412 v778 v780⟩, ⟨S64x64, head b q 3 v34 v53 v72 v74 v406 v408 v410 v412 v778 v780⟩] concatenates_S64x64_S64x64_S64x64_S64x64_S64x256_d1

/-- All rows, projected. -/
def proj (a b c d : FVec F S64x256 .f32) (v1411 : Vec F S256x512 .f32) : FVec F S256x512 .f32 :=
  matmul dot_S256x256_S256x512_S256x512_1_0_0_1_n_n none (concatenate S256x256 0 [⟨S64x256, a⟩, ⟨S64x256, b⟩, ⟨S64x256, c⟩, ⟨S64x256, d⟩] concatenates_S64x256_S64x256_S64x256_S64x256_S256x256_d0)
    (shapeCast S256x512 v1411 shapeCasts_S256x512_S256x512) (constant S256x512 .f32 0x00000000#32)

/-! ## The kernel's vectors are these -/

variable (v34 v53 : Vec F S2x128x4x64 .f32) (v72 v77 : Vec F S1x128x512 .f32) (v74 v79 : Vec F S512x256 .f32) (v406 v408 v410 v412 v778 v780 : Vec F S1x2x4x128x64 .bf16) (v1411 : Vec F S256x512 .f32)

theorem w820_eq : w820 v34 v53 v72 v74 v406 v408 v410 v412 v778 v780 = head 0 0 0 v34 v53 v72 v74 v406 v408 v410 v412 v778 v780 := rfl
theorem w859_eq : w859 v34 v53 v72 v74 v406 v408 v410 v412 v778 v780 = head 0 0 1 v34 v53 v72 v74 v406 v408 v410 v412 v778 v780 := rfl
theorem w898_eq : w898 v34 v53 v72 v74 v406 v408 v410 v412 v778 v780 = head 0 0 2 v34 v53 v72 v74 v406 v408 v410 v412 v778 v780 := rfl
theorem w977_eq : w977 v34 v53 v72 v74 v406 v408 v410 v412 v778 v780 = head 0 1 0 v34 v53 v72 v74 v406 v408 v410 v412 v778 v780 := rfl
theorem w1016_eq : w1016 v34 v53 v72 v74 v406 v408 v410 v412 v778 v780 = head 0 1 1 v34 v53 v72 v74 v406 v408 v410 v412 v778 v780 := rfl
theorem w1055_eq : w1055 v34 v53 v72 v74 v406 v408 v410 v412 v778 v780 = head 0 1 2 v34 v53 v72 v74 v406 v408 v410 v412 v778 v780 := rfl
theorem w1134_eq : w1134 v34 v53 v77 v79 v406 v408 v410 v412 v778 v780 = head 1 0 0 v34 v53 v77 v79 v406 v408 v410 v412 v778 v780 := rfl
theorem w1173_eq : w1173 v34 v53 v77 v79 v406 v408 v410 v412 v778 v780 = head 1 0 1 v34 v53 v77 v79 v406 v408 v410 v412 v778 v780 := rfl
theorem w1212_eq : w1212 v34 v53 v77 v79 v406 v408 v410 v412 v778 v780 = head 1 0 2 v34 v53 v77 v79 v406 v408 v410 v412 v778 v780 := rfl
theorem w1291_eq : w1291 v34 v53 v77 v79 v406 v408 v410 v412 v778 v780 = head 1 1 0 v34 v53 v77 v79 v406 v408 v410 v412 v778 v780 := rfl
theorem w1330_eq : w1330 v34 v53 v77 v79 v406 v408 v410 v412 v778 v780 = head 1 1 1 v34 v53 v77 v79 v406 v408 v410 v412 v778 v780 := rfl
theorem w1369_eq : w1369 v34 v53 v77 v79 v406 v408 v410 v412 v778 v780 = head 1 1 2 v34 v53 v77 v79 v406 v408 v410 v412 v778 v780 := rfl
theorem w938_eq : w938 v34 v53 v72 v74 v406 v408 v410 v412 v778 v780 = heads 0 0 v34 v53 v72 v74 v406 v408 v410 v412 v778 v780 := rfl
theorem w1095_eq : w1095 v34 v53 v72 v74 v406 v408 v410 v412 v778 v780 = heads 0 1 v34 v53 v72 v74 v406 v408 v410 v412 v778 v780 := rfl
theorem w1252_eq : w1252 v34 v53 v77 v79 v406 v408 v410 v412 v778 v780 = heads 1 0 v34 v53 v77 v79 v406 v408 v410 v412 v778 v780 := rfl

theorem outLo_eq : outLo v34 v53 v72 v74 v77 v79 v406 v408 v410 v412 v778 v780 v1411 =
    shapeCast S1x128x512 (extractStridedSlice S128x512 ![0, 0] (proj (heads 0 0 v34 v53 v72 v74 v406 v408 v410 v412 v778 v780) (heads 0 1 v34 v53 v72 v74 v406 v408 v410 v412 v778 v780) (heads 1 0 v34 v53 v77 v79 v406 v408 v410 v412 v778 v780) (heads 1 1 v34 v53 v77 v79 v406 v408 v410 v412 v778 v780) v1411) slices_S256x512_o0_0_S128x512) shapeCasts_S128x512_S1x128x512 := rfl
theorem outHi_eq : outHi v34 v53 v72 v74 v77 v79 v406 v408 v410 v412 v778 v780 v1411 =
    shapeCast S1x128x512 (extractStridedSlice S128x512 ![128, 0] (proj (heads 0 0 v34 v53 v72 v74 v406 v408 v410 v412 v778 v780) (heads 0 1 v34 v53 v72 v74 v406 v408 v410 v412 v778 v780) (heads 1 0 v34 v53 v77 v79 v406 v408 v410 v412 v778 v780) (heads 1 1 v34 v53 v77 v79 v406 v408 v410 v412 v778 v780) v1411) slices_S256x512_o128_0_S128x512) shapeCasts_S128x512_S1x128x512 := rfl

end Cert.KernelIdeal.Run
-- ==== Proof.Soft.lean ====
/-
# Softmax over the extended reals, in pieces and whole

The scores are real numbers; the values are any extended reals. Each lemma brings one way of computing the weighted mean to
the same form: the sum of `exp (score) * value`, times one over the sum of `exp (score)`. The maximum that is
subtracted before `exp` cancels, whatever real number it is, so the two programs need not subtract the same.
-/
module

public import Idealize.ShloMosaic.PureOps.Ideal
public import Idealize.ShloMosaic.Lib.Pointwise

@[expose] public section

noncomputable section

namespace Cert.Soft

open Idealize.ShloMosaic

/-- An extended real that is a real number. -/
def Real' (x : EReal) : Prop := ∃ r : ℝ, x = (r : EReal)

theorem real_coe (r : ℝ) : Real' (r : EReal) := ⟨r, rfl⟩
theorem real_mul {x y : EReal} : Real' x → Real' y → Real' (x * y) := fun ⟨a, ha⟩ ⟨b, hb⟩ => ⟨a * b, by rw [ha, hb, EReal.coe_mul]⟩
theorem real_add {x y : EReal} : Real' x → Real' y → Real' (x + y) := fun ⟨a, ha⟩ ⟨b, hb⟩ => ⟨a + b, by rw [ha, hb, EReal.coe_add]⟩
theorem real_max {x y : EReal} : Real' x → Real' y → Real' (max x y) := fun hx hy => by
  rcases max_choice x y with h | h <;> rw [h] <;> assumption
theorem real_sum {ι : Type} (s : Finset ι) {f : ι → EReal} (h : ∀ i, Real' (f i)) : Real' (∑ i ∈ s, f i) := by
  classical
  induction s using Finset.induction_on with
  | empty => exact ⟨0, by simp⟩
  | insert a s ha ih => rw [Finset.sum_insert ha]; exact real_add (h a) ih

/-- A number smaller than infinity in absolute value is real. -/
theorem real_of_abs_lt {x : EReal} (h : max x (-x) < ⊤) : Real' x := by
  induction x using EReal.rec with
  | bot => simp at h
  | top => simp at h
  | coe r => exact ⟨r, rfl⟩

theorem bot_pattern : Ideal.ofBits .f32 0xFF800000#32 = ⊥ := by simp [Ideal.ofBits, Ideal.ieee]
theorem top_pattern : Ideal.ofBits .f32 0x7F800000#32 = ⊤ := by simp [Ideal.ofBits, Ideal.ieee]
/-- The factor of the scores is a real number. -/
theorem real_scale : Real' (Ideal.ofBits .f32 0x3E000000#32) :=
  ⟨1 / 8, by simp [Ideal.ofBits, Ideal.ieee, -EReal.coe_mul]; norm_num⟩

/-- The largest of finitely many scores, real or minus infinity but not all of the latter, is real. -/
theorem real_fold {ι : Type} [Fintype ι] {f : ι → EReal} (h : ∀ i, Real' (f i) ∨ f i = ⊥) (i₀ : ι) (h₀ : Real' (f i₀)) :
    Real' (Finset.univ.fold max ⊥ f) := by
  obtain ⟨i, -, hi⟩ := Finset.exists_mem_eq_sup (Finset.univ : Finset ι) ⟨i₀, Finset.mem_univ _⟩ f
  have e : Finset.univ.fold max ⊥ f = Finset.univ.sup f := rfl
  have h1 : f i₀ ≤ Finset.univ.sup f := Finset.le_sup (Finset.mem_univ i₀)
  obtain ⟨r, hr⟩ := h₀
  rw [e]
  rcases h i with h' | h'
  · rw [hi]; exact h'
  · rw [hi, h', hr] at h1
    exact absurd (le_bot_iff.mp h1) (EReal.coe_ne_bot r)

theorem real_fold' {ι : Type} [Fintype ι] {f : ι → EReal} (h : ∀ i, Real' (f i)) (i₀ : ι) : Real' (Finset.univ.fold max ⊥ f) :=
  real_fold (fun i => .inl (h i)) i₀ (h i₀)

/-- A nonnegative real factor goes into a sum of any extended reals. -/
theorem sum_mul {ι : Type} (s : Finset ι) (g : ι → EReal) {c : ℝ} (hc : 0 ≤ c) : (∑ i ∈ s, g i) * (c : EReal) = ∑ i ∈ s, g i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem add_mul {c : ℝ} (hc : 0 ≤ c) (x y : EReal) : (x + y) * (c : EReal) = x * (c : EReal) + y * (c : EReal) :=
  EReal.right_distrib_of_nonneg_of_ne_top (by exact_mod_cast hc) (EReal.coe_ne_top c) _ _

theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The number `N / D` for a positive real `D`. -/
theorem div_scaled (N : EReal) {D c : ℝ} (hD : 0 < D) (hc : 0 < c) :
    Ideal.div (N * (c : EReal)) ((D * c : ℝ) : EReal) = Ideal.div N (D : EReal) := by
  rw [Ideal.div_coe (by positivity), Ideal.div_coe hD.ne', mul_assoc, ← EReal.coe_mul]
  congr 2
  field_simp

/-- `exp` of a difference of reals. -/
theorem exp_sub (a b : ℝ) : Ideal.exp ((a : EReal) - (b : EReal)) = ((Real.exp a * Real.exp (-b) : ℝ) : EReal) := by
  rw [← EReal.coe_sub, Ideal.exp_coe, sub_eq_add_neg, Real.exp_add]

/-- One piece, brought from its own maximum `μ` to the common one `M`. -/
theorem piece {ι : Type} [Fintype ι] (f : ι → ℝ) (v : ι → EReal) (μ M : ℝ) :
    (∑ k, Ideal.exp ((f k : EReal) - (μ : EReal)) * v k) * Ideal.exp ((μ : EReal) - (M : EReal))
      = (∑ k, ((Real.exp (f k) : ℝ) : EReal) * v k) * ((Real.exp (-M) : ℝ) : EReal) := by
  rw [exp_sub, sum_mul _ _ (by positivity), sum_mul _ _ (by positivity)]
  refine Finset.sum_congr rfl fun k _ => ?_
  rw [exp_sub, mul_right_comm, mul_right_comm _ (v k), ← EReal.coe_mul, ← EReal.coe_mul]
  congr 2
  have h : Real.exp (-μ) * Real.exp μ = 1 := by rw [← Real.exp_add]; simp
  calc Real.exp (f k) * Real.exp (-μ) * (Real.exp μ * Real.exp (-M)) = Real.exp (f k) * (Real.exp (-μ) * Real.exp μ) * Real.exp (-M) := by ring
    _ = _ := by rw [h, mul_one]

theorem piece_mass {ι : Type} [Fintype ι] (f : ι → ℝ) (μ M : ℝ) :
    (∑ k, Ideal.exp ((f k : EReal) - (μ : EReal))) * Ideal.exp ((μ : EReal) - (M : EReal))
      = (((∑ k, Real.exp (f k)) * Real.exp (-M) : ℝ) : EReal) := by
  have h := piece f (fun _ => 1) μ M
  simp only [mul_one] at h
  rw [h, coe_sum, EReal.coe_mul]

/-- Three pieces joined: the mean over all of them. -/
theorem merged {α β γ : Type} [Fintype α] [Fintype β] [Fintype γ] (a₀ : α) (fA : α → ℝ) (fB : β → ℝ) (fC : γ → ℝ)
    (vA : α → EReal) (vB : β → EReal) (vC : γ → EReal) (μA μB μC M : ℝ) :
    Ideal.div
      ((∑ k, Ideal.exp ((fA k : EReal) - (μA : EReal)) * vA k) * Ideal.exp ((μA : EReal) - (M : EReal))
        + (∑ k, Ideal.exp ((fB k : EReal) - (μB : EReal)) * vB k) * Ideal.exp ((μB : EReal) - (M : EReal))
        + (∑ k, Ideal.exp ((fC k : EReal) - (μC : EReal)) * vC k) * Ideal.exp ((μC : EReal) - (M : EReal)))
      ((∑ k, Ideal.exp ((fA k : EReal) - (μA : EReal))) * Ideal.exp ((μA : EReal) - (M : EReal))
        + (∑ k, Ideal.exp ((fB k : EReal) - (μB : EReal))) * Ideal.exp ((μB : EReal) - (M : EReal))
        + (∑ k, Ideal.exp ((fC k : EReal) - (μC : EReal))) * Ideal.exp ((μC : EReal) - (M : EReal)))
    = Ideal.div ((∑ k, ((Real.exp (fA k) : ℝ) : EReal) * vA k) + (∑ k, ((Real.exp (fB k) : ℝ) : EReal) * vB k) + (∑ k, ((Real.exp (fC k) : ℝ) : EReal) * vC k))
        ((∑ k, ((Real.exp (fA k) : ℝ) : EReal)) + (∑ k, ((Real.exp (fB k) : ℝ) : EReal)) + (∑ k, ((Real.exp (fC k) : ℝ) : EReal))) := by
  rw [piece, piece, piece, piece_mass, piece_mass, piece_mass, ← add_mul (by positivity), ← add_mul (by positivity), coe_sum, coe_sum, coe_sum,
    ← EReal.coe_add, ← EReal.coe_add, ← EReal.coe_add, ← EReal.coe_add, ← _root_.add_mul, ← _root_.add_mul]
  refine div_scaled _ ?_ (Real.exp_pos _)
  have hA : 0 < ∑ k, Real.exp (fA k) := Finset.sum_pos (fun k _ => Real.exp_pos _) ⟨a₀, Finset.mem_univ _⟩
  have hB : 0 ≤ ∑ k, Real.exp (fB k) := Finset.sum_nonneg (fun k _ => (Real.exp_pos _).le)
  have hC : 0 ≤ ∑ k, Real.exp (fC k) := Finset.sum_nonneg (fun k _ => (Real.exp_pos _).le)
  linarith

/-- The masked softmax, each weight divided on its own: the mean over what the mask leaves. -/
theorem masked {ι : Type} [Fintype ι] (P : ι → Prop) [DecidablePred P] (i₀ : ι) (h₀ : P i₀) (f : ι → ℝ) (v : ι → EReal) (M : ℝ) :
    (∑ j, v j * Ideal.div (Ideal.exp ((if P j then (f j : EReal) else ⊥) - (M : EReal))) (∑ l, Ideal.exp ((if P l then (f l : EReal) else ⊥) - (M : EReal))))
      = Ideal.div (∑ j, if P j then ((Real.exp (f j) : ℝ) : EReal) * v j else 0) (∑ j, if P j then ((Real.exp (f j) : ℝ) : EReal) else 0) := by
  have e : ∀ j, Ideal.exp ((if P j then (f j : EReal) else ⊥) - (M : EReal)) = (((if P j then Real.exp (f j) else 0) * Real.exp (-M) : ℝ) : EReal) := fun j => by
    by_cases h : P j
    · rw [if_pos h, if_pos h, exp_sub]
    · rw [if_neg h, if_neg h, EReal.bot_sub, Ideal.exp_bot]; simp
  have e1 : ∀ j, (if P j then ((Real.exp (f j) : ℝ) : EReal) else 0) = ((if P j then Real.exp (f j) else 0 : ℝ) : EReal) := fun j => by
    by_cases h : P j <;> simp [h]
  have hL : 0 < ∑ j, (if P j then Real.exp (f j) else 0) :=
    Finset.sum_pos' (fun j _ => by split_ifs <;> [exact (Real.exp_pos _).le; exact le_rfl]) ⟨i₀, Finset.mem_univ _, by rw [if_pos h₀]; exact Real.exp_pos _⟩
  simp only [e, e1, coe_sum]
  rw [← Finset.sum_mul]
  rw [Ideal.div_coe hL.ne', sum_mul _ _ (by positivity)]
  refine Finset.sum_congr rfl fun j _ => ?_
  rw [EReal.coe_mul (if P j then Real.exp (f j) else 0), div_scaled _ hL (Real.exp_pos _), Ideal.div_coe hL.ne', ← mul_assoc]
  congr 1
  by_cases h : P j
  · rw [if_pos h, if_pos h, mul_comm]
  · rw [if_neg h, if_neg h]; simp

end Cert.Soft
-- ==== Proof.Attend.lean ====
/-
# One tile of the kernel's attention, read at an index

Where queries and keys are real numbers, the joined partial results of `attend` are the mean of the values over all 256 keys,
weighted by `exp` of the scores.
-/
module

public import proofs.«01_k».proof.Proof.Tiles
public import proofs.«01_k».proof.Proof.Soft

@[expose] public section

set_option maxRecDepth 16384

noncomputable section

namespace Cert.KernelIdeal.Run

open Cert.KernelIdeal Cert.KernelIdeal.Gen Cert.Soft
open Idealize.ShloMosaic
open Idealize.ShloMosaic.TcCoe
open Idealize.SL.Sem

/-- The score of query `r` with key `k`. -/
def sc (Q K : FVec Ideal S64x64 .bf16) (r k : Fin 64) : EReal := (∑ e : Fin 64, Q (ix2 r e) * K (ix2 k e)) * Ideal.ofBits .f32 0x3E000000#32

theorem real_sc {Q K : FVec Ideal S64x64 .bf16} (hQ : ∀ r e : Fin 64, Real' (Q (ix2 r e))) (hK : ∀ r e : Fin 64, Real' (K (ix2 r e))) (r k : Fin 64) :
    Real' (sc Q K r k) := real_mul (real_sum _ fun e => real_mul (hQ r e) (hK k e)) real_scale

/-- The sum of a tile's values, each times `exp` of its score. -/
def num (Q K V : FVec Ideal S64x64 .bf16) (r d : Fin 64) : EReal := ∑ k : Fin 64, Ideal.exp (sc Q K r k) * V (ix2 k d)
def den (Q K : FVec Ideal S64x64 .bf16) (r : Fin 64) : EReal := ∑ k : Fin 64, Ideal.exp (sc Q K r k)

set_option maxHeartbeats 1600000 in
theorem attend_at (Q kA vA kB vB kC vC kD vD : FVec Ideal S64x64 .bf16) (hQ : ∀ r e : Fin 64, Real' (Q (ix2 r e)))
    (hA : ∀ r e : Fin 64, Real' (kA (ix2 r e))) (hB : ∀ r e : Fin 64, Real' (kB (ix2 r e))) (hC : ∀ r e : Fin 64, Real' (kC (ix2 r e)))
    (hD : ∀ r e : Fin 64, Real' (kD (ix2 r e))) (r d : Fin 64) :
    attend Q kA vA kB vB kC vC kD vD (ix2 r d)
      = Ideal.div (num Q kA vA r d + (num Q kB vB r d + num Q kC vC r d) + num Q kD vD r d) (den Q kA r + (den Q kB r + den Q kC r) + den Q kD r) := by
  choose fA eA using fun k => real_sc hQ hA r k
  choose fB eB using fun k => real_sc hQ hB r k
  choose fC eC using fun k => real_sc hQ hC r k
  choose fD eD using fun k => real_sc hQ hD r k
  have hBC : ∀ x : Fin 128, Real' ((∑ e : Fin 64, Q (ix2 r e) * if h : (x : ℕ) < 64 then kB (ix2 ⟨x, h⟩ e) else kC (ix2 ⟨x - 64, by have := x.isLt; omega⟩ e))
      * Ideal.ofBits .f32 0x3E000000#32) := fun x => by
    refine real_mul (real_sum _ fun e => real_mul (hQ r e) ?_) real_scale
    by_cases h : (x : ℕ) < 64
    · rw [dif_pos h]; exact hB _ _
    · rw [dif_neg h]; exact hC _ _
  obtain ⟨μA, mA⟩ := real_fold' (fun k => real_coe (fA k)) 0
  obtain ⟨μB, mB⟩ := real_fold' hBC 0
  obtain ⟨μD, mD⟩ := real_fold' (fun k => real_coe (fD k)) 0
  obtain ⟨M, hM⟩ := real_max (real_max (real_coe μA) (real_coe μB)) (real_coe μD)
  have key := merged (0 : Fin 64) fA (Sum.elim fB fC) fD (fun k => vA (ix2 k d)) (Sum.elim (fun k => vB (ix2 k d)) (fun k => vC (ix2 k d))) (fun k => vD (ix2 k d)) μA μB μD M
  simp only [Fintype.sum_sum_type, Sum.elim_inl, Sum.elim_inr] at key
  simp only [num, den, eA, eB, eC, eD, Ideal.exp_coe]
  rw [← key]
  simp only [sc] at eA eB eC eD
  pointwise [attend, merge, rowMax, rowMax2, score, score2, mass, mass2, weight, weight2, weighted, weighted2, pair]
  simp only [bot_pattern, eA, eB, eC, eD, mA, mB, mD, hM]

end Cert.KernelIdeal.Run
-- ==== Proof.HeadAt.lean ====
/-
# The kernel's operands and stored blocks read at an index
-/
module

public import proofs.«01_k».proof.Proof.Attend
public import proofs.«01_k».proof.Proof.Run

@[expose] public section

set_option maxRecDepth 16384

noncomputable section

namespace Cert.KernelIdeal.Run

open Cert.KernelIdeal Cert.KernelIdeal.Gen Cert.Soft
open Idealize.ShloMosaic
open Idealize.ShloMosaic.TcCoe
open Idealize.SL.Sem

/-! ## The tiles -/

/-- Position `k` of half `q` of 128. -/
def inHalf (q : Fin 2) (k : Fin 64) : Fin 128 := ⟨64 * q.val + k.val, by omega⟩
/-- Coordinate `e` of head `h`, of 256. -/
def inHead (h : Fin 4) (e : Fin 64) : Fin 256 := ⟨h.val * 64 + e.val, by omega⟩

theorem ownK_at (v : Vec Ideal S2x128x4x64 .f32) (b : Fin 2) (h : Fin 4) (q : Fin 2) (r e : Fin 64) :
    sub b h q (w37 v) (ix2 r e) = v (ix4 b (inHalf q r) h e) := by
  pointwise [sub, w37, k0_pay713]
  rfl

theorem ownV_at (v : Vec Ideal S2x128x4x64 .f32) (b : Fin 2) (h : Fin 4) (q : Fin 2) (r e : Fin 64) :
    sub b h q (w56 v) (ix2 r e) = v (ix4 b (inHalf q r) h e) := by
  pointwise [sub, w56, k0_pay715]
  rfl

theorem gotK_at (v : Vec Ideal S2x128x4x64 .f32) (b : Fin 2) (h : Fin 4) (q : Fin 2) (r e : Fin 64) :
    sub b h q (bare (unslot (k0_pay714 v))) (ix2 r e) = v (ix4 b (inHalf q r) h e) := by
  pointwise [sub, bare, unslot, k0_pay714, k0_pay713]
  rfl

theorem gotV_at (v : Vec Ideal S2x128x4x64 .f32) (b : Fin 2) (h : Fin 4) (q : Fin 2) (r e : Fin 64) :
    sub b h q (bare (unslot (k0_pay716 v))) (ix2 r e) = v (ix4 b (inHalf q r) h e) := by
  pointwise [sub, bare, unslot, k0_pay716, k0_pay715]
  rfl

theorem query_at (x : Vec Ideal S1x128x512 .f32) (wq : Vec Ideal S512x256 .f32) (q : Fin 2) (h : Fin 4) (r e : Fin 64) :
    qTile x wq q h (ix2 r e) = ∑ k : Fin 512, x (ix3 0 (inHalf q r) k) * wq (ix2 k (inHead h e)) := by
  pointwise [qTile]
  refine Finset.sum_congr rfl fun k _ => ?_
  have he : (⟨64 * h.val + e.val, by omega⟩ : Fin 256) = inHead h e := Fin.ext (by show 64 * h.val + e.val = h.val * 64 + e.val; omega)
  rw [← he]
  rfl

/-! ## The heads side by side, the halves one below the other -/

theorem heads_at (b q : Fin 2) (v34 v53 : Vec Ideal S2x128x4x64 .f32) (v72 : Vec Ideal S1x128x512 .f32) (v74 : Vec Ideal S512x256 .f32)
    (v406 v408 v410 v412 v778 v780 : Vec Ideal S1x2x4x128x64 .bf16) (r : Fin 64) (h : Fin 4) (e : Fin 64) :
    heads b q v34 v53 v72 v74 v406 v408 v410 v412 v778 v780 (ix2 r (inHead h e)) = head b q h v34 v53 v72 v74 v406 v408 v410 v412 v778 v780 (ix2 r e) := by
  unfold heads
  generalize hH : (fun h : Fin 4 => head b q h v34 v53 v72 v74 v406 v408 v410 v412 v778 v780) = H
  have e0 := congrFun hH 0; have e1 := congrFun hH 1; have e2 := congrFun hH 2; have e3 := congrFun hH 3
  have eh := congrFun hH h
  beta_reduce at e0 e1 e2 e3 eh
  rw [e0, e1, e2, e3, eh]
  clear hH e0 e1 e2 e3 eh
  have h4 : ∀ h : Fin 4, h = 0 ∨ h = 1 ∨ h = 2 ∨ h = 3 := by decide
  have ix : ∀ (n : ℕ) (hn : n < 64), n = e.val → (⟨n, hn⟩ : Fin 64) = e := fun n hn h => Fin.ext h
  rcases h4 h with rfl | rfl | rfl | rfl
  · pointwise [inHead]
  · pointwise [inHead]
  · pointwise [inHead]
    rw [dif_neg (by omega), dif_neg (by omega), dif_pos (by omega), ix _ _ (by omega)]
  · pointwise [inHead]
    rw [dif_neg (by omega), dif_neg (by omega), dif_neg (by omega), ix _ _ (by omega)]

theorem proj_at (P : Fin 2 → Fin 2 → FVec Ideal S64x256 .f32) (w : Vec Ideal S256x512 .f32) (b q : Fin 2) (r : Fin 64) (n : Fin 512) :
    proj (P 0 0) (P 0 1) (P 1 0) (P 1 1) w (ix2 (⟨128 * b.val + (64 * q.val + r.val), by omega⟩ : Fin 256) n)
      = ∑ o : Fin 256, P b q (ix2 r o) * w (ix2 o n) := by
  pointwise [proj]
  refine Finset.sum_congr rfl fun o _ => congrArg (· * w (ix2 o n)) ?_
  have ix : ∀ (n : ℕ) (hn : n < 64), n = r.val → (⟨n, hn⟩ : Fin 64) = r := fun n hn h => Fin.ext h
  have q2 : ∀ q : Fin 2, q = 0 ∨ q = 1 := by decide
  have hr := r.isLt
  have v0 : ((0 : Fin 2) : ℕ) = 0 := rfl
  have v1 : ((1 : Fin 2) : ℕ) = 1 := rfl
  rcases q2 b with rfl | rfl <;> rcases q2 q with rfl | rfl
  · rw [dif_pos (by omega), ix _ _ (by omega)]
  · rw [dif_neg (by omega), dif_pos (by omega), ix _ _ (by omega)]
  · rw [dif_neg (by omega), dif_neg (by omega), dif_pos (by omega), ix _ _ (by omega)]
  · rw [dif_neg (by omega), dif_neg (by omega), dif_neg (by omega), ix _ _ (by omega)]

/-! ## The stored block -/

theorem emb_row (b : Fin 2) (y : Fin 128) (n : Fin 512) : (rX b).emb (ix3 (0 : Fin 1) y n : S1x128x512.Idx) = (ix3 b y n : S2x128x512.Idx) := by
  have e : ∀ j : S1x128x512.Idx, (rX b).emb j = (rowR b).emb j := fun j => rfl
  rw [e]
  funext a
  refine Fin.ext ?_
  rw [Rect.emb_apply]
  fin_cases a
  · show b.val + 1 * 0 = b.val
    omega
  · show 0 + 1 * y.val = y.val
    omega
  · show 0 + 1 * n.val = n.val
    omega

theorem outC_lo (lo hi : Vec Ideal S1x128x512 .f32) (y : Fin 128) (n : Fin 512) : outC lo hi (ix3 (0 : Fin 2) y n) = lo (ix3 0 y n) := by
  unfold outC
  rw [View.write_of_not_mem (v := rX 1) _ _ _ (by rw [View.setOn_univ, mem_rX, mem_rowR]; exact Nat.zero_ne_one), ← emb_row 0 y n,
    View.write_emb_of_mem _ _ (Finset.mem_univ _)]
  rfl

theorem outC_hi (lo hi : Vec Ideal S1x128x512 .f32) (y : Fin 128) (n : Fin 512) : outC lo hi (ix3 (1 : Fin 2) y n) = hi (ix3 0 y n) := by
  unfold outC
  rw [← emb_row 1 y n, View.write_emb_of_mem _ _ (Finset.mem_univ _)]
  rfl

end Cert.KernelIdeal.Run

end
-- ==== Proof.Seen.lean ====
/-
# The keys a query sees, device by device

Query `64 q + r` of device `c` sees, of the 1024 keys, those of half `q` of the four devices of `c`'s parity: its own 64 and the
64 of each mate.
-/
module

public import proofs.«01_k».proof.Proof.Run
public import Idealize.ShloMosaic.Lib.Pointwise

@[expose] public section

noncomputable section

namespace Cert.KernelIdeal.Run

open Cert.KernelIdeal Cert.KernelIdeal.Gen
open Idealize.ShloMosaic
open Idealize.ShloMosaic.TcCoe
open Idealize.SL.Sem

/-- Position `k` of half `q` of device `d`'s 128 positions, among the 1024. -/
def at' (d : Fin 8) (q : Fin 2) (k : Fin 64) : Fin 1024 := ⟨128 * d.val + (64 * q.val + k.val), by omega⟩

theorem sum_tiles (G : Fin 1024 → EReal) : ∑ j : Fin 1024, G j = ∑ d : Fin 8, ∑ q : Fin 2, ∑ k : Fin 64, G (at' d q k) := by
  rw [Fin.sum_univ_tiles 8 128 rfl]
  refine Finset.sum_congr rfl fun d _ => ?_
  rw [Fin.sum_univ_tiles 2 64 rfl]
  refine Finset.sum_congr rfl fun q _ => Finset.sum_congr rfl fun k _ => congrArg G (Fin.ext ?_)
  show d.val * 128 + (q.val * 64 + k.val) = 128 * d.val + (64 * q.val + k.val)
  omega

theorem blk_at (d : Fin 8) (q : Fin 2) (k : Fin 64) : (at' d q k).val / 64 % 4 = (2 * d.val + q.val) % 4 := by
  show (128 * d.val + (64 * q.val + k.val)) / 64 % 4 = _
  omega

theorem sum_seen_aux (T : Fin 8 → Fin 2 → EReal) (c : Dev nD) (q : Fin 2) :
    (∑ d : Fin 8, ∑ p : Fin 2, if (2 * c.val + q.val) % 4 = (2 * d.val + p.val) % 4 then T d p else 0)
      = (T c q + (T (mate c (nearP (place c))) q + T (mate c (midP (place c))) q)) + T (mate c (farP (place c))) q := by
  have c8 : ∀ c : Fin 8, c = 0 ∨ c = 1 ∨ c = 2 ∨ c = 3 ∨ c = 4 ∨ c = 5 ∨ c = 6 ∨ c = 7 := by decide
  have q2 : ∀ q : Fin 2, q = 0 ∨ q = 1 := by decide
  have f2 : ∀ h, (⟨2, h⟩ : Fin 8) = 2 := fun _ => rfl
  have f3 : ∀ h, (⟨3, h⟩ : Fin 8) = 3 := fun _ => rfl
  have f4 : ∀ h, (⟨4, h⟩ : Fin 8) = 4 := fun _ => rfl
  have f5 : ∀ h, (⟨5, h⟩ : Fin 8) = 5 := fun _ => rfl
  have f6 : ∀ h, (⟨6, h⟩ : Fin 8) = 6 := fun _ => rfl
  have f7 : ∀ h, (⟨7, h⟩ : Fin 8) = 7 := fun _ => rfl
  simp only [Fin.sum_univ_eight, Fin.sum_univ_two]
  rcases c8 c with rfl | rfl | rfl | rfl | rfl | rfl | rfl | rfl <;> rcases q2 q with rfl | rfl <;>
    (norm_num [mate, place, f2, f3, f4, f5, f6, f7]; try abel)

/-- The sum over the keys seen. -/
theorem sum_seen (G : Fin 1024 → EReal) (c : Dev nD) (q : Fin 2) (r : Fin 64) :
    (∑ j : Fin 1024, if (at' c q r).val / 64 % 4 = j.val / 64 % 4 then G j else 0)
      = ((∑ k, G (at' c q k)) + ((∑ k, G (at' (mate c (nearP (place c))) q k)) + ∑ k, G (at' (mate c (midP (place c))) q k)))
        + ∑ k, G (at' (mate c (farP (place c))) q k) := by
  rw [sum_tiles]
  refine Eq.trans ?_ (sum_seen_aux (fun d p => ∑ k, G (at' d p k)) c q)
  refine Finset.sum_congr rfl fun d _ => Finset.sum_congr rfl fun p _ => ?_
  simp only [blk_at]
  split <;> simp

end Cert.KernelIdeal.Run

end
-- ==== Proof.RefTerm.lean ====
/-
# The reference's result, in named steps

The generated run states the reference's result as one composed term. The steps of the mathematics are named here: the blocks
of 64 positions, the mask, the scores, the masked scores, the weights, and the result.
-/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- The block of each position: its number divided by 64. -/
def blockOf : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
/-- The divisor of the remainders. -/
def divisor : IVec S_ 32 :=
  select (cmpi .eq (id (constantI S_ 32 4#32)) (constantI S_ 32 0#32)) (constantI S_ 32 1#32) (id (constantI S_ 32 4#32))
def keyMod : IVec S1x1024 32 :=
  select (andi (cmpi .ne (cmpi .slt (Host.remsi (broadcastInDim S1x1024 ![1] bcast_S1024_S1x1024_1 blockOf) (broadcastInDim S1x1024 ![] bcast_S_S1x1024 divisor)) (broadcastInDim S1x1024 ![] bcast_S_S1x1024 (constantI S_ 32 0#32))) (broadcastInDim S1x1024 ![] bcast_S_S1x1024 (cmpi .slt divisor (constantI S_ 32 0#32)))) (cmpi .ne (Host.remsi (broadcastInDim S1x1024 ![1] bcast_S1024_S1x1024_1 blockOf) (broadcastInDim S1x1024 ![] bcast_S_S1x1024 divisor)) (broadcastInDim S1x1024 ![] bcast_S_S1x1024 (constantI S_ 32 0#32)))) (addi (Host.remsi (broadcastInDim S1x1024 ![1] bcast_S1024_S1x1024_1 blockOf) (broadcastInDim S1x1024 ![] bcast_S_S1x1024 divisor)) (broadcastInDim S1x1024 ![] bcast_S_S1x1024 divisor)) (Host.remsi (broadcastInDim S1x1024 ![1] bcast_S1024_S1x1024_1 blockOf) (broadcastInDim S1x1024 ![] bcast_S_S1x1024 divisor))
def queryMod : IVec S1024x1 32 :=
  select (andi (cmpi .ne (cmpi .slt (Host.remsi (broadcastInDim S1024x1 ![0] bcast_S1024_S1024x1_0 blockOf) (broadcastInDim S1024x1 ![] bcast_S_S1024x1 divisor)) (broadcastInDim S1024x1 ![] bcast_S_S1024x1 (constantI S_ 32 0#32))) (broadcastInDim S1024x1 ![] bcast_S_S1024x1 (cmpi .slt divisor (constantI S_ 32 0#32)))) (cmpi .ne (Host.remsi (broadcastInDim S1024x1 ![0] bcast_S1024_S1024x1_0 blockOf) (broadcastInDim S1024x1 ![] bcast_S_S1024x1 divisor)) (broadcastInDim S1024x1 ![] bcast_S_S1024x1 (constantI S_ 32 0#32)))) (addi (Host.remsi (broadcastInDim S1024x1 ![0] bcast_S1024_S1024x1_0 blockOf) (broadcastInDim S1024x1 ![] bcast_S_S1024x1 divisor)) (broadcastInDim S1024x1 ![] bcast_S_S1024x1 divisor)) (Host.remsi (broadcastInDim S1024x1 ![0] bcast_S1024_S1024x1_0 blockOf) (broadcastInDim S1024x1 ![] bcast_S_S1024x1 divisor))
/-- Which keys a query sees. -/
def mask : IVec S1024x1024 1 :=
  ori (cmpi .eq (broadcastInDim S1024x1024 ![0, 1] bcast_S1024x1_S1024x1024_0_1 (broadcastInDim S1024x1 ![0] bcast_S1024_S1024x1_0 blockOf)) (broadcastInDim S1024x1024 ![0, 1] bcast_S1x1024_S1024x1024_0_1 (broadcastInDim S1x1024 ![1] bcast_S1024_S1x1024_1 blockOf))) (cmpi .eq (broadcastInDim S1024x1024 ![0, 1] bcast_S1x1024_S1024x1024_0_1 keyMod) (broadcastInDim S1024x1024 ![0, 1] bcast_S1024x1_S1024x1024_0_1 queryMod))
/-- Which queries see a key at all. -/
def keep : IVec S1024 1 :=
  Host.reduce IntOp.ori mask (constantI S_ 1 0#1) reducesTo_S1024x1024_S1024_d1 h_S_
def scores (X : FVec F S2x1024x512 .f32) (Wq : FVec F S512x256 .f32) (K : FVec F S2x1024x4x64 .f32) : FVec F S2x4x1024x1024 .f32 :=
  mulf (Host.dotGeneral dot_S2x1024x4x64_S2x1024x4x64_S2x4x1024x1024_3_3_1_1_02_02 none (shapeCast _ (Host.dotGeneral dot_S2x1024x512_S512x256_S2x1024x256_2_0_01_1_n_n none X Wq) shapeCasts_S2x1024x256_S2x1024x4x64) K) (broadcastInDim S2x4x1024x1024 ![] bcast_S_S2x4x1024x1024 (constant S_ .f32 0x3E000000#32))
def maskedScores (X : FVec F S2x1024x512 .f32) (Wq : FVec F S512x256 .f32) (K : FVec F S2x1024x4x64 .f32) : FVec F S2x4x1024x1024 .f32 :=
  select (broadcastInDim S2x4x1024x1024 ![0, 1, 2, 3] bcast_S1x1x1024x1024_S2x4x1024x1024_0_1_2_3 (broadcastInDim S1x1x1024x1024 ![2, 3] bcast_S1024x1024_S1x1x1024x1024_2_3 mask)) (scores X Wq K) (broadcastInDim S2x4x1024x1024 ![] bcast_S_S2x4x1024x1024 (id (constant S_ .f32 0xFF800000#32)))
def weights (X : FVec F S2x1024x512 .f32) (Wq : FVec F S512x256 .f32) (K : FVec F S2x1024x4x64 .f32) : FVec F S2x4x1024x1024 .f32 :=
  Host.exp (subf (maskedScores X Wq K) (broadcastInDim S2x4x1024x1024 ![0, 1, 2, 3] bcast_S2x4x1024x1_S2x4x1024x1024_0_1_2_3 (broadcastInDim S2x4x1024x1 ![0, 1, 2] bcast_S2x4x1024_S2x4x1024x1_0_1_2 (Host.reduce FloatOps.maximumf (maskedScores X Wq K) (constant S_ .f32 0xFF800000#32) reducesTo_S2x4x1024x1024_S2x4x1024_d3 h_S_))))
/-- The weights divided by their sums. -/
def shares (X : FVec F S2x1024x512 .f32) (Wq : FVec F S512x256 .f32) (K : FVec F S2x1024x4x64 .f32) : FVec F S2x4x1024x1024 .f32 :=
  select (broadcastInDim S2x4x1024x1024 ![0, 1, 2, 3] bcast_S1x1x1024x1_S2x4x1024x1024_0_1_2_3 (broadcastInDim S1x1x1024x1 ![2] bcast_S1024_S1x1x1024x1_2 keep)) (Host.divf (weights X Wq K) (broadcastInDim S2x4x1024x1024 ![0, 1, 2, 3] bcast_S2x4x1024x1_S2x4x1024x1024_0_1_2_3 (select (broadcastInDim S2x4x1024x1 ![0, 1, 2, 3] bcast_S1x1x1024x1_S2x4x1024x1_0_1_2_3 (broadcastInDim S1x1x1024x1 ![2] bcast_S1024_S1x1x1024x1_2 keep)) (broadcastInDim S2x4x1024x1 ![0, 1, 2] bcast_S2x4x1024_S2x4x1024x1_0_1_2 (Host.reduceAdd (weights X Wq K) (constant S_ .f32 0x00000000#32) reducesTo_S2x4x1024x1024_S2x4x1024_d3 h_S_)) (broadcastInDim S2x4x1024x1 ![] bcast_S_S2x4x1024x1 (id (constant S_ .f32 0x3F800000#32)))))) (broadcastInDim S2x4x1024x1024 ![] bcast_S_S2x4x1024x1024 (id (constant S_ .f32 0x00000000#32)))
/-- The reference's result. -/
def refOut (X : FVec F S2x1024x512 .f32) (Wq : FVec F S512x256 .f32) (K : FVec F S2x1024x4x64 .f32) (V : FVec F S2x1024x4x64 .f32) (Wo : FVec F S256x512 .f32) : FVec F S2x1024x512 .f32 :=
  Host.dotGeneral dot_S2x1024x256_S256x512_S2x1024x512_2_0_01_1_n_n none (shapeCast _ (transpose S2x1024x4x64 [0, 3, 1, 2] (Host.dotGeneral dot_S2x1024x4x64_S2x4x1024x1024_S2x4x64x1024_1_3_3_2_02_01 none V (shares X Wq K)) transposes_S2x4x64x1024_S2x1024x4x64_0_3_1_2) shapeCasts_S2x1024x4x64_S2x1024x256) Wo

theorem res_eq (m : (ℓ : Loc nD τ sig) → Buf (Elt F) ℓ) (c : Dev nD) :
    res_main_v39 m c = refOut (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v39
  rfl

end Cert.ReferenceIdeal.Value
-- ==== Proof.RefAt.lean ====
/-
# The reference read at an index

Query `i` sees key `j` exactly when their blocks of 64 agree modulo 4. Where the activations, the query weights and the keys
are real numbers, the result is, for each head and column, the mean of the values over the keys seen, weighted by `exp` of the
scores, then multiplied with the output weights.
-/
module

public import proofs.«01_k».proof.Proof.RefTerm
public import proofs.«01_k».proof.Proof.Soft
public import Idealize.ShloMosaic.Lib.Routing.OpsOrder

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Soft

theorem blockOf_at (i : Fin 1024) : blockOf (ix1 i) = BitVec.ofNat 32 (i.val / 64) := by
  pointwise [blockOf, id_eq]
  revert i
  decide +kernel

theorem keyMod_at (i : Fin 1024) : keyMod (ix2 0 i) = BitVec.ofNat 32 (i.val / 64 % 4) := by
  pointwise [keyMod, divisor, id_eq]
  rw [blockOf_at]
  have h : ∀ a : Fin 16, Scalar.select (IntOp.andi (IntOp.cmpi .ne (IntOp.cmpi .slt (IntOp.remsi .host (BitVec.ofNat 32 a.val) (Scalar.select (IntOp.cmpi .eq 4#32 0#32) (1#32) (4#32))) 0#32)
        (IntOp.cmpi .slt (Scalar.select (IntOp.cmpi .eq 4#32 0#32) (1#32) (4#32)) 0#32))
        (IntOp.cmpi .ne (IntOp.remsi .host (BitVec.ofNat 32 a.val) (Scalar.select (IntOp.cmpi .eq 4#32 0#32) (1#32) (4#32))) 0#32))
      (IntOp.addi (IntOp.remsi .host (BitVec.ofNat 32 a.val) (Scalar.select (IntOp.cmpi .eq 4#32 0#32) (1#32) (4#32))) (Scalar.select (IntOp.cmpi .eq 4#32 0#32) (1#32) (4#32)))
      (IntOp.remsi .host (BitVec.ofNat 32 a.val) (Scalar.select (IntOp.cmpi .eq 4#32 0#32) (1#32) (4#32))) = BitVec.ofNat 32 (a.val % 4) := by decide +kernel
  exact h ⟨i.val / 64, by have := i.isLt; omega⟩

theorem queryMod_at (i : Fin 1024) : queryMod (ix2 i 0) = BitVec.ofNat 32 (i.val / 64 % 4) := by
  refine Eq.trans ?_ (keyMod_at i)
  pointwise [keyMod, queryMod, divisor, id_eq]

/-- Query `i` sees key `j`. -/
def Sees (i j : Fin 1024) : Prop := i.val / 64 % 4 = j.val / 64 % 4
instance (i j : Fin 1024) : Decidable (Sees i j) := inferInstanceAs (Decidable (_ = _))

theorem mask_at (i j : Fin 1024) : mask (ix2 i j) = if Sees i j then 1#1 else 0#1 := by
  pointwise [mask]
  rw [blockOf_at, blockOf_at, keyMod_at, queryMod_at]
  have h : ∀ a b : Fin 16, IntOp.ori (IntOp.cmpi .eq (BitVec.ofNat 32 a.val) (BitVec.ofNat 32 b.val)) (IntOp.cmpi .eq (BitVec.ofNat 32 (b.val % 4)) (BitVec.ofNat 32 (a.val % 4)))
      = if a.val % 4 = b.val % 4 then 1#1 else 0#1 := by decide +kernel
  exact h ⟨i.val / 64, by have := i.isLt; omega⟩ ⟨j.val / 64, by have := j.isLt; omega⟩

theorem keep_at (i : Fin 1024) : keep (ix1 i) = 1#1 := by
  pointwise [keep]
  exact (Routing.fold_ori _ _).2 ⟨i, Finset.mem_univ _, by rw [mask_at, if_pos (show Sees i i from rfl)]⟩

variable (X : FVec Ideal S2x1024x512 .f32) (Wq : FVec Ideal S512x256 .f32) (K V : FVec Ideal S2x1024x4x64 .f32) (Wo : FVec Ideal S256x512 .f32)

/-- The score of query `i` with key `j`, head `h`, batch `b`. -/
def score (b : Fin 2) (h : Fin 4) (i j : Fin 1024) : EReal :=
  (∑ e : Fin 64, (∑ k : Fin 512, X (ix3 b i k) * Wq (ix2 k ⟨h.val * 64 + e.val, by have := h.isLt; have := e.isLt; omega⟩)) * K (ix4 b j h e))
    * Ideal.ofBits .f32 0x3E000000#32

theorem scores_at (b : Fin 2) (h : Fin 4) (i j : Fin 1024) : scores X Wq K (ix4 b h i j) = score X Wq K b h i j := by
  pointwise [scores, score]

variable {X Wq K V Wo}

theorem real_score (hX : ∀ b i k, Real' (X (ix3 b i k))) (hW : ∀ k o, Real' (Wq (ix2 k o))) (hK : ∀ b j h e, Real' (K (ix4 b j h e)))
    (b : Fin 2) (h : Fin 4) (i j : Fin 1024) : Real' (score X Wq K b h i j) :=
  real_mul (real_sum _ fun e => real_mul (real_sum _ fun k => real_mul (hX _ _ _) (hW _ _)) (hK _ _ _ _)) real_scale

/-- The mean over the keys seen. -/
def mean (X : FVec Ideal S2x1024x512 .f32) (Wq : FVec Ideal S512x256 .f32) (K V : FVec Ideal S2x1024x4x64 .f32) (b : Fin 2) (h : Fin 4) (i : Fin 1024) (e : Fin 64) : EReal :=
  Ideal.div (∑ j : Fin 1024, if Sees i j then Ideal.exp (score X Wq K b h i j) * V (ix4 b j h e) else 0)
    (∑ j : Fin 1024, if Sees i j then Ideal.exp (score X Wq K b h i j) else 0)

theorem mean_at (hX : ∀ b i k, Real' (X (ix3 b i k))) (hW : ∀ k o, Real' (Wq (ix2 k o))) (hK : ∀ b j h e, Real' (K (ix4 b j h e)))
    (b : Fin 2) (h : Fin 4) (i : Fin 1024) (e : Fin 64) :
    ∑ j : Fin 1024, V (ix4 b j h e) * shares X Wq K (ix4 b h i j) = mean X Wq K V b h i e := by
  choose f hf using fun j => real_score hX hW hK b h i j
  have hm : ∀ j, maskedScores X Wq K (ix4 b h i j) = if Sees i j then (f j : EReal) else ⊥ := fun j => by
    pointwise [maskedScores, id_eq]
    rw [mask_at, scores_at, hf, bot_pattern]
    by_cases hs : Sees i j
    · rw [if_pos hs, if_pos hs]; rfl
    · rw [if_neg hs, if_neg hs]; rfl
  obtain ⟨M, hM⟩ := real_fold (f := fun j => if Sees i j then (f j : EReal) else ⊥)
    (fun j => by
      by_cases hs : Sees i j
      · rw [if_pos hs]; exact .inl (real_coe _)
      · rw [if_neg hs]; exact .inr rfl) i (by rw [if_pos (show Sees i i from rfl)]; exact real_coe _)
  have hw : ∀ j, weights X Wq K (ix4 b h i j) = Ideal.exp ((if Sees i j then (f j : EReal) else ⊥) - (M : EReal)) := fun j => by
    pointwise [weights]
    simp only [bot_pattern, hm, hM]
  have hs : ∀ j, shares X Wq K (ix4 b h i j) = Ideal.div (Ideal.exp ((if Sees i j then (f j : EReal) else ⊥) - (M : EReal)))
      (∑ l, Ideal.exp ((if Sees i l then (f l : EReal) else ⊥) - (M : EReal))) := fun j => by
    pointwise [shares, id_eq]
    simp only [keep_at, hw]
    rfl
  simp only [hs, mean, hf, Ideal.exp_coe]
  exact masked (fun j => Sees i j) i rfl f (fun j => V (ix4 b j h e)) M

theorem refOut_at (hX : ∀ b i k, Real' (X (ix3 b i k))) (hW : ∀ k o, Real' (Wq (ix2 k o))) (hK : ∀ b j h e, Real' (K (ix4 b j h e)))
    (b : Fin 2) (i : Fin 1024) (n : Fin 512) :
    refOut X Wq K V Wo (ix3 b i n)
      = ∑ o : Fin 256, mean X Wq K V b ⟨o.val / 64, by have := o.isLt; omega⟩ i ⟨o.val % 64, by omega⟩ * Wo (ix2 o n) := by
  pointwise [refOut]
  exact Finset.sum_congr rfl fun o _ => by rw [mean_at hX hW hK]

end Cert.ReferenceIdeal.Value
-- ==== Proof.Joined.lean ====
/-
# A device's block is the reference's

Where the devices' arguments are their parts of the reference's, and the activations, the query weights and the keys are real
numbers, what a device stores at a position is what the reference computes there.
-/
module

public import proofs.«01_k».proof.Proof.HeadAt
public import proofs.«01_k».proof.Proof.Seen
public import proofs.«01_k».proof.Proof.RefAt

@[expose] public section

set_option maxRecDepth 16384

noncomputable section

namespace Cert.KernelIdeal.Run

open Cert.KernelIdeal Cert.KernelIdeal.Gen Cert.Soft
open Cert.ReferenceIdeal.Value (mean refOut refOut_at)
open Idealize.ShloMosaic
open Idealize.ShloMosaic.TcCoe
open Idealize.SL.Sem

/-! ## The arguments as staged -/

section Reads

variable (m : (ℓ : Loc nD τ sig) → Buf (Elt Ideal) ℓ) (ρ : Dev nD → PrngReg)

theorem xIn_eq (c : Dev nD) : xIn m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

theorem wqIn_eq (c : Dev nD) : wqIn m ρ c = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

theorem kIn_eq (c : Dev nD) : kIn m ρ c = m ((c.tc : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _

theorem vIn_eq (c : Dev nD) : vIn m ρ c = m ((c.tc : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _

theorem woIn_eq (c : Dev nD) : woIn m ρ c = m ((c.tc : Thread nD τ).loc main_arg4) := by
  have hz : (fun a => (win0_4.index (0 : Fin 1)) a * main_arg4.ty.shape.size a) = fun _ => 0 := funext fun a => by fin_cases a <;> decide
  exact Memref.read_access_unit_zero (Elt Ideal) main_arg4 hz (fun a => by fin_cases a <;> decide) _

theorem xRow_at (c : Dev nD) (b : Fin 2) (y : Fin 128) (k : Fin 512) : xRow m ρ c b (ix3 0 y k) = xIn m ρ c (ix3 b y k) := by
  rw [← emb_row b y k]
  rfl

end Reads

/-! ## One tile -/

variable {X : FVec Ideal Cert.ReferenceIdeal.S2x1024x512 .f32} {Wq : FVec Ideal Cert.ReferenceIdeal.S512x256 .f32}
  {K V : FVec Ideal Cert.ReferenceIdeal.S2x1024x4x64 .f32} {Wo : FVec Ideal Cert.ReferenceIdeal.S256x512 .f32}

/-- Position `y` of device `d`'s 128, among the 1024. -/
def row (d : Fin 8) (y : Fin 128) : Fin 1024 := ⟨128 * d.val + y.val, by omega⟩

theorem row_inHalf (d : Fin 8) (q : Fin 2) (k : Fin 64) : row d (inHalf q k) = at' d q k := rfl

theorem sc_eq {c d : Fin 8} {b : Fin 2} {h : Fin 4} {q : Fin 2} {Q kt : FVec Ideal S64x64 .bf16}
    (hQ : ∀ r e : Fin 64, Q (ix2 r e) = ∑ k : Fin 512, X (ix3 b (at' c q r) k) * Wq (ix2 k (inHead h e)))
    (hk : ∀ r e : Fin 64, kt (ix2 r e) = K (ix4 b (at' d q r) h e)) (r k : Fin 64) :
    sc Q kt r k = Cert.ReferenceIdeal.Value.score X Wq K b h (at' c q r) (at' d q k) := by
  unfold sc Cert.ReferenceIdeal.Value.score
  refine congrArg (· * _) (Finset.sum_congr rfl fun e _ => ?_)
  rw [hQ, hk]
  rfl

theorem num_eq {c d : Fin 8} {b : Fin 2} {h : Fin 4} {q : Fin 2} {Q kt vt : FVec Ideal S64x64 .bf16}
    (hQ : ∀ r e : Fin 64, Q (ix2 r e) = ∑ k : Fin 512, X (ix3 b (at' c q r) k) * Wq (ix2 k (inHead h e)))
    (hk : ∀ r e : Fin 64, kt (ix2 r e) = K (ix4 b (at' d q r) h e)) (hv : ∀ r e : Fin 64, vt (ix2 r e) = V (ix4 b (at' d q r) h e)) (r e : Fin 64) :
    num Q kt vt r e = ∑ k : Fin 64, (fun j => Ideal.exp (Cert.ReferenceIdeal.Value.score X Wq K b h (at' c q r) j) * V (ix4 b j h e)) (at' d q k) := by
  unfold num
  refine Finset.sum_congr rfl fun k _ => ?_
  rw [sc_eq hQ hk, hv]

theorem den_eq {c d : Fin 8} {b : Fin 2} {h : Fin 4} {q : Fin 2} {Q kt : FVec Ideal S64x64 .bf16}
    (hQ : ∀ r e : Fin 64, Q (ix2 r e) = ∑ k : Fin 512, X (ix3 b (at' c q r) k) * Wq (ix2 k (inHead h e)))
    (hk : ∀ r e : Fin 64, kt (ix2 r e) = K (ix4 b (at' d q r) h e)) (r : Fin 64) :
    den Q kt r = ∑ k : Fin 64, (fun j => Ideal.exp (Cert.ReferenceIdeal.Value.score X Wq K b h (at' c q r) j)) (at' d q k) := by
  unfold den
  refine Finset.sum_congr rfl fun k _ => ?_
  rw [sc_eq hQ hk]

variable (hX : ∀ b i k, Real' (X (ix3 b i k))) (hW : ∀ k o, Real' (Wq (ix2 k o))) (hK : ∀ b j h e, Real' (K (ix4 b j h e)))

include hX hW hK in
theorem attend_mean {c : Fin 8} {b : Fin 2} {h : Fin 4} {q : Fin 2} {Q kA vA kB vB kC vC kD vD : FVec Ideal S64x64 .bf16}
    (hQ : ∀ r e : Fin 64, Q (ix2 r e) = ∑ k : Fin 512, X (ix3 b (at' c q r) k) * Wq (ix2 k (inHead h e)))
    (hkA : ∀ r e : Fin 64, kA (ix2 r e) = K (ix4 b (at' c q r) h e)) (hvA : ∀ r e : Fin 64, vA (ix2 r e) = V (ix4 b (at' c q r) h e))
    (hkB : ∀ r e : Fin 64, kB (ix2 r e) = K (ix4 b (at' (mate c (nearP (place c))) q r) h e)) (hvB : ∀ r e : Fin 64, vB (ix2 r e) = V (ix4 b (at' (mate c (nearP (place c))) q r) h e))
    (hkC : ∀ r e : Fin 64, kC (ix2 r e) = K (ix4 b (at' (mate c (midP (place c))) q r) h e)) (hvC : ∀ r e : Fin 64, vC (ix2 r e) = V (ix4 b (at' (mate c (midP (place c))) q r) h e))
    (hkD : ∀ r e : Fin 64, kD (ix2 r e) = K (ix4 b (at' (mate c (farP (place c))) q r) h e)) (hvD : ∀ r e : Fin 64, vD (ix2 r e) = V (ix4 b (at' (mate c (farP (place c))) q r) h e))
    (r e : Fin 64) :
    attend Q kA vA kB vB kC vC kD vD (ix2 r e) = mean X Wq K V b h (at' c q r) e := by
  rw [attend_at Q kA vA kB vB kC vC kD vD (fun r e => by rw [hQ]; exact real_sum _ fun k => real_mul (hX _ _ _) (hW _ _)) (fun r e => by rw [hkA]; exact hK _ _ _ _)
    (fun r e => by rw [hkB]; exact hK _ _ _ _) (fun r e => by rw [hkC]; exact hK _ _ _ _) (fun r e => by rw [hkD]; exact hK _ _ _ _),
    num_eq hQ hkA hvA, num_eq hQ hkB hvB, num_eq hQ hkC hvC, num_eq hQ hkD hvD, den_eq hQ hkA, den_eq hQ hkB, den_eq hQ hkC, den_eq hQ hkD]
  exact congrArg₂ Ideal.div (sum_seen (fun j => Ideal.exp (Cert.ReferenceIdeal.Value.score X Wq K b h (at' c q r) j) * V (ix4 b j h e)) c q r).symm
    (sum_seen (fun j => Ideal.exp (Cert.ReferenceIdeal.Value.score X Wq K b h (at' c q r) j)) c q r).symm

/-! ## The block -/

variable (m : (ℓ : Loc nD τ sig) → Buf (Elt Ideal) ℓ) (ρ : Dev nD → PrngReg)
variable (hx : ∀ (c : Dev nD) b y k, xIn m ρ c (ix3 b y k) = X (ix3 b (row c y) k)) (hwq : ∀ (c : Dev nD) k o, wqIn m ρ c (ix2 k o) = Wq (ix2 k o))
  (hk : ∀ (c : Dev nD) b y h e, kIn m ρ c (ix4 b y h e) = K (ix4 b (row c y) h e)) (hv : ∀ (c : Dev nD) b y h e, vIn m ρ c (ix4 b y h e) = V (ix4 b (row c y) h e))
  (hwo : ∀ (c : Dev nD) o n, woIn m ρ c (ix2 o n) = Wo (ix2 o n))

/-- Head `h` of the tile of batch row `b` and half `q` on device `c`; -/
abbrev headOn (c : Dev nD) (b q : Fin 2) (h : Fin 4) : FVec Ideal S64x64 .f32 :=
  head b q h (kIn m ρ c) (vIn m ρ c) (xRow m ρ c b) (wqIn m ρ c)
    (got m ρ c (nearP (place c)) false) (got m ρ c (midP (place c)) false) (got m ρ c (nearP (place c)) true) (got m ρ c (midP (place c)) true)
    (got m ρ c (farP (place c)) false) (got m ρ c (farP (place c)) true)
/-- the four heads. -/
abbrev headsOn (c : Dev nD) (b q : Fin 2) : FVec Ideal S64x256 .f32 :=
  heads b q (kIn m ρ c) (vIn m ρ c) (xRow m ρ c b) (wqIn m ρ c)
    (got m ρ c (nearP (place c)) false) (got m ρ c (midP (place c)) false) (got m ρ c (nearP (place c)) true) (got m ρ c (midP (place c)) true)
    (got m ρ c (farP (place c)) false) (got m ρ c (farP (place c)) true)

include hX hW hK hx hwq hk hv in
theorem headOn_mean (c : Dev nD) (b q : Fin 2) (h : Fin 4) (r e : Fin 64) :
    headOn m ρ c b q h (ix2 r e) = mean X Wq K V b h (at' c q r) e := by
  unfold headOn head
  refine attend_mean (c := c) hX hW hK ?_ ?_ ?_ ?_ ?_ ?_ ?_ ?_ ?_ r e
  · intro r e
    rw [query_at]
    refine Finset.sum_congr rfl fun k _ => ?_
    rw [xRow_at, hx, hwq]
    rfl
  · intro r e; rw [ownK_at, hk]; rfl
  · intro r e; rw [ownV_at, hv]; rfl
  · intro r e; exact (gotK_at _ b h q r e).trans (hk _ _ _ _ _)
  · intro r e; exact (gotV_at _ b h q r e).trans (hv _ _ _ _ _)
  · intro r e; exact (gotK_at _ b h q r e).trans (hk _ _ _ _ _)
  · intro r e; exact (gotV_at _ b h q r e).trans (hv _ _ _ _ _)
  · intro r e; exact (gotK_at _ b h q r e).trans (hk _ _ _ _ _)
  · intro r e; exact (gotV_at _ b h q r e).trans (hv _ _ _ _ _)

include hX hW hK hx hwq hk hv in
theorem headsOn_mean (c : Dev nD) (b q : Fin 2) (r : Fin 64) (o : Fin 256) :
    headsOn m ρ c b q (ix2 r o) = mean X Wq K V b ⟨o.val / 64, by have := o.isLt; omega⟩ (at' c q r) ⟨o.val % 64, by omega⟩ := by
  have ho : o = inHead ⟨o.val / 64, by have := o.isLt; omega⟩ ⟨o.val % 64, by omega⟩ := Fin.ext (by show o.val = o.val / 64 * 64 + o.val % 64; omega)
  conv_lhs => rw [ho]
  exact (heads_at ..).trans (headOn_mean hX hW hK m ρ hx hwq hk hv c b q _ r _)

theorem slice_lo (P : FVec Ideal S256x512 .f32) (y : Fin 128) (n : Fin 512) :
    shapeCast S1x128x512 (extractStridedSlice S128x512 ![0, 0] P slices_S256x512_o0_0_S128x512) shapeCasts_S128x512_S1x128x512 (ix3 0 y n)
      = P (ix2 ⟨y.val, by omega⟩ n) := by
  pointwise

theorem slice_hi (P : FVec Ideal S256x512 .f32) (y : Fin 128) (n : Fin 512) :
    shapeCast S1x128x512 (extractStridedSlice S128x512 ![128, 0] P slices_S256x512_o128_0_S128x512) shapeCasts_S128x512_S1x128x512 (ix3 0 y n)
      = P (ix2 ⟨128 + y.val, by omega⟩ n) := by
  pointwise

theorem outAt_proj (c : Dev nD) (b q : Fin 2) (r : Fin 64) (n : Fin 512) :
    outAt m ρ c (ix3 b (inHalf q r) n) = ∑ o : Fin 256, headsOn m ρ c b q (ix2 r o) * woIn m ρ c (ix2 o n) := by
  have hP := fun b q => proj_at (headsOn m ρ c) (woIn m ρ c) b q r n
  have b2 : ∀ b : Fin 2, b = 0 ∨ b = 1 := by decide
  rw [← hP]
  unfold outAt
  rcases b2 b with rfl | rfl
  · rw [outC_lo]
    unfold loAt
    rw [outLo_eq, slice_lo]
    refine congrArg (fun i => proj _ _ _ _ _ (ix2 i n)) (Fin.ext ?_)
    show 64 * q.val + r.val = 128 * 0 + (64 * q.val + r.val)
    omega
  · rw [outC_hi]
    unfold hiAt
    rw [outHi_eq, slice_hi]
    refine congrArg (fun i => proj _ _ _ _ _ (ix2 i n)) (Fin.ext ?_)
    show 128 + (64 * q.val + r.val) = 128 * 1 + (64 * q.val + r.val)
    omega

include hX hW hK hx hwq hk hv hwo in
/-- What a device stores is the reference's result at the device's positions. -/
theorem outAt_ref (c : Dev nD) (b : Fin 2) (y : Fin 128) (n : Fin 512) :
    outAt m ρ c (ix3 b y n) = refOut X Wq K V Wo (ix3 b (row c y) n) := by
  obtain ⟨q, r, rfl⟩ : ∃ q r, y = inHalf q r :=
    ⟨⟨y.val / 64, by omega⟩, ⟨y.val % 64, by omega⟩, Fin.ext (by show y.val = 64 * (y.val / 64) + y.val % 64; omega)⟩
  have e : (∑ o : Fin 256, headsOn m ρ c b q (ix2 r o) * (show EReal from woIn m ρ c (ix2 o n)))
      = ∑ o : Fin 256, mean X Wq K V b ⟨o.val / 64, by have := o.isLt; omega⟩ (at' c q r) ⟨o.val % 64, by omega⟩ * Wo (ix2 o n) :=
    Finset.sum_congr rfl fun o _ => by
      rw [headsOn_mean hX hW hK m ρ hx hwq hk hv, hwo]
  exact (outAt_proj m ρ c b q r n).trans (e.trans (refOut_at hX hW hK b (row c (inHalf q r)) n).symm)

end Cert.KernelIdeal.Run

end
-- ==== Proof.Algebraic.lean ====
/-
# The value claim

Both programs run, and each device's result is its block of the reference's. Finite activations, query weights and keys are
real numbers; `outAt_ref` does the rest.
-/
module

public import proofs.«01_k».proof.Proof.Joined
public import proofs.«01_k».proof.Proof.Frames
public import Idealize.ShloMosaic.Lib.LayoutAt

@[expose] public section

set_option maxRecDepth 16384

noncomputable section

namespace Cert.Proof

open Idealize.ShloMosaic Idealize.ShloMosaic.TcCoe Idealize.SL.Sem
open Cert.KernelIdeal.Run (outAt finalA row xIn_eq wqIn_eq kIn_eq vIn_eq woIn_eq outAt_ref)

theorem factsPreKernel : Cert.Pre_finite_KernelIdeal.Facts := ⟨by decide, by decide, by decide⟩
theorem factsPreReference : Cert.Pre_finite_ReferenceIdeal.Facts := ⟨by decide, by decide, by decide⟩

attribute [local instance] factsPreKernel

/-- A number whose absolute value compares below infinity is real. -/
theorem real_of_pre {z : EReal} (e : FloatOps.cmpf (F := Ideal) (φ := .f32) .olt (FloatOps.absf (F := Ideal) (φ := .f32) z) (Ideal.ofBits .f32 0x7F800000#32) = 1#1) : Cert.Soft.Real' z := by
  refine Cert.Soft.real_of_abs_lt ?_
  rw [Cert.Soft.top_pattern] at e
  by_contra hn
  have e0 : FloatOps.cmpf (F := Ideal) (φ := .f32) .olt (FloatOps.absf (F := Ideal) (φ := .f32) z) ⊤ = 0#1 := by
    show Ideal.cmp .olt (max z (-z)) ⊤ = 0#1
    simp [Ideal.cmp, hn]
  rw [e0] at e
  exact absurd e (by decide)

/-! ## The precondition, element by element -/

theorem pre_x (x : FVec Ideal ⟨3, ![2, 128, 512]⟩ .f32) (wq : FVec Ideal ⟨2, ![512, 256]⟩ .f32) (k v : FVec Ideal ⟨4, ![2, 128, 4, 64]⟩ .f32) (wo : FVec Ideal ⟨2, ![256, 512]⟩ .f32)
    (h : (Cert.Pre_finite_KernelIdeal.fn x wq k v wo).1 = fun _ => 1#1) (b : Fin 2) (y : Fin 128) (z : Fin 512) : Cert.Soft.Real' (x (ix3 b y z)) := by
  have e := congrFun h (ix3 b y z)
  revert e
  pointwise [Cert.Pre_finite_KernelIdeal.fn]
  exact real_of_pre

theorem pre_wq (x : FVec Ideal ⟨3, ![2, 128, 512]⟩ .f32) (wq : FVec Ideal ⟨2, ![512, 256]⟩ .f32) (k v : FVec Ideal ⟨4, ![2, 128, 4, 64]⟩ .f32) (wo : FVec Ideal ⟨2, ![256, 512]⟩ .f32)
    (h : (Cert.Pre_finite_KernelIdeal.fn x wq k v wo).2.1 = fun _ => 1#1) (z : Fin 512) (o : Fin 256) : Cert.Soft.Real' (wq (ix2 z o)) := by
  have e := congrFun h (ix2 z o)
  revert e
  pointwise [Cert.Pre_finite_KernelIdeal.fn]
  exact real_of_pre

theorem pre_k (x : FVec Ideal ⟨3, ![2, 128, 512]⟩ .f32) (wq : FVec Ideal ⟨2, ![512, 256]⟩ .f32) (k v : FVec Ideal ⟨4, ![2, 128, 4, 64]⟩ .f32) (wo : FVec Ideal ⟨2, ![256, 512]⟩ .f32)
    (h : (Cert.Pre_finite_KernelIdeal.fn x wq k v wo).2.2 = fun _ => 1#1) (b : Fin 2) (y : Fin 128) (g : Fin 4) (e : Fin 64) : Cert.Soft.Real' (k (ix4 b y g e)) := by
  have e := congrFun h (ix4 b y g e)
  revert e
  pointwise [Cert.Pre_finite_KernelIdeal.fn]
  exact real_of_pre

/-! ## Blocks read at an index -/

theorem block3 (v : FVec Ideal ⟨3, ![2, 1024, 512]⟩ .f32) (c : Fin 8) (b : Fin 2) (y : Fin 128) (k : Fin 512) :
    (Layout.block ⟨3, ![2, 128, 512]⟩ ⟨3, ![2, 1024, 512]⟩ 1 8 c v) (ix3 b y k) = v (ix3 b (row c y) k) := by
  rw [Layout.block_apply]
  refine congrArg v (funext fun a => Fin.ext ?_)
  fin_cases a
  · rfl
  · show c.val * 128 + y.val = 128 * c.val + y.val
    omega
  · rfl

theorem block4 (v : FVec Ideal ⟨4, ![2, 1024, 4, 64]⟩ .f32) (c : Fin 8) (b : Fin 2) (y : Fin 128) (h : Fin 4) (e : Fin 64) :
    (Layout.block ⟨4, ![2, 128, 4, 64]⟩ ⟨4, ![2, 1024, 4, 64]⟩ 1 8 c v) (ix4 b y h e) = v (ix4 b (row c y) h e) := by
  rw [Layout.block_apply]
  refine congrArg v (funext fun a => Fin.ext ?_)
  fin_cases a
  · rfl
  · show c.val * 128 + y.val = 128 * c.val + y.val
    omega
  · rfl
  · rfl

theorem row_split (i : Fin 1024) : ∃ c y, i = row c y :=
  ⟨⟨i.val / 128, by omega⟩, ⟨i.val % 128, by omega⟩, Fin.ext (by show i.val = 128 * (i.val / 128) + i.val % 128; omega)⟩

/-! ## The claim -/

/-- The result array of device `c` ends at what the device stored. -/
theorem finalA_out (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) : finalA m ρ c (5 : Fin 6) = outAt m ρ c := by
  have hr : (Cert.KernelIdeal.win0_5.blk (0 : Fin 1)).view.read (Elt Ideal) (finalA m ρ c (5 : Fin 6)) = outAt m ρ c := by
    unfold finalA
    rw [show Cert.KernelIdeal.cfg0.N = ((0 : Fin 1) : Fin Cert.KernelIdeal.cfg0.N).val + 1 from rfl, (Cert.KernelIdeal.Run.dats m ρ 0 c).arrAt_succ (5 : Fin 6) (0 : Fin 1)]
    rw [show (Cert.KernelIdeal.cfg0.win (5 : Fin 6)).flush (0 : Fin 1) = true from by decide, if_pos rfl]
    exact View.read_write_univ _ _
  have hz : (fun a => (Cert.KernelIdeal.win0_5.index (0 : Fin 1)) a * Cert.KernelIdeal.main_v1.ty.shape.size a) = fun _ => 0 := funext fun a => by fin_cases a <;> decide
  exact (Memref.read_access_unit_zero (Elt Ideal) Cert.KernelIdeal.main_v1 hz (fun a => by fin_cases a <;> decide) _).symm.trans hr

section Block

variable (m : (ℓ : Loc Cert.KernelIdeal.nD Cert.KernelIdeal.τ Cert.KernelIdeal.sig) → Buf (Elt Ideal) ℓ) (ρ : Dev Cert.KernelIdeal.nD → PrngReg)
  {X : FVec Ideal ⟨3, ![2, 1024, 512]⟩ .f32} {Wq : FVec Ideal ⟨2, ![512, 256]⟩ .f32} {K V : FVec Ideal ⟨4, ![2, 1024, 4, 64]⟩ .f32} {Wo : FVec Ideal ⟨2, ![256, 512]⟩ .f32}

/-- A device's result is its block of the reference's. -/
theorem block_out (hpre : Cert.Pre_KernelIdeal_finite_KernelIdeal m)
    (hx : ∀ c : Dev Cert.KernelIdeal.nD, m ((c.tc : Thread Cert.KernelIdeal.nD Cert.KernelIdeal.τ).loc Cert.KernelIdeal.main_arg0) = (Layout.block ⟨3, ![2, 128, 512]⟩ ⟨3, ![2, 1024, 512]⟩ 1 8 c X))
    (hwq : ∀ c : Dev Cert.KernelIdeal.nD, m ((c.tc : Thread Cert.KernelIdeal.nD Cert.KernelIdeal.τ).loc Cert.KernelIdeal.main_arg1) = Wq)
    (hk : ∀ c : Dev Cert.KernelIdeal.nD, m ((c.tc : Thread Cert.KernelIdeal.nD Cert.KernelIdeal.τ).loc Cert.KernelIdeal.main_arg2) = (Layout.block ⟨4, ![2, 128, 4, 64]⟩ ⟨4, ![2, 1024, 4, 64]⟩ 1 8 c K))
    (hv : ∀ c : Dev Cert.KernelIdeal.nD, m ((c.tc : Thread Cert.KernelIdeal.nD Cert.KernelIdeal.τ).loc Cert.KernelIdeal.main_arg3) = (Layout.block ⟨4, ![2, 128, 4, 64]⟩ ⟨4, ![2, 1024, 4, 64]⟩ 1 8 c V))
    (hwo : ∀ c : Dev Cert.KernelIdeal.nD, m ((c.tc : Thread Cert.KernelIdeal.nD Cert.KernelIdeal.τ).loc Cert.KernelIdeal.main_arg4) = Wo)
    (c : Dev Cert.KernelIdeal.nD) :
    outAt m ρ c = (Layout.block ⟨3, ![2, 128, 512]⟩ ⟨3, ![2, 1024, 512]⟩ 1 8 c (Cert.ReferenceIdeal.Value.refOut X Wq K V Wo)) := by
  have hX : ∀ b i k, Cert.Soft.Real' (X (ix3 b i k)) := by
    intro b i k
    obtain ⟨d, y, rfl⟩ := row_split i
    have h := pre_x _ _ _ _ _ (hpre d).1 b y k
    rw [hx d, block3] at h
    exact h
  have hW : ∀ k o, Cert.Soft.Real' (Wq (ix2 k o)) := by
    intro k o
    have h := pre_wq _ _ _ _ _ (hpre 0).2.1 k o
    rw [hwq 0] at h
    exact h
  have hK : ∀ b j h e, Cert.Soft.Real' (K (ix4 b j h e)) := by
    intro b j g e
    obtain ⟨d, y, rfl⟩ := row_split j
    have h := pre_k _ _ _ _ _ (hpre d).2.2 b y g e
    rw [hk d, block4] at h
    exact h
  funext i
  obtain ⟨b, y, n, rfl⟩ : ∃ (b : Fin 2) (y : Fin 128) (n : Fin 512), i = ix3 b y n := ⟨i 0, i 1, i 2, eq_ix3 i⟩
  refine (outAt_ref (Wo := Wo) (V := V) hX hW hK m ρ ?_ ?_ ?_ ?_ ?_ c b y n).trans (block3 _ c b y n).symm
  · intro c b y k
    rw [xIn_eq, hx c]
    exact block3 X c b y k
  · intro c k o
    rw [wqIn_eq, hwq c]
  · intro c b y h e
    rw [kIn_eq, hk c]
    exact block4 K c b y h e
  · intro c b y h e
    rw [vIn_eq, hv c]
    exact block4 V c b y h e
  · intro c o n
    rw [woIn_eq, hwo c]

end Block

theorem algebraic : Cert.algebraic_KernelIdeal_ReferenceIdeal_pre_finite_KernelIdeal := by
  intro m ρ m' ρ' hpre hagree
  have hx := fun c => (hagree c).1
  have hwq := fun c => (hagree c).2.1
  have hk := fun c => (hagree c).2.2.1
  have hv := fun c => (hagree c).2.2.2.1
  have hwo := fun c => (hagree c).2.2.2.2
  refine ⟨Cert.ReferenceIdeal.Value.res_main_v39 m' 0, ?_, ?_⟩
  · refine (θ_run Cert.KernelIdeal.defs _ _).mono (fun _ h c =>
      ⟨(h.1 c 5).trans ?_, (h.1 c 0).trans (Cert.KernelIdeal.Run.finalA_x m ρ c), (h.1 c 1).trans (Cert.KernelIdeal.Run.finalA_wq m ρ c),
        (h.1 c 2).trans (Cert.KernelIdeal.Run.finalA_k m ρ c), (h.1 c 3).trans (Cert.KernelIdeal.Run.finalA_v m ρ c),
        (h.1 c 4).trans (Cert.KernelIdeal.Run.finalA_wo m ρ c)⟩) (Cert.KernelIdeal.Run.run_main (F := Ideal) m ρ)
    refine (finalA_out m ρ c).trans ?_
    rw [Cert.ReferenceIdeal.Value.res_eq]
    exact block_out m ρ hpre hx hwq hk hv hwo c
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, factsPreKernel, factsPreReference,
  frame_kernel, frame_kernelIdeal, fun m ρ _ => frame_kernelIdeal m ρ trivial, frame_referenceIdeal, fun m ρ _ => frame_referenceIdeal m ρ trivial,
  trivial, algebraic⟩

end Cert.Proof

end
